-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_finite : Cert.Pre_sorted_finite.Facts),
    quiescent_Kernel (hKernel := hKernel)
    ∧ quiescent_KernelIdeal (hKernelIdeal := hKernelIdeal)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_sorted_finite.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S319999 : Shape := ⟨1, ![319999]⟩
abbrev S_ : Shape := ⟨0, ![]⟩

class Facts : Prop where
  slices_S320000_S319999_0 : S320000.Slices ![0] S319999
  slices_S320000_S319999_1 : S320000.Slices ![1] S319999
  reducesTo_S319999_S_d0 : S319999.ReducesTo [0] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) (main_c_4 : IVec S_ 1) : IVec S_ 1 :=
  let main_v17 : IVec S_ 1 := (fun x v => Host.reduce IntOp.andi x v reducesTo_S1_S_d0 h_S_) main_v16 main_c_4
  let main_v18 : IVec S_ 1 := andi main_v13 main_v17
  main_v18

def fn {F : FTy → Type} [FloatOps F] (main_arg0 : FVec F S320000x128 .f32) (main_arg1 : IVec S320000 32) (main_arg2 : FVec F S128x1 .f32) (main_arg3 : FVec F S1 .f32) : IVec S_ 1 :=
  let main_v0 : IVec S319999 32 := (extractStridedSlice S319999 ![0] · slices_S320000_S319999_0) main_arg1
  let main_v1 : IVec S319999 32 := (extractStridedSlice S319999 ![1] · slices_S320000_S319999_1) main_arg1
  let main_v2 : IVec S319999 1 := cmpi .sle main_v0 main_v1
  let main_c : IVec S_ 1 := constantI S_ 1 1#1
  let main_v3 : IVec S_ 1 := (fun x v => Host.reduce IntOp.andi x v reducesTo_S319999_S_d0 h_S_) main_v2 main_c
  let main_v4 : FVec F S320000x128 .f32 := Host.absf main_arg0
  let main_cst : FVec F S_ .f32 := constant S_ .f32 0x7F800000#32
  let main_v5 : FVec F S320000x128 .f32 := broadcastInDim S320000x128 ![] bcast_S_S320000x128 main_cst
  let main_v6 : IVec S320000x128 1 := cmpf .olt main_v4 main_v5
  let main_c_0 : IVec S_ 1 := constantI S_ 1 1#1
  let main_v7 : IVec S_ 1 := (fun x v => Host.reduce IntOp.andi x v reducesTo_S320000x128_S_d0_1 h_S_) main_v6 main_c_0
  let main_v8 : IVec S_ 1 := andi main_v3 main_v7
  let main_v9 : FVec F S128x1 .f32 := Host.absf main_arg2
  let main_cst_1 : FVec F S_ .f32 := constant S_ .f32 0x7F800000#32
  let main_v10 : FVec F S128x1 .f32 := broadcastInDim S128x1 ![] bcast_S_S128x1 main_cst_1
  let main_v11 : IVec S128x1 1 := cmpf .olt main_v9 main_v10
  let main_c_2 : IVec S_ 1 := constantI S_ 1 1#1
  let main_v12 : IVec S_ 1 := (fun x v => Host.reduce IntOp.andi x v reducesTo_S128x1_S_d0_1 h_S_) main_v11 main_c_2
  let main_v13 : IVec S_ 1 := andi main_v8 main_v12
  let main_v14 : FVec F S1 .f32 := Host.absf main_arg3
  let main_cst_3 : FVec F S_ .f32 := constant S_ .f32 0x7F800000#32
  let main_v15 : FVec F S1 .f32 := broadcastInDim S1 ![] bcast_S_S1 main_cst_3
  let main_v16 : IVec S1 1 := cmpf .olt main_v14 main_v15
  let main_c_4 : IVec S_ 1 := constantI S_ 1 1#1
  fn_part1 (F := F) main_v13 main_v16 main_c_4
-- ==== Kernel.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S40960000 : Shape := ⟨1, ![40960000]⟩
abbrev S128 : Shape := ⟨1, ![128]⟩
abbrev S16 : Shape := ⟨1, ![16]⟩
abbrev S256x256 : Shape := ⟨2, ![256, 256]⟩
abbrev S65536 : Shape := ⟨1, ![65536]⟩
abbrev S32 : Shape := ⟨1, ![32]⟩
abbrev S8x256 : Shape := ⟨2, ![8, 256]⟩
abbrev S_ : Shape := ⟨0, ![]⟩
abbrev S1x16 : Shape := ⟨2, ![1, 16]⟩
abbrev S16384 : Shape := ⟨1, ![16384]⟩

abbrev nBuf : Table → Nat
  | .hbm => 8
  | .local .scVector .vmem => 8
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S128x1, .f32⟩
  | .hbm, ⟨3, _⟩ => ⟨S1, .f32⟩
  | .hbm, ⟨4, _⟩ => ⟨S40960000, .f32⟩
  | .hbm, ⟨5, _⟩ => ⟨S128, .f32⟩
  | .hbm, ⟨6, _⟩ => ⟨S16, .f32⟩
  | .hbm, ⟨7, _⟩ => ⟨S256x256, .f32⟩
  | .local .scVector .vmem, ⟨0, _⟩ => ⟨S65536, .f32⟩
  | .local .scVector .vmem, ⟨1, _⟩ => ⟨S128, .f32⟩
  | .local .scVector .vmem, ⟨2, _⟩ => ⟨S16, .f32⟩
  | .local .scVector .vmem, ⟨3, _⟩ => ⟨S32, .i32⟩
  | .local .scVector .vmem, ⟨4, _⟩ => ⟨S16, .i32⟩
  | .local .scVector .vmem, ⟨5, _⟩ => ⟨S16, .i32⟩
  | .local .scVector .vmem, ⟨6, _⟩ => ⟨S16, .f32⟩
  | .local .scVector .vmem, ⟨7, _⟩ => ⟨S8x256, .f32⟩
  | _, _ => ⟨S320000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c19_i32 : BitVec 32 := 19#32
  let v26 : BitVec 32 := Scalar.addi c0_i32_1 c19_i32
  let c1_i32 : BitVec 32 := 1#32
  ⟨c0_i32_1, v26, c1_i32⟩
def k0_off1 (v37 : BitVec 32) : Fin 1 → Nat :=
  let c0_i32_275 : BitVec 32 := 0#32
  let v607 : BitVec 32 := Scalar.addi v37 c0_i32_275
  let c319872_i32 : BitVec 32 := 319872#32
  let v608 : BitVec 32 := Scalar.minsi v607 c319872_i32
  let c128_i32_276 : BitVec 32 := 128#32
  let v609 : BitVec 32 := Scalar.muli v608 c128_i32_276
  ![v609.toNat]
def k0_cond1 (v37 : BitVec 32) (v41 : BitVec 32) : BitVec 1 :=
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c0_i32_256 : BitVec 32 := 0#32
  let v575 : BitVec 1 := Scalar.cmpi .sgt v60 c0_i32_256
  let v576 : BitVec 32 := Scalar.extui v575
  let c0_i32_257 : BitVec 32 := 0#32
  let v577 : BitVec 1 := Scalar.cmpi .ne v576 c0_i32_257
  v577

def k0_off2 (v37 : BitVec 32) : Fin 1 → Nat :=
  let c128_i32_275 : BitVec 32 := 128#32
  let v607 : BitVec 32 := Scalar.addi v37 c128_i32_275
  let c319872_i32 : BitVec 32 := 319872#32
  let v608 : BitVec 32 := Scalar.minsi v607 c319872_i32
  let c128_i32_276 : BitVec 32 := 128#32
  let v609 : BitVec 32 := Scalar.muli v608 c128_i32_276
  ![v609.toNat]
def k0_cond2 (v37 : BitVec 32) (v41 : BitVec 32) : BitVec 1 :=
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c1_i32_258 : BitVec 32 := 1#32
  let v578 : BitVec 1 := Scalar.cmpi .sgt v60 c1_i32_258
  let v579 : BitVec 32 := Scalar.extui v578
  let c0_i32_259 : BitVec 32 := 0#32
  let v580 : BitVec 1 := Scalar.cmpi .ne v579 c0_i32_259
  v580

def k0_off3 (v37 : BitVec 32) : Fin 1 → Nat :=
  let c256_i32 : BitVec 32 := 256#32
  let v607 : BitVec 32 := Scalar.addi v37 c256_i32
  let c319872_i32 : BitVec 32 := 319872#32
  let v608 : BitVec 32 := Scalar.minsi v607 c319872_i32
  let c128_i32_275 : BitVec 32 := 128#32
  let v609 : BitVec 32 := Scalar.muli v608 c128_i32_275
  ![v609.toNat]
def k0_cond3 (v37 : BitVec 32) (v41 : BitVec 32) : BitVec 1 :=
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c2_i32_260 : BitVec 32 := 2#32
  let v581 : BitVec 1 := Scalar.cmpi .sgt v60 c2_i32_260
  let v582 : BitVec 32 := Scalar.extui v581
  let c0_i32_261 : BitVec 32 := 0#32
  let v583 : BitVec 1 := Scalar.cmpi .ne v582 c0_i32_261
  v583

@[reducible] def k0_t2_loop (v37 : BitVec 32) (v41 : BitVec 32) : Scf.Loop 32 :=
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_273 : BitVec 32 := 1#32
  ⟨c0_i32_271, v606, c1_i32_273⟩
def k0_off4 (v37 : BitVec 32) (v41 : BitVec 32) (k0_t2 : Fin (k0_t2_loop v37 v41).trips) : Fin 1 → Nat :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c0_i32_276 : BitVec 32 := 0#32
  let v608 : BitVec 32 := Scalar.addi v607 c0_i32_276
  let c3_i32_277 : BitVec 32 := 3#32
  let v609 : BitVec 32 := Scalar.addi v608 c3_i32_277
  let c128_i32_323 : BitVec 32 := 128#32
  let v664 : BitVec 32 := Scalar.muli v609 c128_i32_323
  let v665 : BitVec 32 := Scalar.addi v37 v664
  let c319872_i32_324 : BitVec 32 := 319872#32
  let v666 : BitVec 32 := Scalar.minsi v665 c319872_i32_324
  let c128_i32_325 : BitVec 32 := 128#32
  let v667 : BitVec 32 := Scalar.muli v666 c128_i32_325
  ![v667.toNat]
def k0_cond4 (v37 : BitVec 32) (v41 : BitVec 32) (k0_t2 : Fin (k0_t2_loop v37 v41).trips) : BitVec 1 :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c0_i32_276 : BitVec 32 := 0#32
  let v608 : BitVec 32 := Scalar.addi v607 c0_i32_276
  let c3_i32_277 : BitVec 32 := 3#32
  let v609 : BitVec 32 := Scalar.addi v608 c3_i32_277
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let v610 : BitVec 1 := Scalar.cmpi .slt v609 v60
  let v611 : BitVec 32 := Scalar.extui v610
  let c0_i32_278 : BitVec 32 := 0#32
  let v612 : BitVec 1 := Scalar.cmpi .ne v611 c0_i32_278
  v612

@[reducible] def k0_t3_loop : Scf.Loop 32 :=
  let c0_i32_283 : BitVec 32 := 0#32
  let c8_i32_284 : BitVec 32 := 8#32
  let v621 : BitVec 32 := Scalar.addi c0_i32_283 c8_i32_284
  let c1_i32_285 : BitVec 32 := 1#32
  ⟨c0_i32_283, v621, c1_i32_285⟩
def k0_off5 (k0_t3 : Fin k0_t3_loop.trips) : Fin 1 → Nat :=
  let c0_i32_283 : BitVec 32 := 0#32
  let c1_i32_285 : BitVec 32 := 1#32
  let arg21 : BitVec 32 := Scf.iv c0_i32_283 c1_i32_285 k0_t3
  let v664 : Index := Scalar.indexCast arg21
  ![v664.toNat]
def k0_off6 (k0_t3 : Fin k0_t3_loop.trips) : Fin 1 → Nat :=
  let c0_i32_283 : BitVec 32 := 0#32
  let c1_i32_285 : BitVec 32 := 1#32
  let arg21 : BitVec 32 := Scf.iv c0_i32_283 c1_i32_285 k0_t3
  let c1_i32_323 : BitVec 32 := 1#32
  let v669 : BitVec 32 := Scalar.addi arg21 c1_i32_323
  let v670 : Index := Scalar.indexCast v669
  ![v670.toNat]
def k0_off7 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v686 : Index := Scalar.indexCast arg21
  let c0_329 : Index := 0#32
  ![v686.toNat, 0]
def k0_off8 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v689 : Index := Scalar.indexCast arg21
  let c16_330 : Index := 16#32
  ![v689.toNat, 16]
def k0_off9 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v692 : Index := Scalar.indexCast arg21
  let c32_331 : Index := 32#32
  ![v692.toNat, 32]
def k0_off10 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v695 : Index := Scalar.indexCast arg21
  let c48_332 : Index := 48#32
  ![v695.toNat, 48]
def k0_off11 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v698 : Index := Scalar.indexCast arg21
  let c64_333 : Index := 64#32
  ![v698.toNat, 64]
def k0_off12 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v701 : Index := Scalar.indexCast arg21
  let c80_334 : Index := 80#32
  ![v701.toNat, 80]
def k0_off13 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v704 : Index := Scalar.indexCast arg21
  let c96_335 : Index := 96#32
  ![v704.toNat, 96]
def k0_off14 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v707 : Index := Scalar.indexCast arg21
  let c112_336 : Index := 112#32
  ![v707.toNat, 112]
def k0_off15 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v710 : Index := Scalar.indexCast arg21
  let c128_337 : Index := 128#32
  ![v710.toNat, 128]
def k0_off16 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v713 : Index := Scalar.indexCast arg21
  let c144_338 : Index := 144#32
  ![v713.toNat, 144]
def k0_off17 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v716 : Index := Scalar.indexCast arg21
  let c160_339 : Index := 160#32
  ![v716.toNat, 160]
def k0_off18 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v719 : Index := Scalar.indexCast arg21
  let c176_340 : Index := 176#32
  ![v719.toNat, 176]
def k0_off19 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v722 : Index := Scalar.indexCast arg21
  let c192_341 : Index := 192#32
  ![v722.toNat, 192]
def k0_off20 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v725 : Index := Scalar.indexCast arg21
  let c208_342 : Index := 208#32
  ![v725.toNat, 208]
def k0_off21 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v728 : Index := Scalar.indexCast arg21
  let c224_343 : Index := 224#32
  ![v728.toNat, 224]
def k0_off22 (k0_t3 : Fin k0_t3_loop.trips) : Fin 2 → Nat :=
  let c0_i32_283 : BitVec 32 := 0#32
  let c1_i32_285 : BitVec 32 := 1#32
  let arg21 : BitVec 32 := Scf.iv c0_i32_283 c1_i32_285 k0_t3
  let v731 : Index := Scalar.indexCast arg21
  let c240_344 : Index := 240#32
  ![v731.toNat, 240]
@[reducible] def k0_t4_loop (v37 : BitVec 32) (v41 : BitVec 32) (k0_t2 : Fin (k0_t2_loop v37 v41).trips) (v668 : BitVec 32) (v674 : BitVec 32) : Scf.Loop 32 :=
  let c0_i32_345 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c128_i32_324 : BitVec 32 := 128#32
  let v676 : BitVec 32 := Scalar.addi v615 c128_i32_324
  let v677 : BitVec 32 := Scalar.minsi v674 v676
  let v675 : BitVec 32 := Scalar.maxsi v668 v615
  let v678 : BitVec 32 := Scalar.subi v677 v675
  let v734 : BitVec 32 := Scalar.subi v678 c0_i32_345
  let c1_i32_346 : BitVec 32 := 1#32
  let v736 : BitVec 32 := Scalar.divsi v734 c1_i32_346
  let v737 : BitVec 32 := Scalar.muli v736 c1_i32_346
  let v738 : BitVec 32 := Scalar.addi c0_i32_345 v737
  let c1_i32_347 : BitVec 32 := 1#32
  ⟨c0_i32_345, v738, c1_i32_347⟩
def k0_cond6 (v37 : BitVec 32) (v41 : BitVec 32) (k0_t2 : Fin (k0_t2_loop v37 v41).trips) (v668 : BitVec 32) (v674 : BitVec 32) : BitVec 1 :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c128_i32_324 : BitVec 32 := 128#32
  let v676 : BitVec 32 := Scalar.addi v615 c128_i32_324
  let v677 : BitVec 32 := Scalar.minsi v674 v676
  let v675 : BitVec 32 := Scalar.maxsi v668 v615
  let v678 : BitVec 32 := Scalar.subi v677 v675
  let c0_i32_327 : BitVec 32 := 0#32
  let v683 : BitVec 1 := Scalar.cmpi .sgt v678 c0_i32_327
  let v684 : BitVec 32 := Scalar.extui v683
  let c0_i32_328 : BitVec 32 := 0#32
  let v685 : BitVec 1 := Scalar.cmpi .ne v684 c0_i32_328
  v685

def k0_off23 (v37 : BitVec 32) (v41 : BitVec 32) (k0_t2 : Fin (k0_t2_loop v37 v41).trips) (v668 : BitVec 32) (v674 : BitVec 32) (k0_t4 : Fin (k0_t4_loop v37 v41 k0_t2 v668 v674).trips) (c0_i32_366 : BitVec 32) : Fin 1 → Nat :=
  let c0_i32_326 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c319872_i32 : BitVec 32 := 319872#32
  let v616 : BitVec 32 := Scalar.minsi v615 c319872_i32
  let v617 : BitVec 32 := Scalar.subi v615 v616
  let v675 : BitVec 32 := Scalar.maxsi v668 v615
  let v679 : BitVec 32 := Scalar.subi v675 v615
  let v680 : BitVec 32 := Scalar.addi v617 v679
  let c128_i32_325 : BitVec 32 := 128#32
  let v681 : BitVec 32 := Scalar.muli v680 c128_i32_325
  let v682 : BitVec 32 := Scalar.addi c0_i32_326 v681
  let c0_i32_345 : BitVec 32 := 0#32
  let c1_i32_347 : BitVec 32 := 1#32
  let arg22 : BitVec 32 := Scf.iv c0_i32_345 c1_i32_347 k0_t4
  let c128_i32_365 : BitVec 32 := 128#32
  let v805 : BitVec 32 := Scalar.muli arg22 c128_i32_365
  let v806 : BitVec 32 := Scalar.addi v682 v805
  let v807 : BitVec 32 := Scalar.addi v806 c0_i32_366
  let v808 : Index := Scalar.indexCast v807
  ![v808.toNat]

def k0_chk3 (v37 : BitVec 32) (v41 : BitVec 32) (k0_t2 : Fin (k0_t2_loop v37 v41).trips) (v668 : BitVec 32) (v674 : BitVec 32) (v855 : IVec S16 32) : Prop :=
  (∀ (k0_h6 : k0_cond6 v37 v41 k0_t2 v668 v674 = 1#1), ∀ a x, ((![v855] : Fin 1 → IVec S16 32) a x).toNat < S16.size a)
theorem k0_idx1_inb : ∀ (v37 : BitVec 32) (v41 : BitVec 32) (k0_t2 : Fin (k0_t2_loop v37 v41).trips) (v668 : BitVec 32) (v674 : BitVec 32) (v855 : IVec S16 32) (k0_hw3 : k0_chk3 v37 v41 k0_t2 v668 v674 v855), ∀ (k0_h6 : k0_cond6 v37 v41 k0_t2 v668 v674 = 1#1), ∀ a x, ((![v855] : Fin 1 → IVec S16 32) a x).toNat < S16.size a := fun v37 v41 k0_t2 v668 v674 v855 k0_hw3 k0_h6 => k0_hw3 k0_h6

def k0_chk4 (v37 : BitVec 32) (v41 : BitVec 32) (k0_t2 : Fin (k0_t2_loop v37 v41).trips) (v668 : BitVec 32) (v674 : BitVec 32) (v862 : IVec S16 32) : Prop :=
  (∀ (k0_h6 : k0_cond6 v37 v41 k0_t2 v668 v674 = 1#1), ∀ a x, ((![v862] : Fin 1 → IVec S16 32) a x).toNat < S16.size a)
theorem k0_idx2_inb : ∀ (v37 : BitVec 32) (v41 : BitVec 32) (k0_t2 : Fin (k0_t2_loop v37 v41).trips) (v668 : BitVec 32) (v674 : BitVec 32) (v862 : IVec S16 32) (k0_hw4 : k0_chk4 v37 v41 k0_t2 v668 v674 v862), ∀ (k0_h6 : k0_cond6 v37 v41 k0_t2 v668 v674 = 1#1), ∀ a x, ((![v862] : Fin 1 → IVec S16 32) a x).toNat < S16.size a := fun v37 v41 k0_t2 v668 v674 v862 k0_hw4 k0_h6 => k0_hw4 k0_h6

def k0_chk5 (v37 : BitVec 32) (v41 : BitVec 32) (k0_t2 : Fin (k0_t2_loop v37 v41).trips) (v668 : BitVec 32) (v674 : BitVec 32) (v869 : IVec S16 32) : Prop :=
  (∀ (k0_h6 : k0_cond6 v37 v41 k0_t2 v668 v674 = 1#1), ∀ a x, ((![v869] : Fin 1 → IVec S16 32) a x).toNat < S16.size a)
theorem k0_idx3_inb : ∀ (v37 : BitVec 32) (v41 : BitVec 32) (k0_t2 : Fin (k0_t2_loop v37 v41).trips) (v668 : BitVec 32) (v674 : BitVec 32) (v869 : IVec S16 32) (k0_hw5 : k0_chk5 v37 v41 k0_t2 v668 v674 v869), ∀ (k0_h6 : k0_cond6 v37 v41 k0_t2 v668 v674 = 1#1), ∀ a x, ((![v869] : Fin 1 → IVec S16 32) a x).toNat < S16.size a := fun v37 v41 k0_t2 v668 v674 v869 k0_hw5 k0_h6 => k0_hw5 k0_h6

def k0_chk6 (v37 : BitVec 32) (v41 : BitVec 32) (k0_t2 : Fin (k0_t2_loop v37 v41).trips) (v668 : BitVec 32) (v674 : BitVec 32) (v876 : IVec S16 32) : Prop :=
  (∀ (k0_h6 : k0_cond6 v37 v41 k0_t2 v668 v674 = 1#1), ∀ a x, ((![v876] : Fin 1 → IVec S16 32) a x).toNat < S16.size a)
theorem k0_idx4_inb : ∀ (v37 : BitVec 32) (v41 : BitVec 32) (k0_t2 : Fin (k0_t2_loop v37 v41).trips) (v668 : BitVec 32) (v674 : BitVec 32) (v876 : IVec S16 32) (k0_hw6 : k0_chk6 v37 v41 k0_t2 v668 v674 v876), ∀ (k0_h6 : k0_cond6 v37 v41 k0_t2 v668 v674 = 1#1), ∀ a x, ((![v876] : Fin 1 → IVec S16 32) a x).toNat < S16.size a := fun v37 v41 k0_t2 v668 v674 v876 k0_hw6 k0_h6 => k0_hw6 k0_h6
@[reducible] def k0_t5_loop (v37 : BitVec 32) (v41 : BitVec 32) (k0_t2 : Fin (k0_t2_loop v37 v41).trips) (v668 : BitVec 32) (v674 : BitVec 32) : Scf.Loop 32 :=
  let c0_i32_345 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c128_i32_324 : BitVec 32 := 128#32
  let v676 : BitVec 32 := Scalar.addi v615 c128_i32_324
  let v677 : BitVec 32 := Scalar.minsi v674 v676
  let v675 : BitVec 32 := Scalar.maxsi v668 v615
  let v678 : BitVec 32 := Scalar.subi v677 v675
  let v734 : BitVec 32 := Scalar.subi v678 c0_i32_345
  let c1_i32_346 : BitVec 32 := 1#32
  let v736 : BitVec 32 := Scalar.divsi v734 c1_i32_346
  let v737 : BitVec 32 := Scalar.muli v736 c1_i32_346
  let v738 : BitVec 32 := Scalar.addi c0_i32_345 v737
  let v735 : BitVec 32 := Scalar.addi c0_i32_345 v734
  let c1_i32_348 : BitVec 32 := 1#32
  ⟨v738, v735, c1_i32_348⟩
def k0_off24 (v37 : BitVec 32) (v41 : BitVec 32) (k0_t2 : Fin (k0_t2_loop v37 v41).trips) (v668 : BitVec 32) (v674 : BitVec 32) (k0_t5 : Fin (k0_t5_loop v37 v41 k0_t2 v668 v674).trips) (c0_i32_366 : BitVec 32) : Fin 1 → Nat :=
  let c0_i32_326 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c319872_i32 : BitVec 32 := 319872#32
  let v616 : BitVec 32 := Scalar.minsi v615 c319872_i32
  let v617 : BitVec 32 := Scalar.subi v615 v616
  let v675 : BitVec 32 := Scalar.maxsi v668 v615
  let v679 : BitVec 32 := Scalar.subi v675 v615
  let v680 : BitVec 32 := Scalar.addi v617 v679
  let c128_i32_325 : BitVec 32 := 128#32
  let v681 : BitVec 32 := Scalar.muli v680 c128_i32_325
  let v682 : BitVec 32 := Scalar.addi c0_i32_326 v681
  let c0_i32_345 : BitVec 32 := 0#32
  let c128_i32_324 : BitVec 32 := 128#32
  let v676 : BitVec 32 := Scalar.addi v615 c128_i32_324
  let v677 : BitVec 32 := Scalar.minsi v674 v676
  let v678 : BitVec 32 := Scalar.subi v677 v675
  let v734 : BitVec 32 := Scalar.subi v678 c0_i32_345
  let c1_i32_346 : BitVec 32 := 1#32
  let v736 : BitVec 32 := Scalar.divsi v734 c1_i32_346
  let v737 : BitVec 32 := Scalar.muli v736 c1_i32_346
  let v738 : BitVec 32 := Scalar.addi c0_i32_345 v737
  let c1_i32_348 : BitVec 32 := 1#32
  let arg22 : BitVec 32 := Scf.iv v738 c1_i32_348 k0_t5
  let c128_i32_365 : BitVec 32 := 128#32
  let v805 : BitVec 32 := Scalar.muli arg22 c128_i32_365
  let v806 : BitVec 32 := Scalar.addi v682 v805
  let v807 : BitVec 32 := Scalar.addi v806 c0_i32_366
  let v808 : Index := Scalar.indexCast v807
  ![v808.toNat]

def k0_chk2 (v37 : BitVec 32) (v41 : BitVec 32) (k0_t2 : Fin (k0_t2_loop v37 v41).trips) (v668 : BitVec 32) (v674 : BitVec 32) : Prop :=
  (∀ (k0_h6 : k0_cond6 v37 v41 k0_t2 v668 v674 = 1#1), (k0_t4_loop v37 v41 k0_t2 v668 v674).OK) ∧
  (∀ k0_t4 : Fin (k0_t4_loop v37 v41 k0_t2 v668 v674).trips, ∀ (k0_h6 : k0_cond6 v37 v41 k0_t2 v668 v674 = 1#1), ∀ (r : Fin 8), ∀ a, (k0_off23 v37 v41 k0_t2 v668 v674 k0_t4 (BitVec.ofNat 32 (16 * r.val))) a + S16.size a ≤ S65536.size a) ∧
  (∀ (k0_h6 : k0_cond6 v37 v41 k0_t2 v668 v674 = 1#1), (k0_t5_loop v37 v41 k0_t2 v668 v674).OK) ∧
  (∀ k0_t5 : Fin (k0_t5_loop v37 v41 k0_t2 v668 v674).trips, ∀ (k0_h6 : k0_cond6 v37 v41 k0_t2 v668 v674 = 1#1), ∀ (r : Fin 8), ∀ a, (k0_off24 v37 v41 k0_t2 v668 v674 k0_t5 (BitVec.ofNat 32 (16 * r.val))) a + S16.size a ≤ S65536.size a)
theorem k0_t4_ok : ∀ (v37 : BitVec 32) (v41 : BitVec 32) (k0_t2 : Fin (k0_t2_loop v37 v41).trips) (v668 : BitVec 32) (v674 : BitVec 32) (k0_hw2 : k0_chk2 v37 v41 k0_t2 v668 v674), ∀ (k0_h6 : k0_cond6 v37 v41 k0_t2 v668 v674 = 1#1), (k0_t4_loop v37 v41 k0_t2 v668 v674).OK := fun v37 v41 k0_t2 v668 v674 k0_hw2 k0_h6 => k0_hw2.1 k0_h6
theorem k0_off23_inb : ∀ (v37 : BitVec 32) (v41 : BitVec 32) (k0_t2 : Fin (k0_t2_loop v37 v41).trips) (v668 : BitVec 32) (v674 : BitVec 32) (k0_hw2 : k0_chk2 v37 v41 k0_t2 v668 v674) (k0_t4 : Fin (k0_t4_loop v37 v41 k0_t2 v668 v674).trips), ∀ (k0_h6 : k0_cond6 v37 v41 k0_t2 v668 v674 = 1#1), ∀ (r : Fin 8), ∀ a, (k0_off23 v37 v41 k0_t2 v668 v674 k0_t4 (BitVec.ofNat 32 (16 * r.val))) a + S16.size a ≤ S65536.size a := fun v37 v41 k0_t2 v668 v674 k0_hw2 k0_t4 k0_h6 r => k0_hw2.2.1 k0_t4 k0_h6 r
theorem k0_t5_ok : ∀ (v37 : BitVec 32) (v41 : BitVec 32) (k0_t2 : Fin (k0_t2_loop v37 v41).trips) (v668 : BitVec 32) (v674 : BitVec 32) (k0_hw2 : k0_chk2 v37 v41 k0_t2 v668 v674), ∀ (k0_h6 : k0_cond6 v37 v41 k0_t2 v668 v674 = 1#1), (k0_t5_loop v37 v41 k0_t2 v668 v674).OK := fun v37 v41 k0_t2 v668 v674 k0_hw2 k0_h6 => k0_hw2.2.2.1 k0_h6
theorem k0_off24_inb : ∀ (v37 : BitVec 32) (v41 : BitVec 32) (k0_t2 : Fin (k0_t2_loop v37 v41).trips) (v668 : BitVec 32) (v674 : BitVec 32) (k0_hw2 : k0_chk2 v37 v41 k0_t2 v668 v674) (k0_t5 : Fin (k0_t5_loop v37 v41 k0_t2 v668 v674).trips), ∀ (k0_h6 : k0_cond6 v37 v41 k0_t2 v668 v674 = 1#1), ∀ (r : Fin 8), ∀ a, (k0_off24 v37 v41 k0_t2 v668 v674 k0_t5 (BitVec.ofNat 32 (16 * r.val))) a + S16.size a ≤ S65536.size a := fun v37 v41 k0_t2 v668 v674 k0_hw2 k0_t5 k0_h6 r => k0_hw2.2.2.2 k0_t5 k0_h6 r

def k0_chk7 (v37 : BitVec 32) (v41 : BitVec 32) (k0_t2 : Fin (k0_t2_loop v37 v41).trips) (v668 : BitVec 32) (v674 : BitVec 32) (v855 : IVec S16 32) : Prop :=
  (∀ (k0_h6 : k0_cond6 v37 v41 k0_t2 v668 v674 = 1#1), ∀ a x, ((![v855] : Fin 1 → IVec S16 32) a x).toNat < S16.size a)
theorem k0_idx5_inb : ∀ (v37 : BitVec 32) (v41 : BitVec 32) (k0_t2 : Fin (k0_t2_loop v37 v41).trips) (v668 : BitVec 32) (v674 : BitVec 32) (v855 : IVec S16 32) (k0_hw7 : k0_chk7 v37 v41 k0_t2 v668 v674 v855), ∀ (k0_h6 : k0_cond6 v37 v41 k0_t2 v668 v674 = 1#1), ∀ a x, ((![v855] : Fin 1 → IVec S16 32) a x).toNat < S16.size a := fun v37 v41 k0_t2 v668 v674 v855 k0_hw7 k0_h6 => k0_hw7 k0_h6

def k0_chk8 (v37 : BitVec 32) (v41 : BitVec 32) (k0_t2 : Fin (k0_t2_loop v37 v41).trips) (v668 : BitVec 32) (v674 : BitVec 32) (v862 : IVec S16 32) : Prop :=
  (∀ (k0_h6 : k0_cond6 v37 v41 k0_t2 v668 v674 = 1#1), ∀ a x, ((![v862] : Fin 1 → IVec S16 32) a x).toNat < S16.size a)
theorem k0_idx6_inb : ∀ (v37 : BitVec 32) (v41 : BitVec 32) (k0_t2 : Fin (k0_t2_loop v37 v41).trips) (v668 : BitVec 32) (v674 : BitVec 32) (v862 : IVec S16 32) (k0_hw8 : k0_chk8 v37 v41 k0_t2 v668 v674 v862), ∀ (k0_h6 : k0_cond6 v37 v41 k0_t2 v668 v674 = 1#1), ∀ a x, ((![v862] : Fin 1 → IVec S16 32) a x).toNat < S16.size a := fun v37 v41 k0_t2 v668 v674 v862 k0_hw8 k0_h6 => k0_hw8 k0_h6

def k0_chk9 (v37 : BitVec 32) (v41 : BitVec 32) (k0_t2 : Fin (k0_t2_loop v37 v41).trips) (v668 : BitVec 32) (v674 : BitVec 32) (v869 : IVec S16 32) : Prop :=
  (∀ (k0_h6 : k0_cond6 v37 v41 k0_t2 v668 v674 = 1#1), ∀ a x, ((![v869] : Fin 1 → IVec S16 32) a x).toNat < S16.size a)
theorem k0_idx7_inb : ∀ (v37 : BitVec 32) (v41 : BitVec 32) (k0_t2 : Fin (k0_t2_loop v37 v41).trips) (v668 : BitVec 32) (v674 : BitVec 32) (v869 : IVec S16 32) (k0_hw9 : k0_chk9 v37 v41 k0_t2 v668 v674 v869), ∀ (k0_h6 : k0_cond6 v37 v41 k0_t2 v668 v674 = 1#1), ∀ a x, ((![v869] : Fin 1 → IVec S16 32) a x).toNat < S16.size a := fun v37 v41 k0_t2 v668 v674 v869 k0_hw9 k0_h6 => k0_hw9 k0_h6

def k0_chk10 (v37 : BitVec 32) (v41 : BitVec 32) (k0_t2 : Fin (k0_t2_loop v37 v41).trips) (v668 : BitVec 32) (v674 : BitVec 32) (v876 : IVec S16 32) : Prop :=
  (∀ (k0_h6 : k0_cond6 v37 v41 k0_t2 v668 v674 = 1#1), ∀ a x, ((![v876] : Fin 1 → IVec S16 32) a x).toNat < S16.size a)
theorem k0_idx8_inb : ∀ (v37 : BitVec 32) (v41 : BitVec 32) (k0_t2 : Fin (k0_t2_loop v37 v41).trips) (v668 : BitVec 32) (v674 : BitVec 32) (v876 : IVec S16 32) (k0_hw10 : k0_chk10 v37 v41 k0_t2 v668 v674 v876), ∀ (k0_h6 : k0_cond6 v37 v41 k0_t2 v668 v674 = 1#1), ∀ a x, ((![v876] : Fin 1 → IVec S16 32) a x).toNat < S16.size a := fun v37 v41 k0_t2 v668 v674 v876 k0_hw10 k0_h6 => k0_hw10 k0_h6
def k0_off25 (v37 : BitVec 32) (v41 : BitVec 32) (k0_t2 : Fin (k0_t2_loop v37 v41).trips) : Fin 1 → Nat :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c1_i32_287 : BitVec 32 := 1#32
  let v622 : BitVec 32 := Scalar.addi v607 c1_i32_287
  let c3_i32_288 : BitVec 32 := 3#32
  let v623 : BitVec 32 := Scalar.addi v622 c3_i32_288
  let c128_i32_323 : BitVec 32 := 128#32
  let v664 : BitVec 32 := Scalar.muli v623 c128_i32_323
  let v665 : BitVec 32 := Scalar.addi v37 v664
  let c319872_i32_324 : BitVec 32 := 319872#32
  let v666 : BitVec 32 := Scalar.minsi v665 c319872_i32_324
  let c128_i32_325 : BitVec 32 := 128#32
  let v667 : BitVec 32 := Scalar.muli v666 c128_i32_325
  ![v667.toNat]
def k0_cond7 (v37 : BitVec 32) (v41 : BitVec 32) (k0_t2 : Fin (k0_t2_loop v37 v41).trips) : BitVec 1 :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c1_i32_287 : BitVec 32 := 1#32
  let v622 : BitVec 32 := Scalar.addi v607 c1_i32_287
  let c3_i32_288 : BitVec 32 := 3#32
  let v623 : BitVec 32 := Scalar.addi v622 c3_i32_288
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let v624 : BitVec 1 := Scalar.cmpi .slt v623 v60
  let v625 : BitVec 32 := Scalar.extui v624
  let c0_i32_289 : BitVec 32 := 0#32
  let v626 : BitVec 1 := Scalar.cmpi .ne v625 c0_i32_289
  v626

@[reducible] def k0_t6_loop : Scf.Loop 32 :=
  let c0_i32_295 : BitVec 32 := 0#32
  let c8_i32_296 : BitVec 32 := 8#32
  let v635 : BitVec 32 := Scalar.addi c0_i32_295 c8_i32_296
  let c1_i32_297 : BitVec 32 := 1#32
  ⟨c0_i32_295, v635, c1_i32_297⟩
def k0_off26 (k0_t6 : Fin k0_t6_loop.trips) : Fin 1 → Nat :=
  let c0_i32_295 : BitVec 32 := 0#32
  let c1_i32_297 : BitVec 32 := 1#32
  let arg21 : BitVec 32 := Scf.iv c0_i32_295 c1_i32_297 k0_t6
  let v664 : Index := Scalar.indexCast arg21
  ![v664.toNat]
def k0_off27 (k0_t6 : Fin k0_t6_loop.trips) : Fin 1 → Nat :=
  let c0_i32_295 : BitVec 32 := 0#32
  let c1_i32_297 : BitVec 32 := 1#32
  let arg21 : BitVec 32 := Scf.iv c0_i32_295 c1_i32_297 k0_t6
  let c1_i32_323 : BitVec 32 := 1#32
  let v669 : BitVec 32 := Scalar.addi arg21 c1_i32_323
  let v670 : Index := Scalar.indexCast v669
  ![v670.toNat]
def k0_off28 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v686 : Index := Scalar.indexCast arg21
  let c0_328 : Index := 0#32
  ![v686.toNat, 0]
def k0_off29 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v689 : Index := Scalar.indexCast arg21
  let c16_329 : Index := 16#32
  ![v689.toNat, 16]
def k0_off30 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v692 : Index := Scalar.indexCast arg21
  let c32_330 : Index := 32#32
  ![v692.toNat, 32]
def k0_off31 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v695 : Index := Scalar.indexCast arg21
  let c48_331 : Index := 48#32
  ![v695.toNat, 48]
def k0_off32 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v698 : Index := Scalar.indexCast arg21
  let c64_332 : Index := 64#32
  ![v698.toNat, 64]
def k0_off33 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v701 : Index := Scalar.indexCast arg21
  let c80_333 : Index := 80#32
  ![v701.toNat, 80]
def k0_off34 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v704 : Index := Scalar.indexCast arg21
  let c96_334 : Index := 96#32
  ![v704.toNat, 96]
def k0_off35 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v707 : Index := Scalar.indexCast arg21
  let c112_335 : Index := 112#32
  ![v707.toNat, 112]
def k0_off36 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v710 : Index := Scalar.indexCast arg21
  let c128_336 : Index := 128#32
  ![v710.toNat, 128]
def k0_off37 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v713 : Index := Scalar.indexCast arg21
  let c144_337 : Index := 144#32
  ![v713.toNat, 144]
def k0_off38 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v716 : Index := Scalar.indexCast arg21
  let c160_338 : Index := 160#32
  ![v716.toNat, 160]
def k0_off39 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v719 : Index := Scalar.indexCast arg21
  let c176_339 : Index := 176#32
  ![v719.toNat, 176]
def k0_off40 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v722 : Index := Scalar.indexCast arg21
  let c192_340 : Index := 192#32
  ![v722.toNat, 192]
def k0_off41 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v725 : Index := Scalar.indexCast arg21
  let c208_341 : Index := 208#32
  ![v725.toNat, 208]
def k0_off42 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v728 : Index := Scalar.indexCast arg21
  let c224_342 : Index := 224#32
  ![v728.toNat, 224]
def k0_off43 (k0_t6 : Fin k0_t6_loop.trips) : Fin 2 → Nat :=
  let c0_i32_295 : BitVec 32 := 0#32
  let c1_i32_297 : BitVec 32 := 1#32
  let arg21 : BitVec 32 := Scf.iv c0_i32_295 c1_i32_297 k0_t6
  let v731 : Index := Scalar.indexCast arg21
  let c240_343 : Index := 240#32
  ![v731.toNat, 240]
@[reducible] def k0_t7_loop (v37 : BitVec 32) (v41 : BitVec 32) (k0_t2 : Fin (k0_t2_loop v37 v41).trips) (v668 : BitVec 32) (v674 : BitVec 32) : Scf.Loop 32 :=
  let c0_i32_344 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c128_i32_324 : BitVec 32 := 128#32
  let v676 : BitVec 32 := Scalar.addi v629 c128_i32_324
  let v677 : BitVec 32 := Scalar.minsi v674 v676
  let v675 : BitVec 32 := Scalar.maxsi v668 v629
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_346 : BitVec 32 := 1#32
  ⟨c0_i32_344, v738, c1_i32_346⟩
def k0_cond9 (v37 : BitVec 32) (v41 : BitVec 32) (k0_t2 : Fin (k0_t2_loop v37 v41).trips) (v668 : BitVec 32) (v674 : BitVec 32) : BitVec 1 :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c128_i32_324 : BitVec 32 := 128#32
  let v676 : BitVec 32 := Scalar.addi v629 c128_i32_324
  let v677 : BitVec 32 := Scalar.minsi v674 v676
  let v675 : BitVec 32 := Scalar.maxsi v668 v629
  let v678 : BitVec 32 := Scalar.subi v677 v675
  let c0_i32_326 : BitVec 32 := 0#32
  let v683 : BitVec 1 := Scalar.cmpi .sgt v678 c0_i32_326
  let v684 : BitVec 32 := Scalar.extui v683
  let c0_i32_327 : BitVec 32 := 0#32
  let v685 : BitVec 1 := Scalar.cmpi .ne v684 c0_i32_327
  v685

def k0_off44 (v37 : BitVec 32) (v41 : BitVec 32) (k0_t2 : Fin (k0_t2_loop v37 v41).trips) (v668 : BitVec 32) (v674 : BitVec 32) (k0_t7 : Fin (k0_t7_loop v37 v41 k0_t2 v668 v674).trips) (c0_i32_365 : BitVec 32) : Fin 1 → Nat :=
  let c16384_i32 : BitVec 32 := 16384#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c319872_i32_292 : BitVec 32 := 319872#32
  let v630 : BitVec 32 := Scalar.minsi v629 c319872_i32_292
  let v631 : BitVec 32 := Scalar.subi v629 v630
  let v675 : BitVec 32 := Scalar.maxsi v668 v629
  let v679 : BitVec 32 := Scalar.subi v675 v629
  let v680 : BitVec 32 := Scalar.addi v631 v679
  let c128_i32_325 : BitVec 32 := 128#32
  let v681 : BitVec 32 := Scalar.muli v680 c128_i32_325
  let v682 : BitVec 32 := Scalar.addi c16384_i32 v681
  let c0_i32_344 : BitVec 32 := 0#32
  let c1_i32_346 : BitVec 32 := 1#32
  let arg22 : BitVec 32 := Scf.iv c0_i32_344 c1_i32_346 k0_t7
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk12 (v37 : BitVec 32) (v41 : BitVec 32) (k0_t2 : Fin (k0_t2_loop v37 v41).trips) (v668 : BitVec 32) (v674 : BitVec 32) (v855 : IVec S16 32) : Prop :=
  (∀ (k0_h9 : k0_cond9 v37 v41 k0_t2 v668 v674 = 1#1), ∀ a x, ((![v855] : Fin 1 → IVec S16 32) a x).toNat < S16.size a)
theorem k0_idx9_inb : ∀ (v37 : BitVec 32) (v41 : BitVec 32) (k0_t2 : Fin (k0_t2_loop v37 v41).trips) (v668 : BitVec 32) (v674 : BitVec 32) (v855 : IVec S16 32) (k0_hw12 : k0_chk12 v37 v41 k0_t2 v668 v674 v855), ∀ (k0_h9 : k0_cond9 v37 v41 k0_t2 v668 v674 = 1#1), ∀ a x, ((![v855] : Fin 1 → IVec S16 32) a x).toNat < S16.size a := fun v37 v41 k0_t2 v668 v674 v855 k0_hw12 k0_h9 => k0_hw12 k0_h9

def k0_chk13 (v37 : BitVec 32) (v41 : BitVec 32) (k0_t2 : Fin (k0_t2_loop v37 v41).trips) (v668 : BitVec 32) (v674 : BitVec 32) (v862 : IVec S16 32) : Prop :=
  (∀ (k0_h9 : k0_cond9 v37 v41 k0_t2 v668 v674 = 1#1), ∀ a x, ((![v862] : Fin 1 → IVec S16 32) a x).toNat < S16.size a)
theorem k0_idx10_inb : ∀ (v37 : BitVec 32) (v41 : BitVec 32) (k0_t2 : Fin (k0_t2_loop v37 v41).trips) (v668 : BitVec 32) (v674 : BitVec 32) (v862 : IVec S16 32) (k0_hw13 : k0_chk13 v37 v41 k0_t2 v668 v674 v862), ∀ (k0_h9 : k0_cond9 v37 v41 k0_t2 v668 v674 = 1#1), ∀ a x, ((![v862] : Fin 1 → IVec S16 32) a x).toNat < S16.size a := fun v37 v41 k0_t2 v668 v674 v862 k0_hw13 k0_h9 => k0_hw13 k0_h9

def k0_chk14 (v37 : BitVec 32) (v41 : BitVec 32) (k0_t2 : Fin (k0_t2_loop v37 v41).trips) (v668 : BitVec 32) (v674 : BitVec 32) (v869 : IVec S16 32) : Prop :=
  (∀ (k0_h9 : k0_cond9 v37 v41 k0_t2 v668 v674 = 1#1), ∀ a x, ((![v869] : Fin 1 → IVec S16 32) a x).toNat < S16.size a)
theorem k0_idx11_inb : ∀ (v37 : BitVec 32) (v41 : BitVec 32) (k0_t2 : Fin (k0_t2_loop v37 v41).trips) (v668 : BitVec 32) (v674 : BitVec 32) (v869 : IVec S16 32) (k0_hw14 : k0_chk14 v37 v41 k0_t2 v668 v674 v869), ∀ (k0_h9 : k0_cond9 v37 v41 k0_t2 v668 v674 = 1#1), ∀ a x, ((![v869] : Fin 1 → IVec S16 32) a x).toNat < S16.size a := fun v37 v41 k0_t2 v668 v674 v869 k0_hw14 k0_h9 => k0_hw14 k0_h9

def k0_chk15 (v37 : BitVec 32) (v41 : BitVec 32) (k0_t2 : Fin (k0_t2_loop v37 v41).trips) (v668 : BitVec 32) (v674 : BitVec 32) (v876 : IVec S16 32) : Prop :=
  (∀ (k0_h9 : k0_cond9 v37 v41 k0_t2 v668 v674 = 1#1), ∀ a x, ((![v876] : Fin 1 → IVec S16 32) a x).toNat < S16.size a)
theorem k0_idx12_inb : ∀ (v37 : BitVec 32) (v41 : BitVec 32) (k0_t2 : Fin (k0_t2_loop v37 v41).trips) (v668 : BitVec 32) (v674 : BitVec 32) (v876 : IVec S16 32) (k0_hw15 : k0_chk15 v37 v41 k0_t2 v668 v674 v876), ∀ (k0_h9 : k0_cond9 v37 v41 k0_t2 v668 v674 = 1#1), ∀ a x, ((![v876] : Fin 1 → IVec S16 32) a x).toNat < S16.size a := fun v37 v41 k0_t2 v668 v674 v876 k0_hw15 k0_h9 => k0_hw15 k0_h9
@[reducible] def k0_t8_loop (v37 : BitVec 32) (v41 : BitVec 32) (k0_t2 : Fin (k0_t2_loop v37 v41).trips) (v668 : BitVec 32) (v674 : BitVec 32) : Scf.Loop 32 :=
  let c0_i32_344 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c128_i32_324 : BitVec 32 := 128#32
  let v676 : BitVec 32 := Scalar.addi v629 c128_i32_324
  let v677 : BitVec 32 := Scalar.minsi v674 v676
  let v675 : BitVec 32 := Scalar.maxsi v668 v629
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let v735 : BitVec 32 := Scalar.addi c0_i32_344 v734
  let c1_i32_347 : BitVec 32 := 1#32
  ⟨v738, v735, c1_i32_347⟩
def k0_off45 (v37 : BitVec 32) (v41 : BitVec 32) (k0_t2 : Fin (k0_t2_loop v37 v41).trips) (v668 : BitVec 32) (v674 : BitVec 32) (k0_t8 : Fin (k0_t8_loop v37 v41 k0_t2 v668 v674).trips) (c0_i32_365 : BitVec 32) : Fin 1 → Nat :=
  let c16384_i32 : BitVec 32 := 16384#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c319872_i32_292 : BitVec 32 := 319872#32
  let v630 : BitVec 32 := Scalar.minsi v629 c319872_i32_292
  let v631 : BitVec 32 := Scalar.subi v629 v630
  let v675 : BitVec 32 := Scalar.maxsi v668 v629
  let v679 : BitVec 32 := Scalar.subi v675 v629
  let v680 : BitVec 32 := Scalar.addi v631 v679
  let c128_i32_325 : BitVec 32 := 128#32
  let v681 : BitVec 32 := Scalar.muli v680 c128_i32_325
  let v682 : BitVec 32 := Scalar.addi c16384_i32 v681
  let c0_i32_344 : BitVec 32 := 0#32
  let c128_i32_324 : BitVec 32 := 128#32
  let v676 : BitVec 32 := Scalar.addi v629 c128_i32_324
  let v677 : BitVec 32 := Scalar.minsi v674 v676
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_347 : BitVec 32 := 1#32
  let arg22 : BitVec 32 := Scf.iv v738 c1_i32_347 k0_t8
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk11 (v37 : BitVec 32) (v41 : BitVec 32) (k0_t2 : Fin (k0_t2_loop v37 v41).trips) (v668 : BitVec 32) (v674 : BitVec 32) : Prop :=
  (∀ (k0_h9 : k0_cond9 v37 v41 k0_t2 v668 v674 = 1#1), (k0_t7_loop v37 v41 k0_t2 v668 v674).OK) ∧
  (∀ k0_t7 : Fin (k0_t7_loop v37 v41 k0_t2 v668 v674).trips, ∀ (k0_h9 : k0_cond9 v37 v41 k0_t2 v668 v674 = 1#1), ∀ (r : Fin 8), ∀ a, (k0_off44 v37 v41 k0_t2 v668 v674 k0_t7 (BitVec.ofNat 32 (16 * r.val))) a + S16.size a ≤ S65536.size a) ∧
  (∀ (k0_h9 : k0_cond9 v37 v41 k0_t2 v668 v674 = 1#1), (k0_t8_loop v37 v41 k0_t2 v668 v674).OK) ∧
  (∀ k0_t8 : Fin (k0_t8_loop v37 v41 k0_t2 v668 v674).trips, ∀ (k0_h9 : k0_cond9 v37 v41 k0_t2 v668 v674 = 1#1), ∀ (r : Fin 8), ∀ a, (k0_off45 v37 v41 k0_t2 v668 v674 k0_t8 (BitVec.ofNat 32 (16 * r.val))) a + S16.size a ≤ S65536.size a)
theorem k0_t7_ok : ∀ (v37 : BitVec 32) (v41 : BitVec 32) (k0_t2 : Fin (k0_t2_loop v37 v41).trips) (v668 : BitVec 32) (v674 : BitVec 32) (k0_hw11 : k0_chk11 v37 v41 k0_t2 v668 v674), ∀ (k0_h9 : k0_cond9 v37 v41 k0_t2 v668 v674 = 1#1), (k0_t7_loop v37 v41 k0_t2 v668 v674).OK := fun v37 v41 k0_t2 v668 v674 k0_hw11 k0_h9 => k0_hw11.1 k0_h9
theorem k0_off44_inb : ∀ (v37 : BitVec 32) (v41 : BitVec 32) (k0_t2 : Fin (k0_t2_loop v37 v41).trips) (v668 : BitVec 32) (v674 : BitVec 32) (k0_hw11 : k0_chk11 v37 v41 k0_t2 v668 v674) (k0_t7 : Fin (k0_t7_loop v37 v41 k0_t2 v668 v674).trips), ∀ (k0_h9 : k0_cond9 v37 v41 k0_t2 v668 v674 = 1#1), ∀ (r : Fin 8), ∀ a, (k0_off44 v37 v41 k0_t2 v668 v674 k0_t7 (BitVec.ofNat 32 (16 * r.val))) a + S16.size a ≤ S65536.size a := fun v37 v41 k0_t2 v668 v674 k0_hw11 k0_t7 k0_h9 r => k0_hw11.2.1 k0_t7 k0_h9 r
theorem k0_t8_ok : ∀ (v37 : BitVec 32) (v41 : BitVec 32) (k0_t2 : Fin (k0_t2_loop v37 v41).trips) (v668 : BitVec 32) (v674 : BitVec 32) (k0_hw11 : k0_chk11 v37 v41 k0_t2 v668 v674), ∀ (k0_h9 : k0_cond9 v37 v41 k0_t2 v668 v674 = 1#1), (k0_t8_loop v37 v41 k0_t2 v668 v674).OK := fun v37 v41 k0_t2 v668 v674 k0_hw11 k0_h9 => k0_hw11.2.2.1 k0_h9
theorem k0_off45_inb : ∀ (v37 : BitVec 32) (v41 : BitVec 32) (k0_t2 : Fin (k0_t2_loop v37 v41).trips) (v668 : BitVec 32) (v674 : BitVec 32) (k0_hw11 : k0_chk11 v37 v41 k0_t2 v668 v674) (k0_t8 : Fin (k0_t8_loop v37 v41 k0_t2 v668 v674).trips), ∀ (k0_h9 : k0_cond9 v37 v41 k0_t2 v668 v674 = 1#1), ∀ (r : Fin 8), ∀ a, (k0_off45 v37 v41 k0_t2 v668 v674 k0_t8 (BitVec.ofNat 32 (16 * r.val))) a + S16.size a ≤ S65536.size a := fun v37 v41 k0_t2 v668 v674 k0_hw11 k0_t8 k0_h9 r => k0_hw11.2.2.2 k0_t8 k0_h9 r

def k0_chk16 (v37 : BitVec 32) (v41 : BitVec 32) (k0_t2 : Fin (k0_t2_loop v37 v41).trips) (v668 : BitVec 32) (v674 : BitVec 32) (v855 : IVec S16 32) : Prop :=
  (∀ (k0_h9 : k0_cond9 v37 v41 k0_t2 v668 v674 = 1#1), ∀ a x, ((![v855] : Fin 1 → IVec S16 32) a x).toNat < S16.size a)
theorem k0_idx13_inb : ∀ (v37 : BitVec 32) (v41 : BitVec 32) (k0_t2 : Fin (k0_t2_loop v37 v41).trips) (v668 : BitVec 32) (v674 : BitVec 32) (v855 : IVec S16 32) (k0_hw16 : k0_chk16 v37 v41 k0_t2 v668 v674 v855), ∀ (k0_h9 : k0_cond9 v37 v41 k0_t2 v668 v674 = 1#1), ∀ a x, ((![v855] : Fin 1 → IVec S16 32) a x).toNat < S16.size a := fun v37 v41 k0_t2 v668 v674 v855 k0_hw16 k0_h9 => k0_hw16 k0_h9

def k0_chk17 (v37 : BitVec 32) (v41 : BitVec 32) (k0_t2 : Fin (k0_t2_loop v37 v41).trips) (v668 : BitVec 32) (v674 : BitVec 32) (v862 : IVec S16 32) : Prop :=
  (∀ (k0_h9 : k0_cond9 v37 v41 k0_t2 v668 v674 = 1#1), ∀ a x, ((![v862] : Fin 1 → IVec S16 32) a x).toNat < S16.size a)
theorem k0_idx14_inb : ∀ (v37 : BitVec 32) (v41 : BitVec 32) (k0_t2 : Fin (k0_t2_loop v37 v41).trips) (v668 : BitVec 32) (v674 : BitVec 32) (v862 : IVec S16 32) (k0_hw17 : k0_chk17 v37 v41 k0_t2 v668 v674 v862), ∀ (k0_h9 : k0_cond9 v37 v41 k0_t2 v668 v674 = 1#1), ∀ a x, ((![v862] : Fin 1 → IVec S16 32) a x).toNat < S16.size a := fun v37 v41 k0_t2 v668 v674 v862 k0_hw17 k0_h9 => k0_hw17 k0_h9

def k0_chk18 (v37 : BitVec 32) (v41 : BitVec 32) (k0_t2 : Fin (k0_t2_loop v37 v41).trips) (v668 : BitVec 32) (v674 : BitVec 32) (v869 : IVec S16 32) : Prop :=
  (∀ (k0_h9 : k0_cond9 v37 v41 k0_t2 v668 v674 = 1#1), ∀ a x, ((![v869] : Fin 1 → IVec S16 32) a x).toNat < S16.size a)
theorem k0_idx15_inb : ∀ (v37 : BitVec 32) (v41 : BitVec 32) (k0_t2 : Fin (k0_t2_loop v37 v41).trips) (v668 : BitVec 32) (v674 : BitVec 32) (v869 : IVec S16 32) (k0_hw18 : k0_chk18 v37 v41 k0_t2 v668 v674 v869), ∀ (k0_h9 : k0_cond9 v37 v41 k0_t2 v668 v674 = 1#1), ∀ a x, ((![v869] : Fin 1 → IVec S16 32) a x).toNat < S16.size a := fun v37 v41 k0_t2 v668 v674 v869 k0_hw18 k0_h9 => k0_hw18 k0_h9

def k0_chk19 (v37 : BitVec 32) (v41 : BitVec 32) (k0_t2 : Fin (k0_t2_loop v37 v41).trips) (v668 : BitVec 32) (v674 : BitVec 32) (v876 : IVec S16 32) : Prop :=
  (∀ (k0_h9 : k0_cond9 v37 v41 k0_t2 v668 v674 = 1#1), ∀ a x, ((![v876] : Fin 1 → IVec S16 32) a x).toNat < S16.size a)
theorem k0_idx16_inb : ∀ (v37 : BitVec 32) (v41 : BitVec 32) (k0_t2 : Fin (k0_t2_loop v37 v41).trips) (v668 : BitVec 32) (v674 : BitVec 32) (v876 : IVec S16 32) (k0_hw19 : k0_chk19 v37 v41 k0_t2 v668 v674 v876), ∀ (k0_h9 : k0_cond9 v37 v41 k0_t2 v668 v674 = 1#1), ∀ a x, ((![v876] : Fin 1 → IVec S16 32) a x).toNat < S16.size a := fun v37 v41 k0_t2 v668 v674 v876 k0_hw19 k0_h9 => k0_hw19 k0_h9
def k0_off46 (v37 : BitVec 32) (v41 : BitVec 32) (k0_t2 : Fin (k0_t2_loop v37 v41).trips) : Fin 1 → Nat :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c2_i32_299 : BitVec 32 := 2#32
  let v636 : BitVec 32 := Scalar.addi v607 c2_i32_299
  let c3_i32_300 : BitVec 32 := 3#32
  let v637 : BitVec 32 := Scalar.addi v636 c3_i32_300
  let c128_i32_323 : BitVec 32 := 128#32
  let v664 : BitVec 32 := Scalar.muli v637 c128_i32_323
  let v665 : BitVec 32 := Scalar.addi v37 v664
  let c319872_i32_324 : BitVec 32 := 319872#32
  let v666 : BitVec 32 := Scalar.minsi v665 c319872_i32_324
  let c128_i32_325 : BitVec 32 := 128#32
  let v667 : BitVec 32 := Scalar.muli v666 c128_i32_325
  ![v667.toNat]
def k0_cond10 (v37 : BitVec 32) (v41 : BitVec 32) (k0_t2 : Fin (k0_t2_loop v37 v41).trips) : BitVec 1 :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c2_i32_299 : BitVec 32 := 2#32
  let v636 : BitVec 32 := Scalar.addi v607 c2_i32_299
  let c3_i32_300 : BitVec 32 := 3#32
  let v637 : BitVec 32 := Scalar.addi v636 c3_i32_300
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let v638 : BitVec 1 := Scalar.cmpi .slt v637 v60
  let v639 : BitVec 32 := Scalar.extui v638
  let c0_i32_301 : BitVec 32 := 0#32
  let v640 : BitVec 1 := Scalar.cmpi .ne v639 c0_i32_301
  v640

@[reducible] def k0_t9_loop : Scf.Loop 32 :=
  let c0_i32_307 : BitVec 32 := 0#32
  let c8_i32_308 : BitVec 32 := 8#32
  let v649 : BitVec 32 := Scalar.addi c0_i32_307 c8_i32_308
  let c1_i32_309 : BitVec 32 := 1#32
  ⟨c0_i32_307, v649, c1_i32_309⟩
def k0_off47 (k0_t9 : Fin k0_t9_loop.trips) : Fin 1 → Nat :=
  let c0_i32_307 : BitVec 32 := 0#32
  let c1_i32_309 : BitVec 32 := 1#32
  let arg21 : BitVec 32 := Scf.iv c0_i32_307 c1_i32_309 k0_t9
  let v664 : Index := Scalar.indexCast arg21
  ![v664.toNat]
def k0_off48 (k0_t9 : Fin k0_t9_loop.trips) : Fin 1 → Nat :=
  let c0_i32_307 : BitVec 32 := 0#32
  let c1_i32_309 : BitVec 32 := 1#32
  let arg21 : BitVec 32 := Scf.iv c0_i32_307 c1_i32_309 k0_t9
  let c1_i32_323 : BitVec 32 := 1#32
  let v669 : BitVec 32 := Scalar.addi arg21 c1_i32_323
  let v670 : Index := Scalar.indexCast v669
  ![v670.toNat]
def k0_off49 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v686 : Index := Scalar.indexCast arg21
  let c0_328 : Index := 0#32
  ![v686.toNat, 0]
def k0_off50 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v689 : Index := Scalar.indexCast arg21
  let c16_329 : Index := 16#32
  ![v689.toNat, 16]
def k0_off51 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v692 : Index := Scalar.indexCast arg21
  let c32_330 : Index := 32#32
  ![v692.toNat, 32]
def k0_off52 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v695 : Index := Scalar.indexCast arg21
  let c48_331 : Index := 48#32
  ![v695.toNat, 48]
def k0_off53 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v698 : Index := Scalar.indexCast arg21
  let c64_332 : Index := 64#32
  ![v698.toNat, 64]
def k0_off54 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v701 : Index := Scalar.indexCast arg21
  let c80_333 : Index := 80#32
  ![v701.toNat, 80]
def k0_off55 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v704 : Index := Scalar.indexCast arg21
  let c96_334 : Index := 96#32
  ![v704.toNat, 96]
def k0_off56 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v707 : Index := Scalar.indexCast arg21
  let c112_335 : Index := 112#32
  ![v707.toNat, 112]
def k0_off57 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v710 : Index := Scalar.indexCast arg21
  let c128_336 : Index := 128#32
  ![v710.toNat, 128]
def k0_off58 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v713 : Index := Scalar.indexCast arg21
  let c144_337 : Index := 144#32
  ![v713.toNat, 144]
def k0_off59 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v716 : Index := Scalar.indexCast arg21
  let c160_338 : Index := 160#32
  ![v716.toNat, 160]
def k0_off60 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v719 : Index := Scalar.indexCast arg21
  let c176_339 : Index := 176#32
  ![v719.toNat, 176]
def k0_off61 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v722 : Index := Scalar.indexCast arg21
  let c192_340 : Index := 192#32
  ![v722.toNat, 192]
def k0_off62 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v725 : Index := Scalar.indexCast arg21
  let c208_341 : Index := 208#32
  ![v725.toNat, 208]
def k0_off63 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v728 : Index := Scalar.indexCast arg21
  let c224_342 : Index := 224#32
  ![v728.toNat, 224]
def k0_off64 (k0_t9 : Fin k0_t9_loop.trips) : Fin 2 → Nat :=
  let c0_i32_307 : BitVec 32 := 0#32
  let c1_i32_309 : BitVec 32 := 1#32
  let arg21 : BitVec 32 := Scf.iv c0_i32_307 c1_i32_309 k0_t9
  let v731 : Index := Scalar.indexCast arg21
  let c240_343 : Index := 240#32
  ![v731.toNat, 240]
@[reducible] def k0_t10_loop (v37 : BitVec 32) (v41 : BitVec 32) (k0_t2 : Fin (k0_t2_loop v37 v41).trips) (v668 : BitVec 32) (v674 : BitVec 32) : Scf.Loop 32 :=
  let c0_i32_344 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c128_i32_324 : BitVec 32 := 128#32
  let v676 : BitVec 32 := Scalar.addi v643 c128_i32_324
  let v677 : BitVec 32 := Scalar.minsi v674 v676
  let v675 : BitVec 32 := Scalar.maxsi v668 v643
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_346 : BitVec 32 := 1#32
  ⟨c0_i32_344, v738, c1_i32_346⟩
def k0_cond12 (v37 : BitVec 32) (v41 : BitVec 32) (k0_t2 : Fin (k0_t2_loop v37 v41).trips) (v668 : BitVec 32) (v674 : BitVec 32) : BitVec 1 :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c128_i32_324 : BitVec 32 := 128#32
  let v676 : BitVec 32 := Scalar.addi v643 c128_i32_324
  let v677 : BitVec 32 := Scalar.minsi v674 v676
  let v675 : BitVec 32 := Scalar.maxsi v668 v643
  let v678 : BitVec 32 := Scalar.subi v677 v675
  let c0_i32_326 : BitVec 32 := 0#32
  let v683 : BitVec 1 := Scalar.cmpi .sgt v678 c0_i32_326
  let v684 : BitVec 32 := Scalar.extui v683
  let c0_i32_327 : BitVec 32 := 0#32
  let v685 : BitVec 1 := Scalar.cmpi .ne v684 c0_i32_327
  v685

def k0_off65 (v37 : BitVec 32) (v41 : BitVec 32) (k0_t2 : Fin (k0_t2_loop v37 v41).trips) (v668 : BitVec 32) (v674 : BitVec 32) (k0_t10 : Fin (k0_t10_loop v37 v41 k0_t2 v668 v674).trips) (c0_i32_365 : BitVec 32) : Fin 1 → Nat :=
  let c32768_i32 : BitVec 32 := 32768#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c319872_i32_304 : BitVec 32 := 319872#32
  let v644 : BitVec 32 := Scalar.minsi v643 c319872_i32_304
  let v645 : BitVec 32 := Scalar.subi v643 v644
  let v675 : BitVec 32 := Scalar.maxsi v668 v643
  let v679 : BitVec 32 := Scalar.subi v675 v643
  let v680 : BitVec 32 := Scalar.addi v645 v679
  let c128_i32_325 : BitVec 32 := 128#32
  let v681 : BitVec 32 := Scalar.muli v680 c128_i32_325
  let v682 : BitVec 32 := Scalar.addi c32768_i32 v681
  let c0_i32_344 : BitVec 32 := 0#32
  let c1_i32_346 : BitVec 32 := 1#32
  let arg22 : BitVec 32 := Scf.iv c0_i32_344 c1_i32_346 k0_t10
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk21 (v37 : BitVec 32) (v41 : BitVec 32) (k0_t2 : Fin (k0_t2_loop v37 v41).trips) (v668 : BitVec 32) (v674 : BitVec 32) (v855 : IVec S16 32) : Prop :=
  (∀ (k0_h12 : k0_cond12 v37 v41 k0_t2 v668 v674 = 1#1), ∀ a x, ((![v855] : Fin 1 → IVec S16 32) a x).toNat < S16.size a)
theorem k0_idx17_inb : ∀ (v37 : BitVec 32) (v41 : BitVec 32) (k0_t2 : Fin (k0_t2_loop v37 v41).trips) (v668 : BitVec 32) (v674 : BitVec 32) (v855 : IVec S16 32) (k0_hw21 : k0_chk21 v37 v41 k0_t2 v668 v674 v855), ∀ (k0_h12 : k0_cond12 v37 v41 k0_t2 v668 v674 = 1#1), ∀ a x, ((![v855] : Fin 1 → IVec S16 32) a x).toNat < S16.size a := fun v37 v41 k0_t2 v668 v674 v855 k0_hw21 k0_h12 => k0_hw21 k0_h12

def k0_chk22 (v37 : BitVec 32) (v41 : BitVec 32) (k0_t2 : Fin (k0_t2_loop v37 v41).trips) (v668 : BitVec 32) (v674 : BitVec 32) (v862 : IVec S16 32) : Prop :=
  (∀ (k0_h12 : k0_cond12 v37 v41 k0_t2 v668 v674 = 1#1), ∀ a x, ((![v862] : Fin 1 → IVec S16 32) a x).toNat < S16.size a)
theorem k0_idx18_inb : ∀ (v37 : BitVec 32) (v41 : BitVec 32) (k0_t2 : Fin (k0_t2_loop v37 v41).trips) (v668 : BitVec 32) (v674 : BitVec 32) (v862 : IVec S16 32) (k0_hw22 : k0_chk22 v37 v41 k0_t2 v668 v674 v862), ∀ (k0_h12 : k0_cond12 v37 v41 k0_t2 v668 v674 = 1#1), ∀ a x, ((![v862] : Fin 1 → IVec S16 32) a x).toNat < S16.size a := fun v37 v41 k0_t2 v668 v674 v862 k0_hw22 k0_h12 => k0_hw22 k0_h12

def k0_chk23 (v37 : BitVec 32) (v41 : BitVec 32) (k0_t2 : Fin (k0_t2_loop v37 v41).trips) (v668 : BitVec 32) (v674 : BitVec 32) (v869 : IVec S16 32) : Prop :=
  (∀ (k0_h12 : k0_cond12 v37 v41 k0_t2 v668 v674 = 1#1), ∀ a x, ((![v869] : Fin 1 → IVec S16 32) a x).toNat < S16.size a)
theorem k0_idx19_inb : ∀ (v37 : BitVec 32) (v41 : BitVec 32) (k0_t2 : Fin (k0_t2_loop v37 v41).trips) (v668 : BitVec 32) (v674 : BitVec 32) (v869 : IVec S16 32) (k0_hw23 : k0_chk23 v37 v41 k0_t2 v668 v674 v869), ∀ (k0_h12 : k0_cond12 v37 v41 k0_t2 v668 v674 = 1#1), ∀ a x, ((![v869] : Fin 1 → IVec S16 32) a x).toNat < S16.size a := fun v37 v41 k0_t2 v668 v674 v869 k0_hw23 k0_h12 => k0_hw23 k0_h12

def k0_chk24 (v37 : BitVec 32) (v41 : BitVec 32) (k0_t2 : Fin (k0_t2_loop v37 v41).trips) (v668 : BitVec 32) (v674 : BitVec 32) (v876 : IVec S16 32) : Prop :=
  (∀ (k0_h12 : k0_cond12 v37 v41 k0_t2 v668 v674 = 1#1), ∀ a x, ((![v876] : Fin 1 → IVec S16 32) a x).toNat < S16.size a)
theorem k0_idx20_inb : ∀ (v37 : BitVec 32) (v41 : BitVec 32) (k0_t2 : Fin (k0_t2_loop v37 v41).trips) (v668 : BitVec 32) (v674 : BitVec 32) (v876 : IVec S16 32) (k0_hw24 : k0_chk24 v37 v41 k0_t2 v668 v674 v876), ∀ (k0_h12 : k0_cond12 v37 v41 k0_t2 v668 v674 = 1#1), ∀ a x, ((![v876] : Fin 1 → IVec S16 32) a x).toNat < S16.size a := fun v37 v41 k0_t2 v668 v674 v876 k0_hw24 k0_h12 => k0_hw24 k0_h12
@[reducible] def k0_t11_loop (v37 : BitVec 32) (v41 : BitVec 32) (k0_t2 : Fin (k0_t2_loop v37 v41).trips) (v668 : BitVec 32) (v674 : BitVec 32) : Scf.Loop 32 :=
  let c0_i32_344 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c128_i32_324 : BitVec 32 := 128#32
  let v676 : BitVec 32 := Scalar.addi v643 c128_i32_324
  let v677 : BitVec 32 := Scalar.minsi v674 v676
  let v675 : BitVec 32 := Scalar.maxsi v668 v643
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let v735 : BitVec 32 := Scalar.addi c0_i32_344 v734
  let c1_i32_347 : BitVec 32 := 1#32
  ⟨v738, v735, c1_i32_347⟩
def k0_off66 (v37 : BitVec 32) (v41 : BitVec 32) (k0_t2 : Fin (k0_t2_loop v37 v41).trips) (v668 : BitVec 32) (v674 : BitVec 32) (k0_t11 : Fin (k0_t11_loop v37 v41 k0_t2 v668 v674).trips) (c0_i32_365 : BitVec 32) : Fin 1 → Nat :=
  let c32768_i32 : BitVec 32 := 32768#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c319872_i32_304 : BitVec 32 := 319872#32
  let v644 : BitVec 32 := Scalar.minsi v643 c319872_i32_304
  let v645 : BitVec 32 := Scalar.subi v643 v644
  let v675 : BitVec 32 := Scalar.maxsi v668 v643
  let v679 : BitVec 32 := Scalar.subi v675 v643
  let v680 : BitVec 32 := Scalar.addi v645 v679
  let c128_i32_325 : BitVec 32 := 128#32
  let v681 : BitVec 32 := Scalar.muli v680 c128_i32_325
  let v682 : BitVec 32 := Scalar.addi c32768_i32 v681
  let c0_i32_344 : BitVec 32 := 0#32
  let c128_i32_324 : BitVec 32 := 128#32
  let v676 : BitVec 32 := Scalar.addi v643 c128_i32_324
  let v677 : BitVec 32 := Scalar.minsi v674 v676
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_347 : BitVec 32 := 1#32
  let arg22 : BitVec 32 := Scf.iv v738 c1_i32_347 k0_t11
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk20 (v37 : BitVec 32) (v41 : BitVec 32) (k0_t2 : Fin (k0_t2_loop v37 v41).trips) (v668 : BitVec 32) (v674 : BitVec 32) : Prop :=
  (∀ (k0_h12 : k0_cond12 v37 v41 k0_t2 v668 v674 = 1#1), (k0_t10_loop v37 v41 k0_t2 v668 v674).OK) ∧
  (∀ k0_t10 : Fin (k0_t10_loop v37 v41 k0_t2 v668 v674).trips, ∀ (k0_h12 : k0_cond12 v37 v41 k0_t2 v668 v674 = 1#1), ∀ (r : Fin 8), ∀ a, (k0_off65 v37 v41 k0_t2 v668 v674 k0_t10 (BitVec.ofNat 32 (16 * r.val))) a + S16.size a ≤ S65536.size a) ∧
  (∀ (k0_h12 : k0_cond12 v37 v41 k0_t2 v668 v674 = 1#1), (k0_t11_loop v37 v41 k0_t2 v668 v674).OK) ∧
  (∀ k0_t11 : Fin (k0_t11_loop v37 v41 k0_t2 v668 v674).trips, ∀ (k0_h12 : k0_cond12 v37 v41 k0_t2 v668 v674 = 1#1), ∀ (r : Fin 8), ∀ a, (k0_off66 v37 v41 k0_t2 v668 v674 k0_t11 (BitVec.ofNat 32 (16 * r.val))) a + S16.size a ≤ S65536.size a)
theorem k0_t10_ok : ∀ (v37 : BitVec 32) (v41 : BitVec 32) (k0_t2 : Fin (k0_t2_loop v37 v41).trips) (v668 : BitVec 32) (v674 : BitVec 32) (k0_hw20 : k0_chk20 v37 v41 k0_t2 v668 v674), ∀ (k0_h12 : k0_cond12 v37 v41 k0_t2 v668 v674 = 1#1), (k0_t10_loop v37 v41 k0_t2 v668 v674).OK := fun v37 v41 k0_t2 v668 v674 k0_hw20 k0_h12 => k0_hw20.1 k0_h12
theorem k0_off65_inb : ∀ (v37 : BitVec 32) (v41 : BitVec 32) (k0_t2 : Fin (k0_t2_loop v37 v41).trips) (v668 : BitVec 32) (v674 : BitVec 32) (k0_hw20 : k0_chk20 v37 v41 k0_t2 v668 v674) (k0_t10 : Fin (k0_t10_loop v37 v41 k0_t2 v668 v674).trips), ∀ (k0_h12 : k0_cond12 v37 v41 k0_t2 v668 v674 = 1#1), ∀ (r : Fin 8), ∀ a, (k0_off65 v37 v41 k0_t2 v668 v674 k0_t10 (BitVec.ofNat 32 (16 * r.val))) a + S16.size a ≤ S65536.size a := fun v37 v41 k0_t2 v668 v674 k0_hw20 k0_t10 k0_h12 r => k0_hw20.2.1 k0_t10 k0_h12 r
theorem k0_t11_ok : ∀ (v37 : BitVec 32) (v41 : BitVec 32) (k0_t2 : Fin (k0_t2_loop v37 v41).trips) (v668 : BitVec 32) (v674 : BitVec 32) (k0_hw20 : k0_chk20 v37 v41 k0_t2 v668 v674), ∀ (k0_h12 : k0_cond12 v37 v41 k0_t2 v668 v674 = 1#1), (k0_t11_loop v37 v41 k0_t2 v668 v674).OK := fun v37 v41 k0_t2 v668 v674 k0_hw20 k0_h12 => k0_hw20.2.2.1 k0_h12
theorem k0_off66_inb : ∀ (v37 : BitVec 32) (v41 : BitVec 32) (k0_t2 : Fin (k0_t2_loop v37 v41).trips) (v668 : BitVec 32) (v674 : BitVec 32) (k0_hw20 : k0_chk20 v37 v41 k0_t2 v668 v674) (k0_t11 : Fin (k0_t11_loop v37 v41 k0_t2 v668 v674).trips), ∀ (k0_h12 : k0_cond12 v37 v41 k0_t2 v668 v674 = 1#1), ∀ (r : Fin 8), ∀ a, (k0_off66 v37 v41 k0_t2 v668 v674 k0_t11 (BitVec.ofNat 32 (16 * r.val))) a + S16.size a ≤ S65536.size a := fun v37 v41 k0_t2 v668 v674 k0_hw20 k0_t11 k0_h12 r => k0_hw20.2.2.2 k0_t11 k0_h12 r

def k0_chk25 (v37 : BitVec 32) (v41 : BitVec 32) (k0_t2 : Fin (k0_t2_loop v37 v41).trips) (v668 : BitVec 32) (v674 : BitVec 32) (v855 : IVec S16 32) : Prop :=
  (∀ (k0_h12 : k0_cond12 v37 v41 k0_t2 v668 v674 = 1#1), ∀ a x, ((![v855] : Fin 1 → IVec S16 32) a x).toNat < S16.size a)
theorem k0_idx21_inb : ∀ (v37 : BitVec 32) (v41 : BitVec 32) (k0_t2 : Fin (k0_t2_loop v37 v41).trips) (v668 : BitVec 32) (v674 : BitVec 32) (v855 : IVec S16 32) (k0_hw25 : k0_chk25 v37 v41 k0_t2 v668 v674 v855), ∀ (k0_h12 : k0_cond12 v37 v41 k0_t2 v668 v674 = 1#1), ∀ a x, ((![v855] : Fin 1 → IVec S16 32) a x).toNat < S16.size a := fun v37 v41 k0_t2 v668 v674 v855 k0_hw25 k0_h12 => k0_hw25 k0_h12

def k0_chk26 (v37 : BitVec 32) (v41 : BitVec 32) (k0_t2 : Fin (k0_t2_loop v37 v41).trips) (v668 : BitVec 32) (v674 : BitVec 32) (v862 : IVec S16 32) : Prop :=
  (∀ (k0_h12 : k0_cond12 v37 v41 k0_t2 v668 v674 = 1#1), ∀ a x, ((![v862] : Fin 1 → IVec S16 32) a x).toNat < S16.size a)
theorem k0_idx22_inb : ∀ (v37 : BitVec 32) (v41 : BitVec 32) (k0_t2 : Fin (k0_t2_loop v37 v41).trips) (v668 : BitVec 32) (v674 : BitVec 32) (v862 : IVec S16 32) (k0_hw26 : k0_chk26 v37 v41 k0_t2 v668 v674 v862), ∀ (k0_h12 : k0_cond12 v37 v41 k0_t2 v668 v674 = 1#1), ∀ a x, ((![v862] : Fin 1 → IVec S16 32) a x).toNat < S16.size a := fun v37 v41 k0_t2 v668 v674 v862 k0_hw26 k0_h12 => k0_hw26 k0_h12

def k0_chk27 (v37 : BitVec 32) (v41 : BitVec 32) (k0_t2 : Fin (k0_t2_loop v37 v41).trips) (v668 : BitVec 32) (v674 : BitVec 32) (v869 : IVec S16 32) : Prop :=
  (∀ (k0_h12 : k0_cond12 v37 v41 k0_t2 v668 v674 = 1#1), ∀ a x, ((![v869] : Fin 1 → IVec S16 32) a x).toNat < S16.size a)
theorem k0_idx23_inb : ∀ (v37 : BitVec 32) (v41 : BitVec 32) (k0_t2 : Fin (k0_t2_loop v37 v41).trips) (v668 : BitVec 32) (v674 : BitVec 32) (v869 : IVec S16 32) (k0_hw27 : k0_chk27 v37 v41 k0_t2 v668 v674 v869), ∀ (k0_h12 : k0_cond12 v37 v41 k0_t2 v668 v674 = 1#1), ∀ a x, ((![v869] : Fin 1 → IVec S16 32) a x).toNat < S16.size a := fun v37 v41 k0_t2 v668 v674 v869 k0_hw27 k0_h12 => k0_hw27 k0_h12

def k0_chk28 (v37 : BitVec 32) (v41 : BitVec 32) (k0_t2 : Fin (k0_t2_loop v37 v41).trips) (v668 : BitVec 32) (v674 : BitVec 32) (v876 : IVec S16 32) : Prop :=
  (∀ (k0_h12 : k0_cond12 v37 v41 k0_t2 v668 v674 = 1#1), ∀ a x, ((![v876] : Fin 1 → IVec S16 32) a x).toNat < S16.size a)
theorem k0_idx24_inb : ∀ (v37 : BitVec 32) (v41 : BitVec 32) (k0_t2 : Fin (k0_t2_loop v37 v41).trips) (v668 : BitVec 32) (v674 : BitVec 32) (v876 : IVec S16 32) (k0_hw28 : k0_chk28 v37 v41 k0_t2 v668 v674 v876), ∀ (k0_h12 : k0_cond12 v37 v41 k0_t2 v668 v674 = 1#1), ∀ a x, ((![v876] : Fin 1 → IVec S16 32) a x).toNat < S16.size a := fun v37 v41 k0_t2 v668 v674 v876 k0_hw28 k0_h12 => k0_hw28 k0_h12
def k0_off67 (v37 : BitVec 32) (v41 : BitVec 32) (k0_t2 : Fin (k0_t2_loop v37 v41).trips) : Fin 1 → Nat :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c3_i32_311 : BitVec 32 := 3#32
  let v650 : BitVec 32 := Scalar.addi v607 c3_i32_311
  let c3_i32_312 : BitVec 32 := 3#32
  let v651 : BitVec 32 := Scalar.addi v650 c3_i32_312
  let c128_i32_323 : BitVec 32 := 128#32
  let v664 : BitVec 32 := Scalar.muli v651 c128_i32_323
  let v665 : BitVec 32 := Scalar.addi v37 v664
  let c319872_i32_324 : BitVec 32 := 319872#32
  let v666 : BitVec 32 := Scalar.minsi v665 c319872_i32_324
  let c128_i32_325 : BitVec 32 := 128#32
  let v667 : BitVec 32 := Scalar.muli v666 c128_i32_325
  ![v667.toNat]
def k0_cond13 (v37 : BitVec 32) (v41 : BitVec 32) (k0_t2 : Fin (k0_t2_loop v37 v41).trips) : BitVec 1 :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c3_i32_311 : BitVec 32 := 3#32
  let v650 : BitVec 32 := Scalar.addi v607 c3_i32_311
  let c3_i32_312 : BitVec 32 := 3#32
  let v651 : BitVec 32 := Scalar.addi v650 c3_i32_312
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let v652 : BitVec 1 := Scalar.cmpi .slt v651 v60
  let v653 : BitVec 32 := Scalar.extui v652
  let c0_i32_313 : BitVec 32 := 0#32
  let v654 : BitVec 1 := Scalar.cmpi .ne v653 c0_i32_313
  v654

@[reducible] def k0_t12_loop : Scf.Loop 32 :=
  let c0_i32_319 : BitVec 32 := 0#32
  let c8_i32_320 : BitVec 32 := 8#32
  let v663 : BitVec 32 := Scalar.addi c0_i32_319 c8_i32_320
  let c1_i32_321 : BitVec 32 := 1#32
  ⟨c0_i32_319, v663, c1_i32_321⟩
def k0_off68 (k0_t12 : Fin k0_t12_loop.trips) : Fin 1 → Nat :=
  let c0_i32_319 : BitVec 32 := 0#32
  let c1_i32_321 : BitVec 32 := 1#32
  let arg21 : BitVec 32 := Scf.iv c0_i32_319 c1_i32_321 k0_t12
  let v664 : Index := Scalar.indexCast arg21
  ![v664.toNat]
def k0_off69 (k0_t12 : Fin k0_t12_loop.trips) : Fin 1 → Nat :=
  let c0_i32_319 : BitVec 32 := 0#32
  let c1_i32_321 : BitVec 32 := 1#32
  let arg21 : BitVec 32 := Scf.iv c0_i32_319 c1_i32_321 k0_t12
  let c1_i32_323 : BitVec 32 := 1#32
  let v669 : BitVec 32 := Scalar.addi arg21 c1_i32_323
  let v670 : Index := Scalar.indexCast v669
  ![v670.toNat]
def k0_off70 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v686 : Index := Scalar.indexCast arg21
  let c0_328 : Index := 0#32
  ![v686.toNat, 0]
def k0_off71 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v689 : Index := Scalar.indexCast arg21
  let c16_329 : Index := 16#32
  ![v689.toNat, 16]
def k0_off72 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v692 : Index := Scalar.indexCast arg21
  let c32_330 : Index := 32#32
  ![v692.toNat, 32]
def k0_off73 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v695 : Index := Scalar.indexCast arg21
  let c48_331 : Index := 48#32
  ![v695.toNat, 48]
def k0_off74 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v698 : Index := Scalar.indexCast arg21
  let c64_332 : Index := 64#32
  ![v698.toNat, 64]
def k0_off75 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v701 : Index := Scalar.indexCast arg21
  let c80_333 : Index := 80#32
  ![v701.toNat, 80]
def k0_off76 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v704 : Index := Scalar.indexCast arg21
  let c96_334 : Index := 96#32
  ![v704.toNat, 96]
def k0_off77 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v707 : Index := Scalar.indexCast arg21
  let c112_335 : Index := 112#32
  ![v707.toNat, 112]
def k0_off78 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v710 : Index := Scalar.indexCast arg21
  let c128_336 : Index := 128#32
  ![v710.toNat, 128]
def k0_off79 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v713 : Index := Scalar.indexCast arg21
  let c144_337 : Index := 144#32
  ![v713.toNat, 144]
def k0_off80 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v716 : Index := Scalar.indexCast arg21
  let c160_338 : Index := 160#32
  ![v716.toNat, 160]
def k0_off81 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v719 : Index := Scalar.indexCast arg21
  let c176_339 : Index := 176#32
  ![v719.toNat, 176]
def k0_off82 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v722 : Index := Scalar.indexCast arg21
  let c192_340 : Index := 192#32
  ![v722.toNat, 192]
def k0_off83 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v725 : Index := Scalar.indexCast arg21
  let c208_341 : Index := 208#32
  ![v725.toNat, 208]
def k0_off84 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v728 : Index := Scalar.indexCast arg21
  let c224_342 : Index := 224#32
  ![v728.toNat, 224]
def k0_off85 (k0_t12 : Fin k0_t12_loop.trips) : Fin 2 → Nat :=
  let c0_i32_319 : BitVec 32 := 0#32
  let c1_i32_321 : BitVec 32 := 1#32
  let arg21 : BitVec 32 := Scf.iv c0_i32_319 c1_i32_321 k0_t12
  let v731 : Index := Scalar.indexCast arg21
  let c240_343 : Index := 240#32
  ![v731.toNat, 240]
@[reducible] def k0_t13_loop (v37 : BitVec 32) (v41 : BitVec 32) (k0_t2 : Fin (k0_t2_loop v37 v41).trips) (v668 : BitVec 32) (v674 : BitVec 32) : Scf.Loop 32 :=
  let c0_i32_344 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c128_i32_324 : BitVec 32 := 128#32
  let v676 : BitVec 32 := Scalar.addi v657 c128_i32_324
  let v677 : BitVec 32 := Scalar.minsi v674 v676
  let v675 : BitVec 32 := Scalar.maxsi v668 v657
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_346 : BitVec 32 := 1#32
  ⟨c0_i32_344, v738, c1_i32_346⟩
def k0_cond15 (v37 : BitVec 32) (v41 : BitVec 32) (k0_t2 : Fin (k0_t2_loop v37 v41).trips) (v668 : BitVec 32) (v674 : BitVec 32) : BitVec 1 :=
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c128_i32_324 : BitVec 32 := 128#32
  let v676 : BitVec 32 := Scalar.addi v657 c128_i32_324
  let v677 : BitVec 32 := Scalar.minsi v674 v676
  let v675 : BitVec 32 := Scalar.maxsi v668 v657
  let v678 : BitVec 32 := Scalar.subi v677 v675
  let c0_i32_326 : BitVec 32 := 0#32
  let v683 : BitVec 1 := Scalar.cmpi .sgt v678 c0_i32_326
  let v684 : BitVec 32 := Scalar.extui v683
  let c0_i32_327 : BitVec 32 := 0#32
  let v685 : BitVec 1 := Scalar.cmpi .ne v684 c0_i32_327
  v685

def k0_off86 (v37 : BitVec 32) (v41 : BitVec 32) (k0_t2 : Fin (k0_t2_loop v37 v41).trips) (v668 : BitVec 32) (v674 : BitVec 32) (k0_t13 : Fin (k0_t13_loop v37 v41 k0_t2 v668 v674).trips) (c0_i32_365 : BitVec 32) : Fin 1 → Nat :=
  let c49152_i32 : BitVec 32 := 49152#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c319872_i32_316 : BitVec 32 := 319872#32
  let v658 : BitVec 32 := Scalar.minsi v657 c319872_i32_316
  let v659 : BitVec 32 := Scalar.subi v657 v658
  let v675 : BitVec 32 := Scalar.maxsi v668 v657
  let v679 : BitVec 32 := Scalar.subi v675 v657
  let v680 : BitVec 32 := Scalar.addi v659 v679
  let c128_i32_325 : BitVec 32 := 128#32
  let v681 : BitVec 32 := Scalar.muli v680 c128_i32_325
  let v682 : BitVec 32 := Scalar.addi c49152_i32 v681
  let c0_i32_344 : BitVec 32 := 0#32
  let c1_i32_346 : BitVec 32 := 1#32
  let arg22 : BitVec 32 := Scf.iv c0_i32_344 c1_i32_346 k0_t13
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk30 (v37 : BitVec 32) (v41 : BitVec 32) (k0_t2 : Fin (k0_t2_loop v37 v41).trips) (v668 : BitVec 32) (v674 : BitVec 32) (v855 : IVec S16 32) : Prop :=
  (∀ (k0_h15 : k0_cond15 v37 v41 k0_t2 v668 v674 = 1#1), ∀ a x, ((![v855] : Fin 1 → IVec S16 32) a x).toNat < S16.size a)
theorem k0_idx25_inb : ∀ (v37 : BitVec 32) (v41 : BitVec 32) (k0_t2 : Fin (k0_t2_loop v37 v41).trips) (v668 : BitVec 32) (v674 : BitVec 32) (v855 : IVec S16 32) (k0_hw30 : k0_chk30 v37 v41 k0_t2 v668 v674 v855), ∀ (k0_h15 : k0_cond15 v37 v41 k0_t2 v668 v674 = 1#1), ∀ a x, ((![v855] : Fin 1 → IVec S16 32) a x).toNat < S16.size a := fun v37 v41 k0_t2 v668 v674 v855 k0_hw30 k0_h15 => k0_hw30 k0_h15

def k0_chk31 (v37 : BitVec 32) (v41 : BitVec 32) (k0_t2 : Fin (k0_t2_loop v37 v41).trips) (v668 : BitVec 32) (v674 : BitVec 32) (v862 : IVec S16 32) : Prop :=
  (∀ (k0_h15 : k0_cond15 v37 v41 k0_t2 v668 v674 = 1#1), ∀ a x, ((![v862] : Fin 1 → IVec S16 32) a x).toNat < S16.size a)
theorem k0_idx26_inb : ∀ (v37 : BitVec 32) (v41 : BitVec 32) (k0_t2 : Fin (k0_t2_loop v37 v41).trips) (v668 : BitVec 32) (v674 : BitVec 32) (v862 : IVec S16 32) (k0_hw31 : k0_chk31 v37 v41 k0_t2 v668 v674 v862), ∀ (k0_h15 : k0_cond15 v37 v41 k0_t2 v668 v674 = 1#1), ∀ a x, ((![v862] : Fin 1 → IVec S16 32) a x).toNat < S16.size a := fun v37 v41 k0_t2 v668 v674 v862 k0_hw31 k0_h15 => k0_hw31 k0_h15

def k0_chk32 (v37 : BitVec 32) (v41 : BitVec 32) (k0_t2 : Fin (k0_t2_loop v37 v41).trips) (v668 : BitVec 32) (v674 : BitVec 32) (v869 : IVec S16 32) : Prop :=
  (∀ (k0_h15 : k0_cond15 v37 v41 k0_t2 v668 v674 = 1#1), ∀ a x, ((![v869] : Fin 1 → IVec S16 32) a x).toNat < S16.size a)
theorem k0_idx27_inb : ∀ (v37 : BitVec 32) (v41 : BitVec 32) (k0_t2 : Fin (k0_t2_loop v37 v41).trips) (v668 : BitVec 32) (v674 : BitVec 32) (v869 : IVec S16 32) (k0_hw32 : k0_chk32 v37 v41 k0_t2 v668 v674 v869), ∀ (k0_h15 : k0_cond15 v37 v41 k0_t2 v668 v674 = 1#1), ∀ a x, ((![v869] : Fin 1 → IVec S16 32) a x).toNat < S16.size a := fun v37 v41 k0_t2 v668 v674 v869 k0_hw32 k0_h15 => k0_hw32 k0_h15

def k0_chk33 (v37 : BitVec 32) (v41 : BitVec 32) (k0_t2 : Fin (k0_t2_loop v37 v41).trips) (v668 : BitVec 32) (v674 : BitVec 32) (v876 : IVec S16 32) : Prop :=
  (∀ (k0_h15 : k0_cond15 v37 v41 k0_t2 v668 v674 = 1#1), ∀ a x, ((![v876] : Fin 1 → IVec S16 32) a x).toNat < S16.size a)
theorem k0_idx28_inb : ∀ (v37 : BitVec 32) (v41 : BitVec 32) (k0_t2 : Fin (k0_t2_loop v37 v41).trips) (v668 : BitVec 32) (v674 : BitVec 32) (v876 : IVec S16 32) (k0_hw33 : k0_chk33 v37 v41 k0_t2 v668 v674 v876), ∀ (k0_h15 : k0_cond15 v37 v41 k0_t2 v668 v674 = 1#1), ∀ a x, ((![v876] : Fin 1 → IVec S16 32) a x).toNat < S16.size a := fun v37 v41 k0_t2 v668 v674 v876 k0_hw33 k0_h15 => k0_hw33 k0_h15
@[reducible] def k0_t14_loop (v37 : BitVec 32) (v41 : BitVec 32) (k0_t2 : Fin (k0_t2_loop v37 v41).trips) (v668 : BitVec 32) (v674 : BitVec 32) : Scf.Loop 32 :=
  let c0_i32_344 : BitVec 32 := 0#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c128_i32_324 : BitVec 32 := 128#32
  let v676 : BitVec 32 := Scalar.addi v657 c128_i32_324
  let v677 : BitVec 32 := Scalar.minsi v674 v676
  let v675 : BitVec 32 := Scalar.maxsi v668 v657
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let v735 : BitVec 32 := Scalar.addi c0_i32_344 v734
  let c1_i32_347 : BitVec 32 := 1#32
  ⟨v738, v735, c1_i32_347⟩
def k0_off87 (v37 : BitVec 32) (v41 : BitVec 32) (k0_t2 : Fin (k0_t2_loop v37 v41).trips) (v668 : BitVec 32) (v674 : BitVec 32) (k0_t14 : Fin (k0_t14_loop v37 v41 k0_t2 v668 v674).trips) (c0_i32_365 : BitVec 32) : Fin 1 → Nat :=
  let c49152_i32 : BitVec 32 := 49152#32
  let c4_i32_275 : BitVec 32 := 4#32
  let c0_i32_271 : BitVec 32 := 0#32
  let c1_i32_273 : BitVec 32 := 1#32
  let arg20 : BitVec 32 := Scf.iv c0_i32_271 c1_i32_273 k0_t2
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c319872_i32_316 : BitVec 32 := 319872#32
  let v658 : BitVec 32 := Scalar.minsi v657 c319872_i32_316
  let v659 : BitVec 32 := Scalar.subi v657 v658
  let v675 : BitVec 32 := Scalar.maxsi v668 v657
  let v679 : BitVec 32 := Scalar.subi v675 v657
  let v680 : BitVec 32 := Scalar.addi v659 v679
  let c128_i32_325 : BitVec 32 := 128#32
  let v681 : BitVec 32 := Scalar.muli v680 c128_i32_325
  let v682 : BitVec 32 := Scalar.addi c49152_i32 v681
  let c0_i32_344 : BitVec 32 := 0#32
  let c128_i32_324 : BitVec 32 := 128#32
  let v676 : BitVec 32 := Scalar.addi v657 c128_i32_324
  let v677 : BitVec 32 := Scalar.minsi v674 v676
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_347 : BitVec 32 := 1#32
  let arg22 : BitVec 32 := Scf.iv v738 c1_i32_347 k0_t14
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk29 (v37 : BitVec 32) (v41 : BitVec 32) (k0_t2 : Fin (k0_t2_loop v37 v41).trips) (v668 : BitVec 32) (v674 : BitVec 32) : Prop :=
  (∀ (k0_h15 : k0_cond15 v37 v41 k0_t2 v668 v674 = 1#1), (k0_t13_loop v37 v41 k0_t2 v668 v674).OK) ∧
  (∀ k0_t13 : Fin (k0_t13_loop v37 v41 k0_t2 v668 v674).trips, ∀ (k0_h15 : k0_cond15 v37 v41 k0_t2 v668 v674 = 1#1), ∀ (r : Fin 8), ∀ a, (k0_off86 v37 v41 k0_t2 v668 v674 k0_t13 (BitVec.ofNat 32 (16 * r.val))) a + S16.size a ≤ S65536.size a) ∧
  (∀ (k0_h15 : k0_cond15 v37 v41 k0_t2 v668 v674 = 1#1), (k0_t14_loop v37 v41 k0_t2 v668 v674).OK) ∧
  (∀ k0_t14 : Fin (k0_t14_loop v37 v41 k0_t2 v668 v674).trips, ∀ (k0_h15 : k0_cond15 v37 v41 k0_t2 v668 v674 = 1#1), ∀ (r : Fin 8), ∀ a, (k0_off87 v37 v41 k0_t2 v668 v674 k0_t14 (BitVec.ofNat 32 (16 * r.val))) a + S16.size a ≤ S65536.size a)
theorem k0_t13_ok : ∀ (v37 : BitVec 32) (v41 : BitVec 32) (k0_t2 : Fin (k0_t2_loop v37 v41).trips) (v668 : BitVec 32) (v674 : BitVec 32) (k0_hw29 : k0_chk29 v37 v41 k0_t2 v668 v674), ∀ (k0_h15 : k0_cond15 v37 v41 k0_t2 v668 v674 = 1#1), (k0_t13_loop v37 v41 k0_t2 v668 v674).OK := fun v37 v41 k0_t2 v668 v674 k0_hw29 k0_h15 => k0_hw29.1 k0_h15
theorem k0_off86_inb : ∀ (v37 : BitVec 32) (v41 : BitVec 32) (k0_t2 : Fin (k0_t2_loop v37 v41).trips) (v668 : BitVec 32) (v674 : BitVec 32) (k0_hw29 : k0_chk29 v37 v41 k0_t2 v668 v674) (k0_t13 : Fin (k0_t13_loop v37 v41 k0_t2 v668 v674).trips), ∀ (k0_h15 : k0_cond15 v37 v41 k0_t2 v668 v674 = 1#1), ∀ (r : Fin 8), ∀ a, (k0_off86 v37 v41 k0_t2 v668 v674 k0_t13 (BitVec.ofNat 32 (16 * r.val))) a + S16.size a ≤ S65536.size a := fun v37 v41 k0_t2 v668 v674 k0_hw29 k0_t13 k0_h15 r => k0_hw29.2.1 k0_t13 k0_h15 r
theorem k0_t14_ok : ∀ (v37 : BitVec 32) (v41 : BitVec 32) (k0_t2 : Fin (k0_t2_loop v37 v41).trips) (v668 : BitVec 32) (v674 : BitVec 32) (k0_hw29 : k0_chk29 v37 v41 k0_t2 v668 v674), ∀ (k0_h15 : k0_cond15 v37 v41 k0_t2 v668 v674 = 1#1), (k0_t14_loop v37 v41 k0_t2 v668 v674).OK := fun v37 v41 k0_t2 v668 v674 k0_hw29 k0_h15 => k0_hw29.2.2.1 k0_h15
theorem k0_off87_inb : ∀ (v37 : BitVec 32) (v41 : BitVec 32) (k0_t2 : Fin (k0_t2_loop v37 v41).trips) (v668 : BitVec 32) (v674 : BitVec 32) (k0_hw29 : k0_chk29 v37 v41 k0_t2 v668 v674) (k0_t14 : Fin (k0_t14_loop v37 v41 k0_t2 v668 v674).trips), ∀ (k0_h15 : k0_cond15 v37 v41 k0_t2 v668 v674 = 1#1), ∀ (r : Fin 8), ∀ a, (k0_off87 v37 v41 k0_t2 v668 v674 k0_t14 (BitVec.ofNat 32 (16 * r.val))) a + S16.size a ≤ S65536.size a := fun v37 v41 k0_t2 v668 v674 k0_hw29 k0_t14 k0_h15 r => k0_hw29.2.2.2 k0_t14 k0_h15 r

def k0_chk34 (v37 : BitVec 32) (v41 : BitVec 32) (k0_t2 : Fin (k0_t2_loop v37 v41).trips) (v668 : BitVec 32) (v674 : BitVec 32) (v855 : IVec S16 32) : Prop :=
  (∀ (k0_h15 : k0_cond15 v37 v41 k0_t2 v668 v674 = 1#1), ∀ a x, ((![v855] : Fin 1 → IVec S16 32) a x).toNat < S16.size a)
theorem k0_idx29_inb : ∀ (v37 : BitVec 32) (v41 : BitVec 32) (k0_t2 : Fin (k0_t2_loop v37 v41).trips) (v668 : BitVec 32) (v674 : BitVec 32) (v855 : IVec S16 32) (k0_hw34 : k0_chk34 v37 v41 k0_t2 v668 v674 v855), ∀ (k0_h15 : k0_cond15 v37 v41 k0_t2 v668 v674 = 1#1), ∀ a x, ((![v855] : Fin 1 → IVec S16 32) a x).toNat < S16.size a := fun v37 v41 k0_t2 v668 v674 v855 k0_hw34 k0_h15 => k0_hw34 k0_h15

def k0_chk35 (v37 : BitVec 32) (v41 : BitVec 32) (k0_t2 : Fin (k0_t2_loop v37 v41).trips) (v668 : BitVec 32) (v674 : BitVec 32) (v862 : IVec S16 32) : Prop :=
  (∀ (k0_h15 : k0_cond15 v37 v41 k0_t2 v668 v674 = 1#1), ∀ a x, ((![v862] : Fin 1 → IVec S16 32) a x).toNat < S16.size a)
theorem k0_idx30_inb : ∀ (v37 : BitVec 32) (v41 : BitVec 32) (k0_t2 : Fin (k0_t2_loop v37 v41).trips) (v668 : BitVec 32) (v674 : BitVec 32) (v862 : IVec S16 32) (k0_hw35 : k0_chk35 v37 v41 k0_t2 v668 v674 v862), ∀ (k0_h15 : k0_cond15 v37 v41 k0_t2 v668 v674 = 1#1), ∀ a x, ((![v862] : Fin 1 → IVec S16 32) a x).toNat < S16.size a := fun v37 v41 k0_t2 v668 v674 v862 k0_hw35 k0_h15 => k0_hw35 k0_h15

def k0_chk36 (v37 : BitVec 32) (v41 : BitVec 32) (k0_t2 : Fin (k0_t2_loop v37 v41).trips) (v668 : BitVec 32) (v674 : BitVec 32) (v869 : IVec S16 32) : Prop :=
  (∀ (k0_h15 : k0_cond15 v37 v41 k0_t2 v668 v674 = 1#1), ∀ a x, ((![v869] : Fin 1 → IVec S16 32) a x).toNat < S16.size a)
theorem k0_idx31_inb : ∀ (v37 : BitVec 32) (v41 : BitVec 32) (k0_t2 : Fin (k0_t2_loop v37 v41).trips) (v668 : BitVec 32) (v674 : BitVec 32) (v869 : IVec S16 32) (k0_hw36 : k0_chk36 v37 v41 k0_t2 v668 v674 v869), ∀ (k0_h15 : k0_cond15 v37 v41 k0_t2 v668 v674 = 1#1), ∀ a x, ((![v869] : Fin 1 → IVec S16 32) a x).toNat < S16.size a := fun v37 v41 k0_t2 v668 v674 v869 k0_hw36 k0_h15 => k0_hw36 k0_h15

def k0_chk37 (v37 : BitVec 32) (v41 : BitVec 32) (k0_t2 : Fin (k0_t2_loop v37 v41).trips) (v668 : BitVec 32) (v674 : BitVec 32) (v876 : IVec S16 32) : Prop :=
  (∀ (k0_h15 : k0_cond15 v37 v41 k0_t2 v668 v674 = 1#1), ∀ a x, ((![v876] : Fin 1 → IVec S16 32) a x).toNat < S16.size a)
theorem k0_idx32_inb : ∀ (v37 : BitVec 32) (v41 : BitVec 32) (k0_t2 : Fin (k0_t2_loop v37 v41).trips) (v668 : BitVec 32) (v674 : BitVec 32) (v876 : IVec S16 32) (k0_hw37 : k0_chk37 v37 v41 k0_t2 v668 v674 v876), ∀ (k0_h15 : k0_cond15 v37 v41 k0_t2 v668 v674 = 1#1), ∀ a x, ((![v876] : Fin 1 → IVec S16 32) a x).toNat < S16.size a := fun v37 v41 k0_t2 v668 v674 v876 k0_hw37 k0_h15 => k0_hw37 k0_h15
@[reducible] def k0_t15_loop (v37 : BitVec 32) (v41 : BitVec 32) : Scf.Loop 32 :=
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let v603 : BitVec 32 := Scalar.addi c0_i32_271 v602
  let c1_i32_274 : BitVec 32 := 1#32
  ⟨v606, v603, c1_i32_274⟩
def k0_off88 (v37 : BitVec 32) (v41 : BitVec 32) (k0_t15 : Fin (k0_t15_loop v37 v41).trips) : Fin 1 → Nat :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c0_i32_276 : BitVec 32 := 0#32
  let v608 : BitVec 32 := Scalar.addi v607 c0_i32_276
  let c3_i32_277 : BitVec 32 := 3#32
  let v609 : BitVec 32 := Scalar.addi v608 c3_i32_277
  let c128_i32_323 : BitVec 32 := 128#32
  let v664 : BitVec 32 := Scalar.muli v609 c128_i32_323
  let v665 : BitVec 32 := Scalar.addi v37 v664
  let c319872_i32_324 : BitVec 32 := 319872#32
  let v666 : BitVec 32 := Scalar.minsi v665 c319872_i32_324
  let c128_i32_325 : BitVec 32 := 128#32
  let v667 : BitVec 32 := Scalar.muli v666 c128_i32_325
  ![v667.toNat]
def k0_cond16 (v37 : BitVec 32) (v41 : BitVec 32) (k0_t15 : Fin (k0_t15_loop v37 v41).trips) : BitVec 1 :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c0_i32_276 : BitVec 32 := 0#32
  let v608 : BitVec 32 := Scalar.addi v607 c0_i32_276
  let c3_i32_277 : BitVec 32 := 3#32
  let v609 : BitVec 32 := Scalar.addi v608 c3_i32_277
  let v610 : BitVec 1 := Scalar.cmpi .slt v609 v60
  let v611 : BitVec 32 := Scalar.extui v610
  let c0_i32_278 : BitVec 32 := 0#32
  let v612 : BitVec 1 := Scalar.cmpi .ne v611 c0_i32_278
  v612

@[reducible] def k0_t16_loop : Scf.Loop 32 :=
  let c0_i32_283 : BitVec 32 := 0#32
  let c8_i32_284 : BitVec 32 := 8#32
  let v621 : BitVec 32 := Scalar.addi c0_i32_283 c8_i32_284
  let c1_i32_285 : BitVec 32 := 1#32
  ⟨c0_i32_283, v621, c1_i32_285⟩
def k0_off89 (k0_t16 : Fin k0_t16_loop.trips) : Fin 1 → Nat :=
  let c0_i32_283 : BitVec 32 := 0#32
  let c1_i32_285 : BitVec 32 := 1#32
  let arg21 : BitVec 32 := Scf.iv c0_i32_283 c1_i32_285 k0_t16
  let v664 : Index := Scalar.indexCast arg21
  ![v664.toNat]
def k0_off90 (k0_t16 : Fin k0_t16_loop.trips) : Fin 1 → Nat :=
  let c0_i32_283 : BitVec 32 := 0#32
  let c1_i32_285 : BitVec 32 := 1#32
  let arg21 : BitVec 32 := Scf.iv c0_i32_283 c1_i32_285 k0_t16
  let c1_i32_323 : BitVec 32 := 1#32
  let v669 : BitVec 32 := Scalar.addi arg21 c1_i32_323
  let v670 : Index := Scalar.indexCast v669
  ![v670.toNat]
def k0_off91 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v686 : Index := Scalar.indexCast arg21
  let c0_329 : Index := 0#32
  ![v686.toNat, 0]
def k0_off92 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v689 : Index := Scalar.indexCast arg21
  let c16_330 : Index := 16#32
  ![v689.toNat, 16]
def k0_off93 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v692 : Index := Scalar.indexCast arg21
  let c32_331 : Index := 32#32
  ![v692.toNat, 32]
def k0_off94 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v695 : Index := Scalar.indexCast arg21
  let c48_332 : Index := 48#32
  ![v695.toNat, 48]
def k0_off95 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v698 : Index := Scalar.indexCast arg21
  let c64_333 : Index := 64#32
  ![v698.toNat, 64]
def k0_off96 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v701 : Index := Scalar.indexCast arg21
  let c80_334 : Index := 80#32
  ![v701.toNat, 80]
def k0_off97 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v704 : Index := Scalar.indexCast arg21
  let c96_335 : Index := 96#32
  ![v704.toNat, 96]
def k0_off98 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v707 : Index := Scalar.indexCast arg21
  let c112_336 : Index := 112#32
  ![v707.toNat, 112]
def k0_off99 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v710 : Index := Scalar.indexCast arg21
  let c128_337 : Index := 128#32
  ![v710.toNat, 128]
def k0_off100 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v713 : Index := Scalar.indexCast arg21
  let c144_338 : Index := 144#32
  ![v713.toNat, 144]
def k0_off101 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v716 : Index := Scalar.indexCast arg21
  let c160_339 : Index := 160#32
  ![v716.toNat, 160]
def k0_off102 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v719 : Index := Scalar.indexCast arg21
  let c176_340 : Index := 176#32
  ![v719.toNat, 176]
def k0_off103 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v722 : Index := Scalar.indexCast arg21
  let c192_341 : Index := 192#32
  ![v722.toNat, 192]
def k0_off104 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v725 : Index := Scalar.indexCast arg21
  let c208_342 : Index := 208#32
  ![v725.toNat, 208]
def k0_off105 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v728 : Index := Scalar.indexCast arg21
  let c224_343 : Index := 224#32
  ![v728.toNat, 224]
def k0_off106 (k0_t16 : Fin k0_t16_loop.trips) : Fin 2 → Nat :=
  let c0_i32_283 : BitVec 32 := 0#32
  let c1_i32_285 : BitVec 32 := 1#32
  let arg21 : BitVec 32 := Scf.iv c0_i32_283 c1_i32_285 k0_t16
  let v731 : Index := Scalar.indexCast arg21
  let c240_344 : Index := 240#32
  ![v731.toNat, 240]
@[reducible] def k0_t17_loop (v37 : BitVec 32) (v41 : BitVec 32) (k0_t15 : Fin (k0_t15_loop v37 v41).trips) (v668 : BitVec 32) (v674 : BitVec 32) : Scf.Loop 32 :=
  let c0_i32_345 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c128_i32_324 : BitVec 32 := 128#32
  let v676 : BitVec 32 := Scalar.addi v615 c128_i32_324
  let v677 : BitVec 32 := Scalar.minsi v674 v676
  let v675 : BitVec 32 := Scalar.maxsi v668 v615
  let v678 : BitVec 32 := Scalar.subi v677 v675
  let v734 : BitVec 32 := Scalar.subi v678 c0_i32_345
  let c1_i32_346 : BitVec 32 := 1#32
  let v736 : BitVec 32 := Scalar.divsi v734 c1_i32_346
  let v737 : BitVec 32 := Scalar.muli v736 c1_i32_346
  let v738 : BitVec 32 := Scalar.addi c0_i32_345 v737
  let c1_i32_347 : BitVec 32 := 1#32
  ⟨c0_i32_345, v738, c1_i32_347⟩
def k0_cond18 (v37 : BitVec 32) (v41 : BitVec 32) (k0_t15 : Fin (k0_t15_loop v37 v41).trips) (v668 : BitVec 32) (v674 : BitVec 32) : BitVec 1 :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c128_i32_324 : BitVec 32 := 128#32
  let v676 : BitVec 32 := Scalar.addi v615 c128_i32_324
  let v677 : BitVec 32 := Scalar.minsi v674 v676
  let v675 : BitVec 32 := Scalar.maxsi v668 v615
  let v678 : BitVec 32 := Scalar.subi v677 v675
  let c0_i32_327 : BitVec 32 := 0#32
  let v683 : BitVec 1 := Scalar.cmpi .sgt v678 c0_i32_327
  let v684 : BitVec 32 := Scalar.extui v683
  let c0_i32_328 : BitVec 32 := 0#32
  let v685 : BitVec 1 := Scalar.cmpi .ne v684 c0_i32_328
  v685

def k0_off107 (v37 : BitVec 32) (v41 : BitVec 32) (k0_t15 : Fin (k0_t15_loop v37 v41).trips) (v668 : BitVec 32) (v674 : BitVec 32) (k0_t17 : Fin (k0_t17_loop v37 v41 k0_t15 v668 v674).trips) (c0_i32_366 : BitVec 32) : Fin 1 → Nat :=
  let c0_i32_326 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c319872_i32 : BitVec 32 := 319872#32
  let v616 : BitVec 32 := Scalar.minsi v615 c319872_i32
  let v617 : BitVec 32 := Scalar.subi v615 v616
  let v675 : BitVec 32 := Scalar.maxsi v668 v615
  let v679 : BitVec 32 := Scalar.subi v675 v615
  let v680 : BitVec 32 := Scalar.addi v617 v679
  let c128_i32_325 : BitVec 32 := 128#32
  let v681 : BitVec 32 := Scalar.muli v680 c128_i32_325
  let v682 : BitVec 32 := Scalar.addi c0_i32_326 v681
  let c0_i32_345 : BitVec 32 := 0#32
  let c1_i32_347 : BitVec 32 := 1#32
  let arg22 : BitVec 32 := Scf.iv c0_i32_345 c1_i32_347 k0_t17
  let c128_i32_365 : BitVec 32 := 128#32
  let v805 : BitVec 32 := Scalar.muli arg22 c128_i32_365
  let v806 : BitVec 32 := Scalar.addi v682 v805
  let v807 : BitVec 32 := Scalar.addi v806 c0_i32_366
  let v808 : Index := Scalar.indexCast v807
  ![v808.toNat]

def k0_chk39 (v37 : BitVec 32) (v41 : BitVec 32) (k0_t15 : Fin (k0_t15_loop v37 v41).trips) (v668 : BitVec 32) (v674 : BitVec 32) (v855 : IVec S16 32) : Prop :=
  (∀ (k0_h18 : k0_cond18 v37 v41 k0_t15 v668 v674 = 1#1), ∀ a x, ((![v855] : Fin 1 → IVec S16 32) a x).toNat < S16.size a)
theorem k0_idx33_inb : ∀ (v37 : BitVec 32) (v41 : BitVec 32) (k0_t15 : Fin (k0_t15_loop v37 v41).trips) (v668 : BitVec 32) (v674 : BitVec 32) (v855 : IVec S16 32) (k0_hw39 : k0_chk39 v37 v41 k0_t15 v668 v674 v855), ∀ (k0_h18 : k0_cond18 v37 v41 k0_t15 v668 v674 = 1#1), ∀ a x, ((![v855] : Fin 1 → IVec S16 32) a x).toNat < S16.size a := fun v37 v41 k0_t15 v668 v674 v855 k0_hw39 k0_h18 => k0_hw39 k0_h18

def k0_chk40 (v37 : BitVec 32) (v41 : BitVec 32) (k0_t15 : Fin (k0_t15_loop v37 v41).trips) (v668 : BitVec 32) (v674 : BitVec 32) (v862 : IVec S16 32) : Prop :=
  (∀ (k0_h18 : k0_cond18 v37 v41 k0_t15 v668 v674 = 1#1), ∀ a x, ((![v862] : Fin 1 → IVec S16 32) a x).toNat < S16.size a)
theorem k0_idx34_inb : ∀ (v37 : BitVec 32) (v41 : BitVec 32) (k0_t15 : Fin (k0_t15_loop v37 v41).trips) (v668 : BitVec 32) (v674 : BitVec 32) (v862 : IVec S16 32) (k0_hw40 : k0_chk40 v37 v41 k0_t15 v668 v674 v862), ∀ (k0_h18 : k0_cond18 v37 v41 k0_t15 v668 v674 = 1#1), ∀ a x, ((![v862] : Fin 1 → IVec S16 32) a x).toNat < S16.size a := fun v37 v41 k0_t15 v668 v674 v862 k0_hw40 k0_h18 => k0_hw40 k0_h18

def k0_chk41 (v37 : BitVec 32) (v41 : BitVec 32) (k0_t15 : Fin (k0_t15_loop v37 v41).trips) (v668 : BitVec 32) (v674 : BitVec 32) (v869 : IVec S16 32) : Prop :=
  (∀ (k0_h18 : k0_cond18 v37 v41 k0_t15 v668 v674 = 1#1), ∀ a x, ((![v869] : Fin 1 → IVec S16 32) a x).toNat < S16.size a)
theorem k0_idx35_inb : ∀ (v37 : BitVec 32) (v41 : BitVec 32) (k0_t15 : Fin (k0_t15_loop v37 v41).trips) (v668 : BitVec 32) (v674 : BitVec 32) (v869 : IVec S16 32) (k0_hw41 : k0_chk41 v37 v41 k0_t15 v668 v674 v869), ∀ (k0_h18 : k0_cond18 v37 v41 k0_t15 v668 v674 = 1#1), ∀ a x, ((![v869] : Fin 1 → IVec S16 32) a x).toNat < S16.size a := fun v37 v41 k0_t15 v668 v674 v869 k0_hw41 k0_h18 => k0_hw41 k0_h18

def k0_chk42 (v37 : BitVec 32) (v41 : BitVec 32) (k0_t15 : Fin (k0_t15_loop v37 v41).trips) (v668 : BitVec 32) (v674 : BitVec 32) (v876 : IVec S16 32) : Prop :=
  (∀ (k0_h18 : k0_cond18 v37 v41 k0_t15 v668 v674 = 1#1), ∀ a x, ((![v876] : Fin 1 → IVec S16 32) a x).toNat < S16.size a)
theorem k0_idx36_inb : ∀ (v37 : BitVec 32) (v41 : BitVec 32) (k0_t15 : Fin (k0_t15_loop v37 v41).trips) (v668 : BitVec 32) (v674 : BitVec 32) (v876 : IVec S16 32) (k0_hw42 : k0_chk42 v37 v41 k0_t15 v668 v674 v876), ∀ (k0_h18 : k0_cond18 v37 v41 k0_t15 v668 v674 = 1#1), ∀ a x, ((![v876] : Fin 1 → IVec S16 32) a x).toNat < S16.size a := fun v37 v41 k0_t15 v668 v674 v876 k0_hw42 k0_h18 => k0_hw42 k0_h18
@[reducible] def k0_t18_loop (v37 : BitVec 32) (v41 : BitVec 32) (k0_t15 : Fin (k0_t15_loop v37 v41).trips) (v668 : BitVec 32) (v674 : BitVec 32) : Scf.Loop 32 :=
  let c0_i32_345 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c128_i32_324 : BitVec 32 := 128#32
  let v676 : BitVec 32 := Scalar.addi v615 c128_i32_324
  let v677 : BitVec 32 := Scalar.minsi v674 v676
  let v675 : BitVec 32 := Scalar.maxsi v668 v615
  let v678 : BitVec 32 := Scalar.subi v677 v675
  let v734 : BitVec 32 := Scalar.subi v678 c0_i32_345
  let c1_i32_346 : BitVec 32 := 1#32
  let v736 : BitVec 32 := Scalar.divsi v734 c1_i32_346
  let v737 : BitVec 32 := Scalar.muli v736 c1_i32_346
  let v738 : BitVec 32 := Scalar.addi c0_i32_345 v737
  let v735 : BitVec 32 := Scalar.addi c0_i32_345 v734
  let c1_i32_348 : BitVec 32 := 1#32
  ⟨v738, v735, c1_i32_348⟩
def k0_off108 (v37 : BitVec 32) (v41 : BitVec 32) (k0_t15 : Fin (k0_t15_loop v37 v41).trips) (v668 : BitVec 32) (v674 : BitVec 32) (k0_t18 : Fin (k0_t18_loop v37 v41 k0_t15 v668 v674).trips) (c0_i32_366 : BitVec 32) : Fin 1 → Nat :=
  let c0_i32_326 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c0_i32_279 : BitVec 32 := 0#32
  let v613 : BitVec 32 := Scalar.addi v607 c0_i32_279
  let c128_i32_280 : BitVec 32 := 128#32
  let v614 : BitVec 32 := Scalar.muli v613 c128_i32_280
  let v615 : BitVec 32 := Scalar.addi v37 v614
  let c319872_i32 : BitVec 32 := 319872#32
  let v616 : BitVec 32 := Scalar.minsi v615 c319872_i32
  let v617 : BitVec 32 := Scalar.subi v615 v616
  let v675 : BitVec 32 := Scalar.maxsi v668 v615
  let v679 : BitVec 32 := Scalar.subi v675 v615
  let v680 : BitVec 32 := Scalar.addi v617 v679
  let c128_i32_325 : BitVec 32 := 128#32
  let v681 : BitVec 32 := Scalar.muli v680 c128_i32_325
  let v682 : BitVec 32 := Scalar.addi c0_i32_326 v681
  let c0_i32_345 : BitVec 32 := 0#32
  let c128_i32_324 : BitVec 32 := 128#32
  let v676 : BitVec 32 := Scalar.addi v615 c128_i32_324
  let v677 : BitVec 32 := Scalar.minsi v674 v676
  let v678 : BitVec 32 := Scalar.subi v677 v675
  let v734 : BitVec 32 := Scalar.subi v678 c0_i32_345
  let c1_i32_346 : BitVec 32 := 1#32
  let v736 : BitVec 32 := Scalar.divsi v734 c1_i32_346
  let v737 : BitVec 32 := Scalar.muli v736 c1_i32_346
  let v738 : BitVec 32 := Scalar.addi c0_i32_345 v737
  let c1_i32_348 : BitVec 32 := 1#32
  let arg22 : BitVec 32 := Scf.iv v738 c1_i32_348 k0_t18
  let c128_i32_365 : BitVec 32 := 128#32
  let v805 : BitVec 32 := Scalar.muli arg22 c128_i32_365
  let v806 : BitVec 32 := Scalar.addi v682 v805
  let v807 : BitVec 32 := Scalar.addi v806 c0_i32_366
  let v808 : Index := Scalar.indexCast v807
  ![v808.toNat]

def k0_chk38 (v37 : BitVec 32) (v41 : BitVec 32) (k0_t15 : Fin (k0_t15_loop v37 v41).trips) (v668 : BitVec 32) (v674 : BitVec 32) : Prop :=
  (∀ (k0_h18 : k0_cond18 v37 v41 k0_t15 v668 v674 = 1#1), (k0_t17_loop v37 v41 k0_t15 v668 v674).OK) ∧
  (∀ k0_t17 : Fin (k0_t17_loop v37 v41 k0_t15 v668 v674).trips, ∀ (k0_h18 : k0_cond18 v37 v41 k0_t15 v668 v674 = 1#1), ∀ (r : Fin 8), ∀ a, (k0_off107 v37 v41 k0_t15 v668 v674 k0_t17 (BitVec.ofNat 32 (16 * r.val))) a + S16.size a ≤ S65536.size a) ∧
  (∀ (k0_h18 : k0_cond18 v37 v41 k0_t15 v668 v674 = 1#1), (k0_t18_loop v37 v41 k0_t15 v668 v674).OK) ∧
  (∀ k0_t18 : Fin (k0_t18_loop v37 v41 k0_t15 v668 v674).trips, ∀ (k0_h18 : k0_cond18 v37 v41 k0_t15 v668 v674 = 1#1), ∀ (r : Fin 8), ∀ a, (k0_off108 v37 v41 k0_t15 v668 v674 k0_t18 (BitVec.ofNat 32 (16 * r.val))) a + S16.size a ≤ S65536.size a)
theorem k0_t17_ok : ∀ (v37 : BitVec 32) (v41 : BitVec 32) (k0_t15 : Fin (k0_t15_loop v37 v41).trips) (v668 : BitVec 32) (v674 : BitVec 32) (k0_hw38 : k0_chk38 v37 v41 k0_t15 v668 v674), ∀ (k0_h18 : k0_cond18 v37 v41 k0_t15 v668 v674 = 1#1), (k0_t17_loop v37 v41 k0_t15 v668 v674).OK := fun v37 v41 k0_t15 v668 v674 k0_hw38 k0_h18 => k0_hw38.1 k0_h18
theorem k0_off107_inb : ∀ (v37 : BitVec 32) (v41 : BitVec 32) (k0_t15 : Fin (k0_t15_loop v37 v41).trips) (v668 : BitVec 32) (v674 : BitVec 32) (k0_hw38 : k0_chk38 v37 v41 k0_t15 v668 v674) (k0_t17 : Fin (k0_t17_loop v37 v41 k0_t15 v668 v674).trips), ∀ (k0_h18 : k0_cond18 v37 v41 k0_t15 v668 v674 = 1#1), ∀ (r : Fin 8), ∀ a, (k0_off107 v37 v41 k0_t15 v668 v674 k0_t17 (BitVec.ofNat 32 (16 * r.val))) a + S16.size a ≤ S65536.size a := fun v37 v41 k0_t15 v668 v674 k0_hw38 k0_t17 k0_h18 r => k0_hw38.2.1 k0_t17 k0_h18 r
theorem k0_t18_ok : ∀ (v37 : BitVec 32) (v41 : BitVec 32) (k0_t15 : Fin (k0_t15_loop v37 v41).trips) (v668 : BitVec 32) (v674 : BitVec 32) (k0_hw38 : k0_chk38 v37 v41 k0_t15 v668 v674), ∀ (k0_h18 : k0_cond18 v37 v41 k0_t15 v668 v674 = 1#1), (k0_t18_loop v37 v41 k0_t15 v668 v674).OK := fun v37 v41 k0_t15 v668 v674 k0_hw38 k0_h18 => k0_hw38.2.2.1 k0_h18
theorem k0_off108_inb : ∀ (v37 : BitVec 32) (v41 : BitVec 32) (k0_t15 : Fin (k0_t15_loop v37 v41).trips) (v668 : BitVec 32) (v674 : BitVec 32) (k0_hw38 : k0_chk38 v37 v41 k0_t15 v668 v674) (k0_t18 : Fin (k0_t18_loop v37 v41 k0_t15 v668 v674).trips), ∀ (k0_h18 : k0_cond18 v37 v41 k0_t15 v668 v674 = 1#1), ∀ (r : Fin 8), ∀ a, (k0_off108 v37 v41 k0_t15 v668 v674 k0_t18 (BitVec.ofNat 32 (16 * r.val))) a + S16.size a ≤ S65536.size a := fun v37 v41 k0_t15 v668 v674 k0_hw38 k0_t18 k0_h18 r => k0_hw38.2.2.2 k0_t18 k0_h18 r

def k0_chk43 (v37 : BitVec 32) (v41 : BitVec 32) (k0_t15 : Fin (k0_t15_loop v37 v41).trips) (v668 : BitVec 32) (v674 : BitVec 32) (v855 : IVec S16 32) : Prop :=
  (∀ (k0_h18 : k0_cond18 v37 v41 k0_t15 v668 v674 = 1#1), ∀ a x, ((![v855] : Fin 1 → IVec S16 32) a x).toNat < S16.size a)
theorem k0_idx37_inb : ∀ (v37 : BitVec 32) (v41 : BitVec 32) (k0_t15 : Fin (k0_t15_loop v37 v41).trips) (v668 : BitVec 32) (v674 : BitVec 32) (v855 : IVec S16 32) (k0_hw43 : k0_chk43 v37 v41 k0_t15 v668 v674 v855), ∀ (k0_h18 : k0_cond18 v37 v41 k0_t15 v668 v674 = 1#1), ∀ a x, ((![v855] : Fin 1 → IVec S16 32) a x).toNat < S16.size a := fun v37 v41 k0_t15 v668 v674 v855 k0_hw43 k0_h18 => k0_hw43 k0_h18

def k0_chk44 (v37 : BitVec 32) (v41 : BitVec 32) (k0_t15 : Fin (k0_t15_loop v37 v41).trips) (v668 : BitVec 32) (v674 : BitVec 32) (v862 : IVec S16 32) : Prop :=
  (∀ (k0_h18 : k0_cond18 v37 v41 k0_t15 v668 v674 = 1#1), ∀ a x, ((![v862] : Fin 1 → IVec S16 32) a x).toNat < S16.size a)
theorem k0_idx38_inb : ∀ (v37 : BitVec 32) (v41 : BitVec 32) (k0_t15 : Fin (k0_t15_loop v37 v41).trips) (v668 : BitVec 32) (v674 : BitVec 32) (v862 : IVec S16 32) (k0_hw44 : k0_chk44 v37 v41 k0_t15 v668 v674 v862), ∀ (k0_h18 : k0_cond18 v37 v41 k0_t15 v668 v674 = 1#1), ∀ a x, ((![v862] : Fin 1 → IVec S16 32) a x).toNat < S16.size a := fun v37 v41 k0_t15 v668 v674 v862 k0_hw44 k0_h18 => k0_hw44 k0_h18

def k0_chk45 (v37 : BitVec 32) (v41 : BitVec 32) (k0_t15 : Fin (k0_t15_loop v37 v41).trips) (v668 : BitVec 32) (v674 : BitVec 32) (v869 : IVec S16 32) : Prop :=
  (∀ (k0_h18 : k0_cond18 v37 v41 k0_t15 v668 v674 = 1#1), ∀ a x, ((![v869] : Fin 1 → IVec S16 32) a x).toNat < S16.size a)
theorem k0_idx39_inb : ∀ (v37 : BitVec 32) (v41 : BitVec 32) (k0_t15 : Fin (k0_t15_loop v37 v41).trips) (v668 : BitVec 32) (v674 : BitVec 32) (v869 : IVec S16 32) (k0_hw45 : k0_chk45 v37 v41 k0_t15 v668 v674 v869), ∀ (k0_h18 : k0_cond18 v37 v41 k0_t15 v668 v674 = 1#1), ∀ a x, ((![v869] : Fin 1 → IVec S16 32) a x).toNat < S16.size a := fun v37 v41 k0_t15 v668 v674 v869 k0_hw45 k0_h18 => k0_hw45 k0_h18

def k0_chk46 (v37 : BitVec 32) (v41 : BitVec 32) (k0_t15 : Fin (k0_t15_loop v37 v41).trips) (v668 : BitVec 32) (v674 : BitVec 32) (v876 : IVec S16 32) : Prop :=
  (∀ (k0_h18 : k0_cond18 v37 v41 k0_t15 v668 v674 = 1#1), ∀ a x, ((![v876] : Fin 1 → IVec S16 32) a x).toNat < S16.size a)
theorem k0_idx40_inb : ∀ (v37 : BitVec 32) (v41 : BitVec 32) (k0_t15 : Fin (k0_t15_loop v37 v41).trips) (v668 : BitVec 32) (v674 : BitVec 32) (v876 : IVec S16 32) (k0_hw46 : k0_chk46 v37 v41 k0_t15 v668 v674 v876), ∀ (k0_h18 : k0_cond18 v37 v41 k0_t15 v668 v674 = 1#1), ∀ a x, ((![v876] : Fin 1 → IVec S16 32) a x).toNat < S16.size a := fun v37 v41 k0_t15 v668 v674 v876 k0_hw46 k0_h18 => k0_hw46 k0_h18
def k0_off109 (v37 : BitVec 32) (v41 : BitVec 32) (k0_t15 : Fin (k0_t15_loop v37 v41).trips) : Fin 1 → Nat :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c1_i32_287 : BitVec 32 := 1#32
  let v622 : BitVec 32 := Scalar.addi v607 c1_i32_287
  let c3_i32_288 : BitVec 32 := 3#32
  let v623 : BitVec 32 := Scalar.addi v622 c3_i32_288
  let c128_i32_323 : BitVec 32 := 128#32
  let v664 : BitVec 32 := Scalar.muli v623 c128_i32_323
  let v665 : BitVec 32 := Scalar.addi v37 v664
  let c319872_i32_324 : BitVec 32 := 319872#32
  let v666 : BitVec 32 := Scalar.minsi v665 c319872_i32_324
  let c128_i32_325 : BitVec 32 := 128#32
  let v667 : BitVec 32 := Scalar.muli v666 c128_i32_325
  ![v667.toNat]
def k0_cond19 (v37 : BitVec 32) (v41 : BitVec 32) (k0_t15 : Fin (k0_t15_loop v37 v41).trips) : BitVec 1 :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c1_i32_287 : BitVec 32 := 1#32
  let v622 : BitVec 32 := Scalar.addi v607 c1_i32_287
  let c3_i32_288 : BitVec 32 := 3#32
  let v623 : BitVec 32 := Scalar.addi v622 c3_i32_288
  let v624 : BitVec 1 := Scalar.cmpi .slt v623 v60
  let v625 : BitVec 32 := Scalar.extui v624
  let c0_i32_289 : BitVec 32 := 0#32
  let v626 : BitVec 1 := Scalar.cmpi .ne v625 c0_i32_289
  v626

@[reducible] def k0_t19_loop : Scf.Loop 32 :=
  let c0_i32_295 : BitVec 32 := 0#32
  let c8_i32_296 : BitVec 32 := 8#32
  let v635 : BitVec 32 := Scalar.addi c0_i32_295 c8_i32_296
  let c1_i32_297 : BitVec 32 := 1#32
  ⟨c0_i32_295, v635, c1_i32_297⟩
def k0_off110 (k0_t19 : Fin k0_t19_loop.trips) : Fin 1 → Nat :=
  let c0_i32_295 : BitVec 32 := 0#32
  let c1_i32_297 : BitVec 32 := 1#32
  let arg21 : BitVec 32 := Scf.iv c0_i32_295 c1_i32_297 k0_t19
  let v664 : Index := Scalar.indexCast arg21
  ![v664.toNat]
def k0_off111 (k0_t19 : Fin k0_t19_loop.trips) : Fin 1 → Nat :=
  let c0_i32_295 : BitVec 32 := 0#32
  let c1_i32_297 : BitVec 32 := 1#32
  let arg21 : BitVec 32 := Scf.iv c0_i32_295 c1_i32_297 k0_t19
  let c1_i32_323 : BitVec 32 := 1#32
  let v669 : BitVec 32 := Scalar.addi arg21 c1_i32_323
  let v670 : Index := Scalar.indexCast v669
  ![v670.toNat]
def k0_off112 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v686 : Index := Scalar.indexCast arg21
  let c0_328 : Index := 0#32
  ![v686.toNat, 0]
def k0_off113 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v689 : Index := Scalar.indexCast arg21
  let c16_329 : Index := 16#32
  ![v689.toNat, 16]
def k0_off114 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v692 : Index := Scalar.indexCast arg21
  let c32_330 : Index := 32#32
  ![v692.toNat, 32]
def k0_off115 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v695 : Index := Scalar.indexCast arg21
  let c48_331 : Index := 48#32
  ![v695.toNat, 48]
def k0_off116 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v698 : Index := Scalar.indexCast arg21
  let c64_332 : Index := 64#32
  ![v698.toNat, 64]
def k0_off117 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v701 : Index := Scalar.indexCast arg21
  let c80_333 : Index := 80#32
  ![v701.toNat, 80]
def k0_off118 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v704 : Index := Scalar.indexCast arg21
  let c96_334 : Index := 96#32
  ![v704.toNat, 96]
def k0_off119 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v707 : Index := Scalar.indexCast arg21
  let c112_335 : Index := 112#32
  ![v707.toNat, 112]
def k0_off120 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v710 : Index := Scalar.indexCast arg21
  let c128_336 : Index := 128#32
  ![v710.toNat, 128]
def k0_off121 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v713 : Index := Scalar.indexCast arg21
  let c144_337 : Index := 144#32
  ![v713.toNat, 144]
def k0_off122 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v716 : Index := Scalar.indexCast arg21
  let c160_338 : Index := 160#32
  ![v716.toNat, 160]
def k0_off123 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v719 : Index := Scalar.indexCast arg21
  let c176_339 : Index := 176#32
  ![v719.toNat, 176]
def k0_off124 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v722 : Index := Scalar.indexCast arg21
  let c192_340 : Index := 192#32
  ![v722.toNat, 192]
def k0_off125 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v725 : Index := Scalar.indexCast arg21
  let c208_341 : Index := 208#32
  ![v725.toNat, 208]
def k0_off126 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v728 : Index := Scalar.indexCast arg21
  let c224_342 : Index := 224#32
  ![v728.toNat, 224]
def k0_off127 (k0_t19 : Fin k0_t19_loop.trips) : Fin 2 → Nat :=
  let c0_i32_295 : BitVec 32 := 0#32
  let c1_i32_297 : BitVec 32 := 1#32
  let arg21 : BitVec 32 := Scf.iv c0_i32_295 c1_i32_297 k0_t19
  let v731 : Index := Scalar.indexCast arg21
  let c240_343 : Index := 240#32
  ![v731.toNat, 240]
@[reducible] def k0_t20_loop (v37 : BitVec 32) (v41 : BitVec 32) (k0_t15 : Fin (k0_t15_loop v37 v41).trips) (v668 : BitVec 32) (v674 : BitVec 32) : Scf.Loop 32 :=
  let c0_i32_344 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c128_i32_324 : BitVec 32 := 128#32
  let v676 : BitVec 32 := Scalar.addi v629 c128_i32_324
  let v677 : BitVec 32 := Scalar.minsi v674 v676
  let v675 : BitVec 32 := Scalar.maxsi v668 v629
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_346 : BitVec 32 := 1#32
  ⟨c0_i32_344, v738, c1_i32_346⟩
def k0_cond21 (v37 : BitVec 32) (v41 : BitVec 32) (k0_t15 : Fin (k0_t15_loop v37 v41).trips) (v668 : BitVec 32) (v674 : BitVec 32) : BitVec 1 :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c128_i32_324 : BitVec 32 := 128#32
  let v676 : BitVec 32 := Scalar.addi v629 c128_i32_324
  let v677 : BitVec 32 := Scalar.minsi v674 v676
  let v675 : BitVec 32 := Scalar.maxsi v668 v629
  let v678 : BitVec 32 := Scalar.subi v677 v675
  let c0_i32_326 : BitVec 32 := 0#32
  let v683 : BitVec 1 := Scalar.cmpi .sgt v678 c0_i32_326
  let v684 : BitVec 32 := Scalar.extui v683
  let c0_i32_327 : BitVec 32 := 0#32
  let v685 : BitVec 1 := Scalar.cmpi .ne v684 c0_i32_327
  v685

def k0_off128 (v37 : BitVec 32) (v41 : BitVec 32) (k0_t15 : Fin (k0_t15_loop v37 v41).trips) (v668 : BitVec 32) (v674 : BitVec 32) (k0_t20 : Fin (k0_t20_loop v37 v41 k0_t15 v668 v674).trips) (c0_i32_365 : BitVec 32) : Fin 1 → Nat :=
  let c16384_i32 : BitVec 32 := 16384#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c319872_i32_292 : BitVec 32 := 319872#32
  let v630 : BitVec 32 := Scalar.minsi v629 c319872_i32_292
  let v631 : BitVec 32 := Scalar.subi v629 v630
  let v675 : BitVec 32 := Scalar.maxsi v668 v629
  let v679 : BitVec 32 := Scalar.subi v675 v629
  let v680 : BitVec 32 := Scalar.addi v631 v679
  let c128_i32_325 : BitVec 32 := 128#32
  let v681 : BitVec 32 := Scalar.muli v680 c128_i32_325
  let v682 : BitVec 32 := Scalar.addi c16384_i32 v681
  let c0_i32_344 : BitVec 32 := 0#32
  let c1_i32_346 : BitVec 32 := 1#32
  let arg22 : BitVec 32 := Scf.iv c0_i32_344 c1_i32_346 k0_t20
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk48 (v37 : BitVec 32) (v41 : BitVec 32) (k0_t15 : Fin (k0_t15_loop v37 v41).trips) (v668 : BitVec 32) (v674 : BitVec 32) (v855 : IVec S16 32) : Prop :=
  (∀ (k0_h21 : k0_cond21 v37 v41 k0_t15 v668 v674 = 1#1), ∀ a x, ((![v855] : Fin 1 → IVec S16 32) a x).toNat < S16.size a)
theorem k0_idx41_inb : ∀ (v37 : BitVec 32) (v41 : BitVec 32) (k0_t15 : Fin (k0_t15_loop v37 v41).trips) (v668 : BitVec 32) (v674 : BitVec 32) (v855 : IVec S16 32) (k0_hw48 : k0_chk48 v37 v41 k0_t15 v668 v674 v855), ∀ (k0_h21 : k0_cond21 v37 v41 k0_t15 v668 v674 = 1#1), ∀ a x, ((![v855] : Fin 1 → IVec S16 32) a x).toNat < S16.size a := fun v37 v41 k0_t15 v668 v674 v855 k0_hw48 k0_h21 => k0_hw48 k0_h21

def k0_chk49 (v37 : BitVec 32) (v41 : BitVec 32) (k0_t15 : Fin (k0_t15_loop v37 v41).trips) (v668 : BitVec 32) (v674 : BitVec 32) (v862 : IVec S16 32) : Prop :=
  (∀ (k0_h21 : k0_cond21 v37 v41 k0_t15 v668 v674 = 1#1), ∀ a x, ((![v862] : Fin 1 → IVec S16 32) a x).toNat < S16.size a)
theorem k0_idx42_inb : ∀ (v37 : BitVec 32) (v41 : BitVec 32) (k0_t15 : Fin (k0_t15_loop v37 v41).trips) (v668 : BitVec 32) (v674 : BitVec 32) (v862 : IVec S16 32) (k0_hw49 : k0_chk49 v37 v41 k0_t15 v668 v674 v862), ∀ (k0_h21 : k0_cond21 v37 v41 k0_t15 v668 v674 = 1#1), ∀ a x, ((![v862] : Fin 1 → IVec S16 32) a x).toNat < S16.size a := fun v37 v41 k0_t15 v668 v674 v862 k0_hw49 k0_h21 => k0_hw49 k0_h21

def k0_chk50 (v37 : BitVec 32) (v41 : BitVec 32) (k0_t15 : Fin (k0_t15_loop v37 v41).trips) (v668 : BitVec 32) (v674 : BitVec 32) (v869 : IVec S16 32) : Prop :=
  (∀ (k0_h21 : k0_cond21 v37 v41 k0_t15 v668 v674 = 1#1), ∀ a x, ((![v869] : Fin 1 → IVec S16 32) a x).toNat < S16.size a)
theorem k0_idx43_inb : ∀ (v37 : BitVec 32) (v41 : BitVec 32) (k0_t15 : Fin (k0_t15_loop v37 v41).trips) (v668 : BitVec 32) (v674 : BitVec 32) (v869 : IVec S16 32) (k0_hw50 : k0_chk50 v37 v41 k0_t15 v668 v674 v869), ∀ (k0_h21 : k0_cond21 v37 v41 k0_t15 v668 v674 = 1#1), ∀ a x, ((![v869] : Fin 1 → IVec S16 32) a x).toNat < S16.size a := fun v37 v41 k0_t15 v668 v674 v869 k0_hw50 k0_h21 => k0_hw50 k0_h21

def k0_chk51 (v37 : BitVec 32) (v41 : BitVec 32) (k0_t15 : Fin (k0_t15_loop v37 v41).trips) (v668 : BitVec 32) (v674 : BitVec 32) (v876 : IVec S16 32) : Prop :=
  (∀ (k0_h21 : k0_cond21 v37 v41 k0_t15 v668 v674 = 1#1), ∀ a x, ((![v876] : Fin 1 → IVec S16 32) a x).toNat < S16.size a)
theorem k0_idx44_inb : ∀ (v37 : BitVec 32) (v41 : BitVec 32) (k0_t15 : Fin (k0_t15_loop v37 v41).trips) (v668 : BitVec 32) (v674 : BitVec 32) (v876 : IVec S16 32) (k0_hw51 : k0_chk51 v37 v41 k0_t15 v668 v674 v876), ∀ (k0_h21 : k0_cond21 v37 v41 k0_t15 v668 v674 = 1#1), ∀ a x, ((![v876] : Fin 1 → IVec S16 32) a x).toNat < S16.size a := fun v37 v41 k0_t15 v668 v674 v876 k0_hw51 k0_h21 => k0_hw51 k0_h21
@[reducible] def k0_t21_loop (v37 : BitVec 32) (v41 : BitVec 32) (k0_t15 : Fin (k0_t15_loop v37 v41).trips) (v668 : BitVec 32) (v674 : BitVec 32) : Scf.Loop 32 :=
  let c0_i32_344 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c128_i32_324 : BitVec 32 := 128#32
  let v676 : BitVec 32 := Scalar.addi v629 c128_i32_324
  let v677 : BitVec 32 := Scalar.minsi v674 v676
  let v675 : BitVec 32 := Scalar.maxsi v668 v629
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let v735 : BitVec 32 := Scalar.addi c0_i32_344 v734
  let c1_i32_347 : BitVec 32 := 1#32
  ⟨v738, v735, c1_i32_347⟩
def k0_off129 (v37 : BitVec 32) (v41 : BitVec 32) (k0_t15 : Fin (k0_t15_loop v37 v41).trips) (v668 : BitVec 32) (v674 : BitVec 32) (k0_t21 : Fin (k0_t21_loop v37 v41 k0_t15 v668 v674).trips) (c0_i32_365 : BitVec 32) : Fin 1 → Nat :=
  let c16384_i32 : BitVec 32 := 16384#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c1_i32_290 : BitVec 32 := 1#32
  let v627 : BitVec 32 := Scalar.addi v607 c1_i32_290
  let c128_i32_291 : BitVec 32 := 128#32
  let v628 : BitVec 32 := Scalar.muli v627 c128_i32_291
  let v629 : BitVec 32 := Scalar.addi v37 v628
  let c319872_i32_292 : BitVec 32 := 319872#32
  let v630 : BitVec 32 := Scalar.minsi v629 c319872_i32_292
  let v631 : BitVec 32 := Scalar.subi v629 v630
  let v675 : BitVec 32 := Scalar.maxsi v668 v629
  let v679 : BitVec 32 := Scalar.subi v675 v629
  let v680 : BitVec 32 := Scalar.addi v631 v679
  let c128_i32_325 : BitVec 32 := 128#32
  let v681 : BitVec 32 := Scalar.muli v680 c128_i32_325
  let v682 : BitVec 32 := Scalar.addi c16384_i32 v681
  let c0_i32_344 : BitVec 32 := 0#32
  let c128_i32_324 : BitVec 32 := 128#32
  let v676 : BitVec 32 := Scalar.addi v629 c128_i32_324
  let v677 : BitVec 32 := Scalar.minsi v674 v676
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_347 : BitVec 32 := 1#32
  let arg22 : BitVec 32 := Scf.iv v738 c1_i32_347 k0_t21
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk47 (v37 : BitVec 32) (v41 : BitVec 32) (k0_t15 : Fin (k0_t15_loop v37 v41).trips) (v668 : BitVec 32) (v674 : BitVec 32) : Prop :=
  (∀ (k0_h21 : k0_cond21 v37 v41 k0_t15 v668 v674 = 1#1), (k0_t20_loop v37 v41 k0_t15 v668 v674).OK) ∧
  (∀ k0_t20 : Fin (k0_t20_loop v37 v41 k0_t15 v668 v674).trips, ∀ (k0_h21 : k0_cond21 v37 v41 k0_t15 v668 v674 = 1#1), ∀ (r : Fin 8), ∀ a, (k0_off128 v37 v41 k0_t15 v668 v674 k0_t20 (BitVec.ofNat 32 (16 * r.val))) a + S16.size a ≤ S65536.size a) ∧
  (∀ (k0_h21 : k0_cond21 v37 v41 k0_t15 v668 v674 = 1#1), (k0_t21_loop v37 v41 k0_t15 v668 v674).OK) ∧
  (∀ k0_t21 : Fin (k0_t21_loop v37 v41 k0_t15 v668 v674).trips, ∀ (k0_h21 : k0_cond21 v37 v41 k0_t15 v668 v674 = 1#1), ∀ (r : Fin 8), ∀ a, (k0_off129 v37 v41 k0_t15 v668 v674 k0_t21 (BitVec.ofNat 32 (16 * r.val))) a + S16.size a ≤ S65536.size a)
theorem k0_t20_ok : ∀ (v37 : BitVec 32) (v41 : BitVec 32) (k0_t15 : Fin (k0_t15_loop v37 v41).trips) (v668 : BitVec 32) (v674 : BitVec 32) (k0_hw47 : k0_chk47 v37 v41 k0_t15 v668 v674), ∀ (k0_h21 : k0_cond21 v37 v41 k0_t15 v668 v674 = 1#1), (k0_t20_loop v37 v41 k0_t15 v668 v674).OK := fun v37 v41 k0_t15 v668 v674 k0_hw47 k0_h21 => k0_hw47.1 k0_h21
theorem k0_off128_inb : ∀ (v37 : BitVec 32) (v41 : BitVec 32) (k0_t15 : Fin (k0_t15_loop v37 v41).trips) (v668 : BitVec 32) (v674 : BitVec 32) (k0_hw47 : k0_chk47 v37 v41 k0_t15 v668 v674) (k0_t20 : Fin (k0_t20_loop v37 v41 k0_t15 v668 v674).trips), ∀ (k0_h21 : k0_cond21 v37 v41 k0_t15 v668 v674 = 1#1), ∀ (r : Fin 8), ∀ a, (k0_off128 v37 v41 k0_t15 v668 v674 k0_t20 (BitVec.ofNat 32 (16 * r.val))) a + S16.size a ≤ S65536.size a := fun v37 v41 k0_t15 v668 v674 k0_hw47 k0_t20 k0_h21 r => k0_hw47.2.1 k0_t20 k0_h21 r
theorem k0_t21_ok : ∀ (v37 : BitVec 32) (v41 : BitVec 32) (k0_t15 : Fin (k0_t15_loop v37 v41).trips) (v668 : BitVec 32) (v674 : BitVec 32) (k0_hw47 : k0_chk47 v37 v41 k0_t15 v668 v674), ∀ (k0_h21 : k0_cond21 v37 v41 k0_t15 v668 v674 = 1#1), (k0_t21_loop v37 v41 k0_t15 v668 v674).OK := fun v37 v41 k0_t15 v668 v674 k0_hw47 k0_h21 => k0_hw47.2.2.1 k0_h21
theorem k0_off129_inb : ∀ (v37 : BitVec 32) (v41 : BitVec 32) (k0_t15 : Fin (k0_t15_loop v37 v41).trips) (v668 : BitVec 32) (v674 : BitVec 32) (k0_hw47 : k0_chk47 v37 v41 k0_t15 v668 v674) (k0_t21 : Fin (k0_t21_loop v37 v41 k0_t15 v668 v674).trips), ∀ (k0_h21 : k0_cond21 v37 v41 k0_t15 v668 v674 = 1#1), ∀ (r : Fin 8), ∀ a, (k0_off129 v37 v41 k0_t15 v668 v674 k0_t21 (BitVec.ofNat 32 (16 * r.val))) a + S16.size a ≤ S65536.size a := fun v37 v41 k0_t15 v668 v674 k0_hw47 k0_t21 k0_h21 r => k0_hw47.2.2.2 k0_t21 k0_h21 r

def k0_chk52 (v37 : BitVec 32) (v41 : BitVec 32) (k0_t15 : Fin (k0_t15_loop v37 v41).trips) (v668 : BitVec 32) (v674 : BitVec 32) (v855 : IVec S16 32) : Prop :=
  (∀ (k0_h21 : k0_cond21 v37 v41 k0_t15 v668 v674 = 1#1), ∀ a x, ((![v855] : Fin 1 → IVec S16 32) a x).toNat < S16.size a)
theorem k0_idx45_inb : ∀ (v37 : BitVec 32) (v41 : BitVec 32) (k0_t15 : Fin (k0_t15_loop v37 v41).trips) (v668 : BitVec 32) (v674 : BitVec 32) (v855 : IVec S16 32) (k0_hw52 : k0_chk52 v37 v41 k0_t15 v668 v674 v855), ∀ (k0_h21 : k0_cond21 v37 v41 k0_t15 v668 v674 = 1#1), ∀ a x, ((![v855] : Fin 1 → IVec S16 32) a x).toNat < S16.size a := fun v37 v41 k0_t15 v668 v674 v855 k0_hw52 k0_h21 => k0_hw52 k0_h21

def k0_chk53 (v37 : BitVec 32) (v41 : BitVec 32) (k0_t15 : Fin (k0_t15_loop v37 v41).trips) (v668 : BitVec 32) (v674 : BitVec 32) (v862 : IVec S16 32) : Prop :=
  (∀ (k0_h21 : k0_cond21 v37 v41 k0_t15 v668 v674 = 1#1), ∀ a x, ((![v862] : Fin 1 → IVec S16 32) a x).toNat < S16.size a)
theorem k0_idx46_inb : ∀ (v37 : BitVec 32) (v41 : BitVec 32) (k0_t15 : Fin (k0_t15_loop v37 v41).trips) (v668 : BitVec 32) (v674 : BitVec 32) (v862 : IVec S16 32) (k0_hw53 : k0_chk53 v37 v41 k0_t15 v668 v674 v862), ∀ (k0_h21 : k0_cond21 v37 v41 k0_t15 v668 v674 = 1#1), ∀ a x, ((![v862] : Fin 1 → IVec S16 32) a x).toNat < S16.size a := fun v37 v41 k0_t15 v668 v674 v862 k0_hw53 k0_h21 => k0_hw53 k0_h21

def k0_chk54 (v37 : BitVec 32) (v41 : BitVec 32) (k0_t15 : Fin (k0_t15_loop v37 v41).trips) (v668 : BitVec 32) (v674 : BitVec 32) (v869 : IVec S16 32) : Prop :=
  (∀ (k0_h21 : k0_cond21 v37 v41 k0_t15 v668 v674 = 1#1), ∀ a x, ((![v869] : Fin 1 → IVec S16 32) a x).toNat < S16.size a)
theorem k0_idx47_inb : ∀ (v37 : BitVec 32) (v41 : BitVec 32) (k0_t15 : Fin (k0_t15_loop v37 v41).trips) (v668 : BitVec 32) (v674 : BitVec 32) (v869 : IVec S16 32) (k0_hw54 : k0_chk54 v37 v41 k0_t15 v668 v674 v869), ∀ (k0_h21 : k0_cond21 v37 v41 k0_t15 v668 v674 = 1#1), ∀ a x, ((![v869] : Fin 1 → IVec S16 32) a x).toNat < S16.size a := fun v37 v41 k0_t15 v668 v674 v869 k0_hw54 k0_h21 => k0_hw54 k0_h21

def k0_chk55 (v37 : BitVec 32) (v41 : BitVec 32) (k0_t15 : Fin (k0_t15_loop v37 v41).trips) (v668 : BitVec 32) (v674 : BitVec 32) (v876 : IVec S16 32) : Prop :=
  (∀ (k0_h21 : k0_cond21 v37 v41 k0_t15 v668 v674 = 1#1), ∀ a x, ((![v876] : Fin 1 → IVec S16 32) a x).toNat < S16.size a)
theorem k0_idx48_inb : ∀ (v37 : BitVec 32) (v41 : BitVec 32) (k0_t15 : Fin (k0_t15_loop v37 v41).trips) (v668 : BitVec 32) (v674 : BitVec 32) (v876 : IVec S16 32) (k0_hw55 : k0_chk55 v37 v41 k0_t15 v668 v674 v876), ∀ (k0_h21 : k0_cond21 v37 v41 k0_t15 v668 v674 = 1#1), ∀ a x, ((![v876] : Fin 1 → IVec S16 32) a x).toNat < S16.size a := fun v37 v41 k0_t15 v668 v674 v876 k0_hw55 k0_h21 => k0_hw55 k0_h21
def k0_off130 (v37 : BitVec 32) (v41 : BitVec 32) (k0_t15 : Fin (k0_t15_loop v37 v41).trips) : Fin 1 → Nat :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c2_i32_299 : BitVec 32 := 2#32
  let v636 : BitVec 32 := Scalar.addi v607 c2_i32_299
  let c3_i32_300 : BitVec 32 := 3#32
  let v637 : BitVec 32 := Scalar.addi v636 c3_i32_300
  let c128_i32_323 : BitVec 32 := 128#32
  let v664 : BitVec 32 := Scalar.muli v637 c128_i32_323
  let v665 : BitVec 32 := Scalar.addi v37 v664
  let c319872_i32_324 : BitVec 32 := 319872#32
  let v666 : BitVec 32 := Scalar.minsi v665 c319872_i32_324
  let c128_i32_325 : BitVec 32 := 128#32
  let v667 : BitVec 32 := Scalar.muli v666 c128_i32_325
  ![v667.toNat]
def k0_cond22 (v37 : BitVec 32) (v41 : BitVec 32) (k0_t15 : Fin (k0_t15_loop v37 v41).trips) : BitVec 1 :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c2_i32_299 : BitVec 32 := 2#32
  let v636 : BitVec 32 := Scalar.addi v607 c2_i32_299
  let c3_i32_300 : BitVec 32 := 3#32
  let v637 : BitVec 32 := Scalar.addi v636 c3_i32_300
  let v638 : BitVec 1 := Scalar.cmpi .slt v637 v60
  let v639 : BitVec 32 := Scalar.extui v638
  let c0_i32_301 : BitVec 32 := 0#32
  let v640 : BitVec 1 := Scalar.cmpi .ne v639 c0_i32_301
  v640

@[reducible] def k0_t22_loop : Scf.Loop 32 :=
  let c0_i32_307 : BitVec 32 := 0#32
  let c8_i32_308 : BitVec 32 := 8#32
  let v649 : BitVec 32 := Scalar.addi c0_i32_307 c8_i32_308
  let c1_i32_309 : BitVec 32 := 1#32
  ⟨c0_i32_307, v649, c1_i32_309⟩
def k0_off131 (k0_t22 : Fin k0_t22_loop.trips) : Fin 1 → Nat :=
  let c0_i32_307 : BitVec 32 := 0#32
  let c1_i32_309 : BitVec 32 := 1#32
  let arg21 : BitVec 32 := Scf.iv c0_i32_307 c1_i32_309 k0_t22
  let v664 : Index := Scalar.indexCast arg21
  ![v664.toNat]
def k0_off132 (k0_t22 : Fin k0_t22_loop.trips) : Fin 1 → Nat :=
  let c0_i32_307 : BitVec 32 := 0#32
  let c1_i32_309 : BitVec 32 := 1#32
  let arg21 : BitVec 32 := Scf.iv c0_i32_307 c1_i32_309 k0_t22
  let c1_i32_323 : BitVec 32 := 1#32
  let v669 : BitVec 32 := Scalar.addi arg21 c1_i32_323
  let v670 : Index := Scalar.indexCast v669
  ![v670.toNat]
def k0_off133 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v686 : Index := Scalar.indexCast arg21
  let c0_328 : Index := 0#32
  ![v686.toNat, 0]
def k0_off134 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v689 : Index := Scalar.indexCast arg21
  let c16_329 : Index := 16#32
  ![v689.toNat, 16]
def k0_off135 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v692 : Index := Scalar.indexCast arg21
  let c32_330 : Index := 32#32
  ![v692.toNat, 32]
def k0_off136 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v695 : Index := Scalar.indexCast arg21
  let c48_331 : Index := 48#32
  ![v695.toNat, 48]
def k0_off137 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v698 : Index := Scalar.indexCast arg21
  let c64_332 : Index := 64#32
  ![v698.toNat, 64]
def k0_off138 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v701 : Index := Scalar.indexCast arg21
  let c80_333 : Index := 80#32
  ![v701.toNat, 80]
def k0_off139 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v704 : Index := Scalar.indexCast arg21
  let c96_334 : Index := 96#32
  ![v704.toNat, 96]
def k0_off140 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v707 : Index := Scalar.indexCast arg21
  let c112_335 : Index := 112#32
  ![v707.toNat, 112]
def k0_off141 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v710 : Index := Scalar.indexCast arg21
  let c128_336 : Index := 128#32
  ![v710.toNat, 128]
def k0_off142 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v713 : Index := Scalar.indexCast arg21
  let c144_337 : Index := 144#32
  ![v713.toNat, 144]
def k0_off143 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v716 : Index := Scalar.indexCast arg21
  let c160_338 : Index := 160#32
  ![v716.toNat, 160]
def k0_off144 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v719 : Index := Scalar.indexCast arg21
  let c176_339 : Index := 176#32
  ![v719.toNat, 176]
def k0_off145 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v722 : Index := Scalar.indexCast arg21
  let c192_340 : Index := 192#32
  ![v722.toNat, 192]
def k0_off146 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v725 : Index := Scalar.indexCast arg21
  let c208_341 : Index := 208#32
  ![v725.toNat, 208]
def k0_off147 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v728 : Index := Scalar.indexCast arg21
  let c224_342 : Index := 224#32
  ![v728.toNat, 224]
def k0_off148 (k0_t22 : Fin k0_t22_loop.trips) : Fin 2 → Nat :=
  let c0_i32_307 : BitVec 32 := 0#32
  let c1_i32_309 : BitVec 32 := 1#32
  let arg21 : BitVec 32 := Scf.iv c0_i32_307 c1_i32_309 k0_t22
  let v731 : Index := Scalar.indexCast arg21
  let c240_343 : Index := 240#32
  ![v731.toNat, 240]
@[reducible] def k0_t23_loop (v37 : BitVec 32) (v41 : BitVec 32) (k0_t15 : Fin (k0_t15_loop v37 v41).trips) (v668 : BitVec 32) (v674 : BitVec 32) : Scf.Loop 32 :=
  let c0_i32_344 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c128_i32_324 : BitVec 32 := 128#32
  let v676 : BitVec 32 := Scalar.addi v643 c128_i32_324
  let v677 : BitVec 32 := Scalar.minsi v674 v676
  let v675 : BitVec 32 := Scalar.maxsi v668 v643
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_346 : BitVec 32 := 1#32
  ⟨c0_i32_344, v738, c1_i32_346⟩
def k0_cond24 (v37 : BitVec 32) (v41 : BitVec 32) (k0_t15 : Fin (k0_t15_loop v37 v41).trips) (v668 : BitVec 32) (v674 : BitVec 32) : BitVec 1 :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c128_i32_324 : BitVec 32 := 128#32
  let v676 : BitVec 32 := Scalar.addi v643 c128_i32_324
  let v677 : BitVec 32 := Scalar.minsi v674 v676
  let v675 : BitVec 32 := Scalar.maxsi v668 v643
  let v678 : BitVec 32 := Scalar.subi v677 v675
  let c0_i32_326 : BitVec 32 := 0#32
  let v683 : BitVec 1 := Scalar.cmpi .sgt v678 c0_i32_326
  let v684 : BitVec 32 := Scalar.extui v683
  let c0_i32_327 : BitVec 32 := 0#32
  let v685 : BitVec 1 := Scalar.cmpi .ne v684 c0_i32_327
  v685

def k0_off149 (v37 : BitVec 32) (v41 : BitVec 32) (k0_t15 : Fin (k0_t15_loop v37 v41).trips) (v668 : BitVec 32) (v674 : BitVec 32) (k0_t23 : Fin (k0_t23_loop v37 v41 k0_t15 v668 v674).trips) (c0_i32_365 : BitVec 32) : Fin 1 → Nat :=
  let c32768_i32 : BitVec 32 := 32768#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c319872_i32_304 : BitVec 32 := 319872#32
  let v644 : BitVec 32 := Scalar.minsi v643 c319872_i32_304
  let v645 : BitVec 32 := Scalar.subi v643 v644
  let v675 : BitVec 32 := Scalar.maxsi v668 v643
  let v679 : BitVec 32 := Scalar.subi v675 v643
  let v680 : BitVec 32 := Scalar.addi v645 v679
  let c128_i32_325 : BitVec 32 := 128#32
  let v681 : BitVec 32 := Scalar.muli v680 c128_i32_325
  let v682 : BitVec 32 := Scalar.addi c32768_i32 v681
  let c0_i32_344 : BitVec 32 := 0#32
  let c1_i32_346 : BitVec 32 := 1#32
  let arg22 : BitVec 32 := Scf.iv c0_i32_344 c1_i32_346 k0_t23
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk57 (v37 : BitVec 32) (v41 : BitVec 32) (k0_t15 : Fin (k0_t15_loop v37 v41).trips) (v668 : BitVec 32) (v674 : BitVec 32) (v855 : IVec S16 32) : Prop :=
  (∀ (k0_h24 : k0_cond24 v37 v41 k0_t15 v668 v674 = 1#1), ∀ a x, ((![v855] : Fin 1 → IVec S16 32) a x).toNat < S16.size a)
theorem k0_idx49_inb : ∀ (v37 : BitVec 32) (v41 : BitVec 32) (k0_t15 : Fin (k0_t15_loop v37 v41).trips) (v668 : BitVec 32) (v674 : BitVec 32) (v855 : IVec S16 32) (k0_hw57 : k0_chk57 v37 v41 k0_t15 v668 v674 v855), ∀ (k0_h24 : k0_cond24 v37 v41 k0_t15 v668 v674 = 1#1), ∀ a x, ((![v855] : Fin 1 → IVec S16 32) a x).toNat < S16.size a := fun v37 v41 k0_t15 v668 v674 v855 k0_hw57 k0_h24 => k0_hw57 k0_h24

def k0_chk58 (v37 : BitVec 32) (v41 : BitVec 32) (k0_t15 : Fin (k0_t15_loop v37 v41).trips) (v668 : BitVec 32) (v674 : BitVec 32) (v862 : IVec S16 32) : Prop :=
  (∀ (k0_h24 : k0_cond24 v37 v41 k0_t15 v668 v674 = 1#1), ∀ a x, ((![v862] : Fin 1 → IVec S16 32) a x).toNat < S16.size a)
theorem k0_idx50_inb : ∀ (v37 : BitVec 32) (v41 : BitVec 32) (k0_t15 : Fin (k0_t15_loop v37 v41).trips) (v668 : BitVec 32) (v674 : BitVec 32) (v862 : IVec S16 32) (k0_hw58 : k0_chk58 v37 v41 k0_t15 v668 v674 v862), ∀ (k0_h24 : k0_cond24 v37 v41 k0_t15 v668 v674 = 1#1), ∀ a x, ((![v862] : Fin 1 → IVec S16 32) a x).toNat < S16.size a := fun v37 v41 k0_t15 v668 v674 v862 k0_hw58 k0_h24 => k0_hw58 k0_h24

def k0_chk59 (v37 : BitVec 32) (v41 : BitVec 32) (k0_t15 : Fin (k0_t15_loop v37 v41).trips) (v668 : BitVec 32) (v674 : BitVec 32) (v869 : IVec S16 32) : Prop :=
  (∀ (k0_h24 : k0_cond24 v37 v41 k0_t15 v668 v674 = 1#1), ∀ a x, ((![v869] : Fin 1 → IVec S16 32) a x).toNat < S16.size a)
theorem k0_idx51_inb : ∀ (v37 : BitVec 32) (v41 : BitVec 32) (k0_t15 : Fin (k0_t15_loop v37 v41).trips) (v668 : BitVec 32) (v674 : BitVec 32) (v869 : IVec S16 32) (k0_hw59 : k0_chk59 v37 v41 k0_t15 v668 v674 v869), ∀ (k0_h24 : k0_cond24 v37 v41 k0_t15 v668 v674 = 1#1), ∀ a x, ((![v869] : Fin 1 → IVec S16 32) a x).toNat < S16.size a := fun v37 v41 k0_t15 v668 v674 v869 k0_hw59 k0_h24 => k0_hw59 k0_h24

def k0_chk60 (v37 : BitVec 32) (v41 : BitVec 32) (k0_t15 : Fin (k0_t15_loop v37 v41).trips) (v668 : BitVec 32) (v674 : BitVec 32) (v876 : IVec S16 32) : Prop :=
  (∀ (k0_h24 : k0_cond24 v37 v41 k0_t15 v668 v674 = 1#1), ∀ a x, ((![v876] : Fin 1 → IVec S16 32) a x).toNat < S16.size a)
theorem k0_idx52_inb : ∀ (v37 : BitVec 32) (v41 : BitVec 32) (k0_t15 : Fin (k0_t15_loop v37 v41).trips) (v668 : BitVec 32) (v674 : BitVec 32) (v876 : IVec S16 32) (k0_hw60 : k0_chk60 v37 v41 k0_t15 v668 v674 v876), ∀ (k0_h24 : k0_cond24 v37 v41 k0_t15 v668 v674 = 1#1), ∀ a x, ((![v876] : Fin 1 → IVec S16 32) a x).toNat < S16.size a := fun v37 v41 k0_t15 v668 v674 v876 k0_hw60 k0_h24 => k0_hw60 k0_h24
@[reducible] def k0_t24_loop (v37 : BitVec 32) (v41 : BitVec 32) (k0_t15 : Fin (k0_t15_loop v37 v41).trips) (v668 : BitVec 32) (v674 : BitVec 32) : Scf.Loop 32 :=
  let c0_i32_344 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c128_i32_324 : BitVec 32 := 128#32
  let v676 : BitVec 32 := Scalar.addi v643 c128_i32_324
  let v677 : BitVec 32 := Scalar.minsi v674 v676
  let v675 : BitVec 32 := Scalar.maxsi v668 v643
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let v735 : BitVec 32 := Scalar.addi c0_i32_344 v734
  let c1_i32_347 : BitVec 32 := 1#32
  ⟨v738, v735, c1_i32_347⟩
def k0_off150 (v37 : BitVec 32) (v41 : BitVec 32) (k0_t15 : Fin (k0_t15_loop v37 v41).trips) (v668 : BitVec 32) (v674 : BitVec 32) (k0_t24 : Fin (k0_t24_loop v37 v41 k0_t15 v668 v674).trips) (c0_i32_365 : BitVec 32) : Fin 1 → Nat :=
  let c32768_i32 : BitVec 32 := 32768#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c2_i32_302 : BitVec 32 := 2#32
  let v641 : BitVec 32 := Scalar.addi v607 c2_i32_302
  let c128_i32_303 : BitVec 32 := 128#32
  let v642 : BitVec 32 := Scalar.muli v641 c128_i32_303
  let v643 : BitVec 32 := Scalar.addi v37 v642
  let c319872_i32_304 : BitVec 32 := 319872#32
  let v644 : BitVec 32 := Scalar.minsi v643 c319872_i32_304
  let v645 : BitVec 32 := Scalar.subi v643 v644
  let v675 : BitVec 32 := Scalar.maxsi v668 v643
  let v679 : BitVec 32 := Scalar.subi v675 v643
  let v680 : BitVec 32 := Scalar.addi v645 v679
  let c128_i32_325 : BitVec 32 := 128#32
  let v681 : BitVec 32 := Scalar.muli v680 c128_i32_325
  let v682 : BitVec 32 := Scalar.addi c32768_i32 v681
  let c0_i32_344 : BitVec 32 := 0#32
  let c128_i32_324 : BitVec 32 := 128#32
  let v676 : BitVec 32 := Scalar.addi v643 c128_i32_324
  let v677 : BitVec 32 := Scalar.minsi v674 v676
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_347 : BitVec 32 := 1#32
  let arg22 : BitVec 32 := Scf.iv v738 c1_i32_347 k0_t24
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk56 (v37 : BitVec 32) (v41 : BitVec 32) (k0_t15 : Fin (k0_t15_loop v37 v41).trips) (v668 : BitVec 32) (v674 : BitVec 32) : Prop :=
  (∀ (k0_h24 : k0_cond24 v37 v41 k0_t15 v668 v674 = 1#1), (k0_t23_loop v37 v41 k0_t15 v668 v674).OK) ∧
  (∀ k0_t23 : Fin (k0_t23_loop v37 v41 k0_t15 v668 v674).trips, ∀ (k0_h24 : k0_cond24 v37 v41 k0_t15 v668 v674 = 1#1), ∀ (r : Fin 8), ∀ a, (k0_off149 v37 v41 k0_t15 v668 v674 k0_t23 (BitVec.ofNat 32 (16 * r.val))) a + S16.size a ≤ S65536.size a) ∧
  (∀ (k0_h24 : k0_cond24 v37 v41 k0_t15 v668 v674 = 1#1), (k0_t24_loop v37 v41 k0_t15 v668 v674).OK) ∧
  (∀ k0_t24 : Fin (k0_t24_loop v37 v41 k0_t15 v668 v674).trips, ∀ (k0_h24 : k0_cond24 v37 v41 k0_t15 v668 v674 = 1#1), ∀ (r : Fin 8), ∀ a, (k0_off150 v37 v41 k0_t15 v668 v674 k0_t24 (BitVec.ofNat 32 (16 * r.val))) a + S16.size a ≤ S65536.size a)
theorem k0_t23_ok : ∀ (v37 : BitVec 32) (v41 : BitVec 32) (k0_t15 : Fin (k0_t15_loop v37 v41).trips) (v668 : BitVec 32) (v674 : BitVec 32) (k0_hw56 : k0_chk56 v37 v41 k0_t15 v668 v674), ∀ (k0_h24 : k0_cond24 v37 v41 k0_t15 v668 v674 = 1#1), (k0_t23_loop v37 v41 k0_t15 v668 v674).OK := fun v37 v41 k0_t15 v668 v674 k0_hw56 k0_h24 => k0_hw56.1 k0_h24
theorem k0_off149_inb : ∀ (v37 : BitVec 32) (v41 : BitVec 32) (k0_t15 : Fin (k0_t15_loop v37 v41).trips) (v668 : BitVec 32) (v674 : BitVec 32) (k0_hw56 : k0_chk56 v37 v41 k0_t15 v668 v674) (k0_t23 : Fin (k0_t23_loop v37 v41 k0_t15 v668 v674).trips), ∀ (k0_h24 : k0_cond24 v37 v41 k0_t15 v668 v674 = 1#1), ∀ (r : Fin 8), ∀ a, (k0_off149 v37 v41 k0_t15 v668 v674 k0_t23 (BitVec.ofNat 32 (16 * r.val))) a + S16.size a ≤ S65536.size a := fun v37 v41 k0_t15 v668 v674 k0_hw56 k0_t23 k0_h24 r => k0_hw56.2.1 k0_t23 k0_h24 r
theorem k0_t24_ok : ∀ (v37 : BitVec 32) (v41 : BitVec 32) (k0_t15 : Fin (k0_t15_loop v37 v41).trips) (v668 : BitVec 32) (v674 : BitVec 32) (k0_hw56 : k0_chk56 v37 v41 k0_t15 v668 v674), ∀ (k0_h24 : k0_cond24 v37 v41 k0_t15 v668 v674 = 1#1), (k0_t24_loop v37 v41 k0_t15 v668 v674).OK := fun v37 v41 k0_t15 v668 v674 k0_hw56 k0_h24 => k0_hw56.2.2.1 k0_h24
theorem k0_off150_inb : ∀ (v37 : BitVec 32) (v41 : BitVec 32) (k0_t15 : Fin (k0_t15_loop v37 v41).trips) (v668 : BitVec 32) (v674 : BitVec 32) (k0_hw56 : k0_chk56 v37 v41 k0_t15 v668 v674) (k0_t24 : Fin (k0_t24_loop v37 v41 k0_t15 v668 v674).trips), ∀ (k0_h24 : k0_cond24 v37 v41 k0_t15 v668 v674 = 1#1), ∀ (r : Fin 8), ∀ a, (k0_off150 v37 v41 k0_t15 v668 v674 k0_t24 (BitVec.ofNat 32 (16 * r.val))) a + S16.size a ≤ S65536.size a := fun v37 v41 k0_t15 v668 v674 k0_hw56 k0_t24 k0_h24 r => k0_hw56.2.2.2 k0_t24 k0_h24 r

def k0_chk61 (v37 : BitVec 32) (v41 : BitVec 32) (k0_t15 : Fin (k0_t15_loop v37 v41).trips) (v668 : BitVec 32) (v674 : BitVec 32) (v855 : IVec S16 32) : Prop :=
  (∀ (k0_h24 : k0_cond24 v37 v41 k0_t15 v668 v674 = 1#1), ∀ a x, ((![v855] : Fin 1 → IVec S16 32) a x).toNat < S16.size a)
theorem k0_idx53_inb : ∀ (v37 : BitVec 32) (v41 : BitVec 32) (k0_t15 : Fin (k0_t15_loop v37 v41).trips) (v668 : BitVec 32) (v674 : BitVec 32) (v855 : IVec S16 32) (k0_hw61 : k0_chk61 v37 v41 k0_t15 v668 v674 v855), ∀ (k0_h24 : k0_cond24 v37 v41 k0_t15 v668 v674 = 1#1), ∀ a x, ((![v855] : Fin 1 → IVec S16 32) a x).toNat < S16.size a := fun v37 v41 k0_t15 v668 v674 v855 k0_hw61 k0_h24 => k0_hw61 k0_h24

def k0_chk62 (v37 : BitVec 32) (v41 : BitVec 32) (k0_t15 : Fin (k0_t15_loop v37 v41).trips) (v668 : BitVec 32) (v674 : BitVec 32) (v862 : IVec S16 32) : Prop :=
  (∀ (k0_h24 : k0_cond24 v37 v41 k0_t15 v668 v674 = 1#1), ∀ a x, ((![v862] : Fin 1 → IVec S16 32) a x).toNat < S16.size a)
theorem k0_idx54_inb : ∀ (v37 : BitVec 32) (v41 : BitVec 32) (k0_t15 : Fin (k0_t15_loop v37 v41).trips) (v668 : BitVec 32) (v674 : BitVec 32) (v862 : IVec S16 32) (k0_hw62 : k0_chk62 v37 v41 k0_t15 v668 v674 v862), ∀ (k0_h24 : k0_cond24 v37 v41 k0_t15 v668 v674 = 1#1), ∀ a x, ((![v862] : Fin 1 → IVec S16 32) a x).toNat < S16.size a := fun v37 v41 k0_t15 v668 v674 v862 k0_hw62 k0_h24 => k0_hw62 k0_h24

def k0_chk63 (v37 : BitVec 32) (v41 : BitVec 32) (k0_t15 : Fin (k0_t15_loop v37 v41).trips) (v668 : BitVec 32) (v674 : BitVec 32) (v869 : IVec S16 32) : Prop :=
  (∀ (k0_h24 : k0_cond24 v37 v41 k0_t15 v668 v674 = 1#1), ∀ a x, ((![v869] : Fin 1 → IVec S16 32) a x).toNat < S16.size a)
theorem k0_idx55_inb : ∀ (v37 : BitVec 32) (v41 : BitVec 32) (k0_t15 : Fin (k0_t15_loop v37 v41).trips) (v668 : BitVec 32) (v674 : BitVec 32) (v869 : IVec S16 32) (k0_hw63 : k0_chk63 v37 v41 k0_t15 v668 v674 v869), ∀ (k0_h24 : k0_cond24 v37 v41 k0_t15 v668 v674 = 1#1), ∀ a x, ((![v869] : Fin 1 → IVec S16 32) a x).toNat < S16.size a := fun v37 v41 k0_t15 v668 v674 v869 k0_hw63 k0_h24 => k0_hw63 k0_h24

def k0_chk64 (v37 : BitVec 32) (v41 : BitVec 32) (k0_t15 : Fin (k0_t15_loop v37 v41).trips) (v668 : BitVec 32) (v674 : BitVec 32) (v876 : IVec S16 32) : Prop :=
  (∀ (k0_h24 : k0_cond24 v37 v41 k0_t15 v668 v674 = 1#1), ∀ a x, ((![v876] : Fin 1 → IVec S16 32) a x).toNat < S16.size a)
theorem k0_idx56_inb : ∀ (v37 : BitVec 32) (v41 : BitVec 32) (k0_t15 : Fin (k0_t15_loop v37 v41).trips) (v668 : BitVec 32) (v674 : BitVec 32) (v876 : IVec S16 32) (k0_hw64 : k0_chk64 v37 v41 k0_t15 v668 v674 v876), ∀ (k0_h24 : k0_cond24 v37 v41 k0_t15 v668 v674 = 1#1), ∀ a x, ((![v876] : Fin 1 → IVec S16 32) a x).toNat < S16.size a := fun v37 v41 k0_t15 v668 v674 v876 k0_hw64 k0_h24 => k0_hw64 k0_h24
def k0_off151 (v37 : BitVec 32) (v41 : BitVec 32) (k0_t15 : Fin (k0_t15_loop v37 v41).trips) : Fin 1 → Nat :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c3_i32_311 : BitVec 32 := 3#32
  let v650 : BitVec 32 := Scalar.addi v607 c3_i32_311
  let c3_i32_312 : BitVec 32 := 3#32
  let v651 : BitVec 32 := Scalar.addi v650 c3_i32_312
  let c128_i32_323 : BitVec 32 := 128#32
  let v664 : BitVec 32 := Scalar.muli v651 c128_i32_323
  let v665 : BitVec 32 := Scalar.addi v37 v664
  let c319872_i32_324 : BitVec 32 := 319872#32
  let v666 : BitVec 32 := Scalar.minsi v665 c319872_i32_324
  let c128_i32_325 : BitVec 32 := 128#32
  let v667 : BitVec 32 := Scalar.muli v666 c128_i32_325
  ![v667.toNat]
def k0_cond25 (v37 : BitVec 32) (v41 : BitVec 32) (k0_t15 : Fin (k0_t15_loop v37 v41).trips) : BitVec 1 :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c3_i32_311 : BitVec 32 := 3#32
  let v650 : BitVec 32 := Scalar.addi v607 c3_i32_311
  let c3_i32_312 : BitVec 32 := 3#32
  let v651 : BitVec 32 := Scalar.addi v650 c3_i32_312
  let v652 : BitVec 1 := Scalar.cmpi .slt v651 v60
  let v653 : BitVec 32 := Scalar.extui v652
  let c0_i32_313 : BitVec 32 := 0#32
  let v654 : BitVec 1 := Scalar.cmpi .ne v653 c0_i32_313
  v654

def k0_chk1 (v37 : BitVec 32) (v41 : BitVec 32) : Prop :=
  (∀ (k0_h1 : k0_cond1 v37 v41 = 1#1), ∀ a, (k0_off1 v37) a + S16384.size a ≤ S40960000.size a) ∧
  (∀ (k0_h2 : k0_cond2 v37 v41 = 1#1), ∀ a, (k0_off2 v37) a + S16384.size a ≤ S40960000.size a) ∧
  (∀ (k0_h3 : k0_cond3 v37 v41 = 1#1), ∀ a, (k0_off3 v37) a + S16384.size a ≤ S40960000.size a) ∧
  ((k0_t2_loop v37 v41).OK) ∧
  (∀ k0_t2 : Fin (k0_t2_loop v37 v41).trips, ∀ (k0_h4 : k0_cond4 v37 v41 k0_t2 = 1#1), ∀ a, (k0_off4 v37 v41 k0_t2) a + S16384.size a ≤ S40960000.size a) ∧
  (∀ k0_t2 : Fin (k0_t2_loop v37 v41).trips, ∀ (k0_h7 : k0_cond7 v37 v41 k0_t2 = 1#1), ∀ a, (k0_off25 v37 v41 k0_t2) a + S16384.size a ≤ S40960000.size a) ∧
  (∀ k0_t2 : Fin (k0_t2_loop v37 v41).trips, ∀ (k0_h10 : k0_cond10 v37 v41 k0_t2 = 1#1), ∀ a, (k0_off46 v37 v41 k0_t2) a + S16384.size a ≤ S40960000.size a) ∧
  (∀ k0_t2 : Fin (k0_t2_loop v37 v41).trips, ∀ (k0_h13 : k0_cond13 v37 v41 k0_t2 = 1#1), ∀ a, (k0_off67 v37 v41 k0_t2) a + S16384.size a ≤ S40960000.size a) ∧
  ((k0_t15_loop v37 v41).OK) ∧
  (∀ k0_t15 : Fin (k0_t15_loop v37 v41).trips, ∀ (k0_h16 : k0_cond16 v37 v41 k0_t15 = 1#1), ∀ a, (k0_off88 v37 v41 k0_t15) a + S16384.size a ≤ S40960000.size a) ∧
  (∀ k0_t15 : Fin (k0_t15_loop v37 v41).trips, ∀ (k0_h19 : k0_cond19 v37 v41 k0_t15 = 1#1), ∀ a, (k0_off109 v37 v41 k0_t15) a + S16384.size a ≤ S40960000.size a) ∧
  (∀ k0_t15 : Fin (k0_t15_loop v37 v41).trips, ∀ (k0_h22 : k0_cond22 v37 v41 k0_t15 = 1#1), ∀ a, (k0_off130 v37 v41 k0_t15) a + S16384.size a ≤ S40960000.size a) ∧
  (∀ k0_t15 : Fin (k0_t15_loop v37 v41).trips, ∀ (k0_h25 : k0_cond25 v37 v41 k0_t15 = 1#1), ∀ a, (k0_off151 v37 v41 k0_t15) a + S16384.size a ≤ S40960000.size a)
theorem k0_off1_inb : ∀ (v37 : BitVec 32) (v41 : BitVec 32) (k0_hw1 : k0_chk1 v37 v41), ∀ (k0_h1 : k0_cond1 v37 v41 = 1#1), ∀ a, (k0_off1 v37) a + S16384.size a ≤ S40960000.size a := fun v37 v41 k0_hw1 k0_h1 => k0_hw1.1 k0_h1
theorem k0_off2_inb : ∀ (v37 : BitVec 32) (v41 : BitVec 32) (k0_hw1 : k0_chk1 v37 v41), ∀ (k0_h2 : k0_cond2 v37 v41 = 1#1), ∀ a, (k0_off2 v37) a + S16384.size a ≤ S40960000.size a := fun v37 v41 k0_hw1 k0_h2 => k0_hw1.2.1 k0_h2
theorem k0_off3_inb : ∀ (v37 : BitVec 32) (v41 : BitVec 32) (k0_hw1 : k0_chk1 v37 v41), ∀ (k0_h3 : k0_cond3 v37 v41 = 1#1), ∀ a, (k0_off3 v37) a + S16384.size a ≤ S40960000.size a := fun v37 v41 k0_hw1 k0_h3 => k0_hw1.2.2.1 k0_h3
theorem k0_t2_ok : ∀ (v37 : BitVec 32) (v41 : BitVec 32) (k0_hw1 : k0_chk1 v37 v41), (k0_t2_loop v37 v41).OK := fun v37 v41 k0_hw1 => k0_hw1.2.2.2.1
theorem k0_off4_inb : ∀ (v37 : BitVec 32) (v41 : BitVec 32) (k0_hw1 : k0_chk1 v37 v41) (k0_t2 : Fin (k0_t2_loop v37 v41).trips), ∀ (k0_h4 : k0_cond4 v37 v41 k0_t2 = 1#1), ∀ a, (k0_off4 v37 v41 k0_t2) a + S16384.size a ≤ S40960000.size a := fun v37 v41 k0_hw1 k0_t2 k0_h4 => k0_hw1.2.2.2.2.1 k0_t2 k0_h4
theorem k0_off25_inb : ∀ (v37 : BitVec 32) (v41 : BitVec 32) (k0_hw1 : k0_chk1 v37 v41) (k0_t2 : Fin (k0_t2_loop v37 v41).trips), ∀ (k0_h7 : k0_cond7 v37 v41 k0_t2 = 1#1), ∀ a, (k0_off25 v37 v41 k0_t2) a + S16384.size a ≤ S40960000.size a := fun v37 v41 k0_hw1 k0_t2 k0_h7 => k0_hw1.2.2.2.2.2.1 k0_t2 k0_h7
theorem k0_off46_inb : ∀ (v37 : BitVec 32) (v41 : BitVec 32) (k0_hw1 : k0_chk1 v37 v41) (k0_t2 : Fin (k0_t2_loop v37 v41).trips), ∀ (k0_h10 : k0_cond10 v37 v41 k0_t2 = 1#1), ∀ a, (k0_off46 v37 v41 k0_t2) a + S16384.size a ≤ S40960000.size a := fun v37 v41 k0_hw1 k0_t2 k0_h10 => k0_hw1.2.2.2.2.2.2.1 k0_t2 k0_h10
theorem k0_off67_inb : ∀ (v37 : BitVec 32) (v41 : BitVec 32) (k0_hw1 : k0_chk1 v37 v41) (k0_t2 : Fin (k0_t2_loop v37 v41).trips), ∀ (k0_h13 : k0_cond13 v37 v41 k0_t2 = 1#1), ∀ a, (k0_off67 v37 v41 k0_t2) a + S16384.size a ≤ S40960000.size a := fun v37 v41 k0_hw1 k0_t2 k0_h13 => k0_hw1.2.2.2.2.2.2.2.1 k0_t2 k0_h13
theorem k0_t15_ok : ∀ (v37 : BitVec 32) (v41 : BitVec 32) (k0_hw1 : k0_chk1 v37 v41), (k0_t15_loop v37 v41).OK := fun v37 v41 k0_hw1 => k0_hw1.2.2.2.2.2.2.2.2.1
theorem k0_off88_inb : ∀ (v37 : BitVec 32) (v41 : BitVec 32) (k0_hw1 : k0_chk1 v37 v41) (k0_t15 : Fin (k0_t15_loop v37 v41).trips), ∀ (k0_h16 : k0_cond16 v37 v41 k0_t15 = 1#1), ∀ a, (k0_off88 v37 v41 k0_t15) a + S16384.size a ≤ S40960000.size a := fun v37 v41 k0_hw1 k0_t15 k0_h16 => k0_hw1.2.2.2.2.2.2.2.2.2.1 k0_t15 k0_h16
theorem k0_off109_inb : ∀ (v37 : BitVec 32) (v41 : BitVec 32) (k0_hw1 : k0_chk1 v37 v41) (k0_t15 : Fin (k0_t15_loop v37 v41).trips), ∀ (k0_h19 : k0_cond19 v37 v41 k0_t15 = 1#1), ∀ a, (k0_off109 v37 v41 k0_t15) a + S16384.size a ≤ S40960000.size a := fun v37 v41 k0_hw1 k0_t15 k0_h19 => k0_hw1.2.2.2.2.2.2.2.2.2.2.1 k0_t15 k0_h19
theorem k0_off130_inb : ∀ (v37 : BitVec 32) (v41 : BitVec 32) (k0_hw1 : k0_chk1 v37 v41) (k0_t15 : Fin (k0_t15_loop v37 v41).trips), ∀ (k0_h22 : k0_cond22 v37 v41 k0_t15 = 1#1), ∀ a, (k0_off130 v37 v41 k0_t15) a + S16384.size a ≤ S40960000.size a := fun v37 v41 k0_hw1 k0_t15 k0_h22 => k0_hw1.2.2.2.2.2.2.2.2.2.2.2.1 k0_t15 k0_h22
theorem k0_off151_inb : ∀ (v37 : BitVec 32) (v41 : BitVec 32) (k0_hw1 : k0_chk1 v37 v41) (k0_t15 : Fin (k0_t15_loop v37 v41).trips), ∀ (k0_h25 : k0_cond25 v37 v41 k0_t15 = 1#1), ∀ a, (k0_off151 v37 v41 k0_t15) a + S16384.size a ≤ S40960000.size a := fun v37 v41 k0_hw1 k0_t15 k0_h25 => k0_hw1.2.2.2.2.2.2.2.2.2.2.2.2 k0_t15 k0_h25

@[reducible] def k0_t25_loop : Scf.Loop 32 :=
  let c0_i32_319 : BitVec 32 := 0#32
  let c8_i32_320 : BitVec 32 := 8#32
  let v663 : BitVec 32 := Scalar.addi c0_i32_319 c8_i32_320
  let c1_i32_321 : BitVec 32 := 1#32
  ⟨c0_i32_319, v663, c1_i32_321⟩
def k0_off152 (k0_t25 : Fin k0_t25_loop.trips) : Fin 1 → Nat :=
  let c0_i32_319 : BitVec 32 := 0#32
  let c1_i32_321 : BitVec 32 := 1#32
  let arg21 : BitVec 32 := Scf.iv c0_i32_319 c1_i32_321 k0_t25
  let v664 : Index := Scalar.indexCast arg21
  ![v664.toNat]
def k0_off153 (k0_t25 : Fin k0_t25_loop.trips) : Fin 1 → Nat :=
  let c0_i32_319 : BitVec 32 := 0#32
  let c1_i32_321 : BitVec 32 := 1#32
  let arg21 : BitVec 32 := Scf.iv c0_i32_319 c1_i32_321 k0_t25
  let c1_i32_323 : BitVec 32 := 1#32
  let v669 : BitVec 32 := Scalar.addi arg21 c1_i32_323
  let v670 : Index := Scalar.indexCast v669
  ![v670.toNat]
def k0_off154 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v686 : Index := Scalar.indexCast arg21
  let c0_328 : Index := 0#32
  ![v686.toNat, 0]
def k0_off155 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v689 : Index := Scalar.indexCast arg21
  let c16_329 : Index := 16#32
  ![v689.toNat, 16]
def k0_off156 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v692 : Index := Scalar.indexCast arg21
  let c32_330 : Index := 32#32
  ![v692.toNat, 32]
def k0_off157 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v695 : Index := Scalar.indexCast arg21
  let c48_331 : Index := 48#32
  ![v695.toNat, 48]
def k0_off158 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v698 : Index := Scalar.indexCast arg21
  let c64_332 : Index := 64#32
  ![v698.toNat, 64]
def k0_off159 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v701 : Index := Scalar.indexCast arg21
  let c80_333 : Index := 80#32
  ![v701.toNat, 80]
def k0_off160 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v704 : Index := Scalar.indexCast arg21
  let c96_334 : Index := 96#32
  ![v704.toNat, 96]
def k0_off161 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v707 : Index := Scalar.indexCast arg21
  let c112_335 : Index := 112#32
  ![v707.toNat, 112]
def k0_off162 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v710 : Index := Scalar.indexCast arg21
  let c128_336 : Index := 128#32
  ![v710.toNat, 128]
def k0_off163 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v713 : Index := Scalar.indexCast arg21
  let c144_337 : Index := 144#32
  ![v713.toNat, 144]
def k0_off164 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v716 : Index := Scalar.indexCast arg21
  let c160_338 : Index := 160#32
  ![v716.toNat, 160]
def k0_off165 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v719 : Index := Scalar.indexCast arg21
  let c176_339 : Index := 176#32
  ![v719.toNat, 176]
def k0_off166 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v722 : Index := Scalar.indexCast arg21
  let c192_340 : Index := 192#32
  ![v722.toNat, 192]
def k0_off167 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v725 : Index := Scalar.indexCast arg21
  let c208_341 : Index := 208#32
  ![v725.toNat, 208]
def k0_off168 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v728 : Index := Scalar.indexCast arg21
  let c224_342 : Index := 224#32
  ![v728.toNat, 224]
def k0_off169 (k0_t25 : Fin k0_t25_loop.trips) : Fin 2 → Nat :=
  let c0_i32_319 : BitVec 32 := 0#32
  let c1_i32_321 : BitVec 32 := 1#32
  let arg21 : BitVec 32 := Scf.iv c0_i32_319 c1_i32_321 k0_t25
  let v731 : Index := Scalar.indexCast arg21
  let c240_343 : Index := 240#32
  ![v731.toNat, 240]
@[reducible] def k0_t26_loop (v37 : BitVec 32) (v41 : BitVec 32) (k0_t15 : Fin (k0_t15_loop v37 v41).trips) (v668 : BitVec 32) (v674 : BitVec 32) : Scf.Loop 32 :=
  let c0_i32_344 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c128_i32_324 : BitVec 32 := 128#32
  let v676 : BitVec 32 := Scalar.addi v657 c128_i32_324
  let v677 : BitVec 32 := Scalar.minsi v674 v676
  let v675 : BitVec 32 := Scalar.maxsi v668 v657
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_346 : BitVec 32 := 1#32
  ⟨c0_i32_344, v738, c1_i32_346⟩
def k0_cond27 (v37 : BitVec 32) (v41 : BitVec 32) (k0_t15 : Fin (k0_t15_loop v37 v41).trips) (v668 : BitVec 32) (v674 : BitVec 32) : BitVec 1 :=
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c128_i32_324 : BitVec 32 := 128#32
  let v676 : BitVec 32 := Scalar.addi v657 c128_i32_324
  let v677 : BitVec 32 := Scalar.minsi v674 v676
  let v675 : BitVec 32 := Scalar.maxsi v668 v657
  let v678 : BitVec 32 := Scalar.subi v677 v675
  let c0_i32_326 : BitVec 32 := 0#32
  let v683 : BitVec 1 := Scalar.cmpi .sgt v678 c0_i32_326
  let v684 : BitVec 32 := Scalar.extui v683
  let c0_i32_327 : BitVec 32 := 0#32
  let v685 : BitVec 1 := Scalar.cmpi .ne v684 c0_i32_327
  v685

def k0_off170 (v37 : BitVec 32) (v41 : BitVec 32) (k0_t15 : Fin (k0_t15_loop v37 v41).trips) (v668 : BitVec 32) (v674 : BitVec 32) (k0_t26 : Fin (k0_t26_loop v37 v41 k0_t15 v668 v674).trips) (c0_i32_365 : BitVec 32) : Fin 1 → Nat :=
  let c49152_i32 : BitVec 32 := 49152#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c319872_i32_316 : BitVec 32 := 319872#32
  let v658 : BitVec 32 := Scalar.minsi v657 c319872_i32_316
  let v659 : BitVec 32 := Scalar.subi v657 v658
  let v675 : BitVec 32 := Scalar.maxsi v668 v657
  let v679 : BitVec 32 := Scalar.subi v675 v657
  let v680 : BitVec 32 := Scalar.addi v659 v679
  let c128_i32_325 : BitVec 32 := 128#32
  let v681 : BitVec 32 := Scalar.muli v680 c128_i32_325
  let v682 : BitVec 32 := Scalar.addi c49152_i32 v681
  let c0_i32_344 : BitVec 32 := 0#32
  let c1_i32_346 : BitVec 32 := 1#32
  let arg22 : BitVec 32 := Scf.iv c0_i32_344 c1_i32_346 k0_t26
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk66 (v37 : BitVec 32) (v41 : BitVec 32) (k0_t15 : Fin (k0_t15_loop v37 v41).trips) (v668 : BitVec 32) (v674 : BitVec 32) (v855 : IVec S16 32) : Prop :=
  (∀ (k0_h27 : k0_cond27 v37 v41 k0_t15 v668 v674 = 1#1), ∀ a x, ((![v855] : Fin 1 → IVec S16 32) a x).toNat < S16.size a)
theorem k0_idx57_inb : ∀ (v37 : BitVec 32) (v41 : BitVec 32) (k0_t15 : Fin (k0_t15_loop v37 v41).trips) (v668 : BitVec 32) (v674 : BitVec 32) (v855 : IVec S16 32) (k0_hw66 : k0_chk66 v37 v41 k0_t15 v668 v674 v855), ∀ (k0_h27 : k0_cond27 v37 v41 k0_t15 v668 v674 = 1#1), ∀ a x, ((![v855] : Fin 1 → IVec S16 32) a x).toNat < S16.size a := fun v37 v41 k0_t15 v668 v674 v855 k0_hw66 k0_h27 => k0_hw66 k0_h27

def k0_chk67 (v37 : BitVec 32) (v41 : BitVec 32) (k0_t15 : Fin (k0_t15_loop v37 v41).trips) (v668 : BitVec 32) (v674 : BitVec 32) (v862 : IVec S16 32) : Prop :=
  (∀ (k0_h27 : k0_cond27 v37 v41 k0_t15 v668 v674 = 1#1), ∀ a x, ((![v862] : Fin 1 → IVec S16 32) a x).toNat < S16.size a)
theorem k0_idx58_inb : ∀ (v37 : BitVec 32) (v41 : BitVec 32) (k0_t15 : Fin (k0_t15_loop v37 v41).trips) (v668 : BitVec 32) (v674 : BitVec 32) (v862 : IVec S16 32) (k0_hw67 : k0_chk67 v37 v41 k0_t15 v668 v674 v862), ∀ (k0_h27 : k0_cond27 v37 v41 k0_t15 v668 v674 = 1#1), ∀ a x, ((![v862] : Fin 1 → IVec S16 32) a x).toNat < S16.size a := fun v37 v41 k0_t15 v668 v674 v862 k0_hw67 k0_h27 => k0_hw67 k0_h27

def k0_chk68 (v37 : BitVec 32) (v41 : BitVec 32) (k0_t15 : Fin (k0_t15_loop v37 v41).trips) (v668 : BitVec 32) (v674 : BitVec 32) (v869 : IVec S16 32) : Prop :=
  (∀ (k0_h27 : k0_cond27 v37 v41 k0_t15 v668 v674 = 1#1), ∀ a x, ((![v869] : Fin 1 → IVec S16 32) a x).toNat < S16.size a)
theorem k0_idx59_inb : ∀ (v37 : BitVec 32) (v41 : BitVec 32) (k0_t15 : Fin (k0_t15_loop v37 v41).trips) (v668 : BitVec 32) (v674 : BitVec 32) (v869 : IVec S16 32) (k0_hw68 : k0_chk68 v37 v41 k0_t15 v668 v674 v869), ∀ (k0_h27 : k0_cond27 v37 v41 k0_t15 v668 v674 = 1#1), ∀ a x, ((![v869] : Fin 1 → IVec S16 32) a x).toNat < S16.size a := fun v37 v41 k0_t15 v668 v674 v869 k0_hw68 k0_h27 => k0_hw68 k0_h27

def k0_chk69 (v37 : BitVec 32) (v41 : BitVec 32) (k0_t15 : Fin (k0_t15_loop v37 v41).trips) (v668 : BitVec 32) (v674 : BitVec 32) (v876 : IVec S16 32) : Prop :=
  (∀ (k0_h27 : k0_cond27 v37 v41 k0_t15 v668 v674 = 1#1), ∀ a x, ((![v876] : Fin 1 → IVec S16 32) a x).toNat < S16.size a)
theorem k0_idx60_inb : ∀ (v37 : BitVec 32) (v41 : BitVec 32) (k0_t15 : Fin (k0_t15_loop v37 v41).trips) (v668 : BitVec 32) (v674 : BitVec 32) (v876 : IVec S16 32) (k0_hw69 : k0_chk69 v37 v41 k0_t15 v668 v674 v876), ∀ (k0_h27 : k0_cond27 v37 v41 k0_t15 v668 v674 = 1#1), ∀ a x, ((![v876] : Fin 1 → IVec S16 32) a x).toNat < S16.size a := fun v37 v41 k0_t15 v668 v674 v876 k0_hw69 k0_h27 => k0_hw69 k0_h27
@[reducible] def k0_t27_loop (v37 : BitVec 32) (v41 : BitVec 32) (k0_t15 : Fin (k0_t15_loop v37 v41).trips) (v668 : BitVec 32) (v674 : BitVec 32) : Scf.Loop 32 :=
  let c0_i32_344 : BitVec 32 := 0#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c128_i32_324 : BitVec 32 := 128#32
  let v676 : BitVec 32 := Scalar.addi v657 c128_i32_324
  let v677 : BitVec 32 := Scalar.minsi v674 v676
  let v675 : BitVec 32 := Scalar.maxsi v668 v657
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let v735 : BitVec 32 := Scalar.addi c0_i32_344 v734
  let c1_i32_347 : BitVec 32 := 1#32
  ⟨v738, v735, c1_i32_347⟩
def k0_off171 (v37 : BitVec 32) (v41 : BitVec 32) (k0_t15 : Fin (k0_t15_loop v37 v41).trips) (v668 : BitVec 32) (v674 : BitVec 32) (k0_t27 : Fin (k0_t27_loop v37 v41 k0_t15 v668 v674).trips) (c0_i32_365 : BitVec 32) : Fin 1 → Nat :=
  let c49152_i32 : BitVec 32 := 49152#32
  let c4_i32_275 : BitVec 32 := 4#32
  let c0_i32_271 : BitVec 32 := 0#32
  let v42 : BitVec 32 := Scalar.subi v41 v37
  let c127_i32 : BitVec 32 := 127#32
  let v43 : BitVec 32 := Scalar.addi v42 c127_i32
  let c0_i32_6 : BitVec 32 := 0#32
  let v45 : BitVec 1 := Scalar.cmpi .sgt v43 c0_i32_6
  let v46 : BitVec 32 := Scalar.extui v45
  let c0_i32_7 : BitVec 32 := 0#32
  let v47 : BitVec 1 := Scalar.cmpi .slt v43 c0_i32_7
  let v48 : BitVec 32 := Scalar.extui v47
  let v49 : BitVec 32 := Scalar.subi v46 v48
  let c128_i32 : BitVec 32 := 128#32
  let c0_i32_8 : BitVec 32 := 0#32
  let v50 : BitVec 1 := Scalar.cmpi .sgt c128_i32 c0_i32_8
  let v51 : BitVec 32 := Scalar.extui v50
  let c0_i32_9 : BitVec 32 := 0#32
  let v52 : BitVec 1 := Scalar.cmpi .slt c128_i32 c0_i32_9
  let v53 : BitVec 32 := Scalar.extui v52
  let v54 : BitVec 32 := Scalar.subi v51 v53
  let v55 : BitVec 1 := Scalar.cmpi .ne v49 v54
  let v56 : BitVec 32 := Scalar.remsi v43 c128_i32
  let c0_i32_10 : BitVec 32 := 0#32
  let v57 : BitVec 1 := Scalar.cmpi .ne v56 c0_i32_10
  let v58 : BitVec 1 := Scalar.andi v55 v57
  let v44 : BitVec 32 := Scalar.divsi v43 c128_i32
  let c1_i32_11 : BitVec 32 := 1#32
  let v59 : BitVec 32 := Scalar.subi v44 c1_i32_11
  let v60 : BitVec 32 := Scalar.select v58 v59 v44
  let c3_i32_262 : BitVec 32 := 3#32
  let v584 : BitVec 32 := Scalar.addi v60 c3_i32_262
  let c0_i32_264 : BitVec 32 := 0#32
  let v586 : BitVec 1 := Scalar.cmpi .sgt v584 c0_i32_264
  let v587 : BitVec 32 := Scalar.extui v586
  let c0_i32_265 : BitVec 32 := 0#32
  let v588 : BitVec 1 := Scalar.cmpi .slt v584 c0_i32_265
  let v589 : BitVec 32 := Scalar.extui v588
  let v590 : BitVec 32 := Scalar.subi v587 v589
  let c4_i32_263 : BitVec 32 := 4#32
  let c0_i32_266 : BitVec 32 := 0#32
  let v591 : BitVec 1 := Scalar.cmpi .sgt c4_i32_263 c0_i32_266
  let v592 : BitVec 32 := Scalar.extui v591
  let c0_i32_267 : BitVec 32 := 0#32
  let v593 : BitVec 1 := Scalar.cmpi .slt c4_i32_263 c0_i32_267
  let v594 : BitVec 32 := Scalar.extui v593
  let v595 : BitVec 32 := Scalar.subi v592 v594
  let v596 : BitVec 1 := Scalar.cmpi .ne v590 v595
  let v597 : BitVec 32 := Scalar.remsi v584 c4_i32_263
  let c0_i32_268 : BitVec 32 := 0#32
  let v598 : BitVec 1 := Scalar.cmpi .ne v597 c0_i32_268
  let v599 : BitVec 1 := Scalar.andi v596 v598
  let v585 : BitVec 32 := Scalar.divsi v584 c4_i32_263
  let c1_i32_269 : BitVec 32 := 1#32
  let v600 : BitVec 32 := Scalar.subi v585 c1_i32_269
  let v601 : BitVec 32 := Scalar.select v599 v600 v585
  let v602 : BitVec 32 := Scalar.subi v601 c0_i32_271
  let c1_i32_272 : BitVec 32 := 1#32
  let v604 : BitVec 32 := Scalar.divsi v602 c1_i32_272
  let v605 : BitVec 32 := Scalar.muli v604 c1_i32_272
  let v606 : BitVec 32 := Scalar.addi c0_i32_271 v605
  let c1_i32_274 : BitVec 32 := 1#32
  let arg20 : BitVec 32 := Scf.iv v606 c1_i32_274 k0_t15
  let v607 : BitVec 32 := Scalar.muli c4_i32_275 arg20
  let c3_i32_314 : BitVec 32 := 3#32
  let v655 : BitVec 32 := Scalar.addi v607 c3_i32_314
  let c128_i32_315 : BitVec 32 := 128#32
  let v656 : BitVec 32 := Scalar.muli v655 c128_i32_315
  let v657 : BitVec 32 := Scalar.addi v37 v656
  let c319872_i32_316 : BitVec 32 := 319872#32
  let v658 : BitVec 32 := Scalar.minsi v657 c319872_i32_316
  let v659 : BitVec 32 := Scalar.subi v657 v658
  let v675 : BitVec 32 := Scalar.maxsi v668 v657
  let v679 : BitVec 32 := Scalar.subi v675 v657
  let v680 : BitVec 32 := Scalar.addi v659 v679
  let c128_i32_325 : BitVec 32 := 128#32
  let v681 : BitVec 32 := Scalar.muli v680 c128_i32_325
  let v682 : BitVec 32 := Scalar.addi c49152_i32 v681
  let c0_i32_344 : BitVec 32 := 0#32
  let c128_i32_324 : BitVec 32 := 128#32
  let v676 : BitVec 32 := Scalar.addi v657 c128_i32_324
  let v677 : BitVec 32 := Scalar.minsi v674 v676
  let v678 : BitVec 32 := Scalar.subi v677 v675
  let v734 : BitVec 32 := Scalar.subi v678 c0_i32_344
  let c1_i32_345 : BitVec 32 := 1#32
  let v736 : BitVec 32 := Scalar.divsi v734 c1_i32_345
  let v737 : BitVec 32 := Scalar.muli v736 c1_i32_345
  let v738 : BitVec 32 := Scalar.addi c0_i32_344 v737
  let c1_i32_347 : BitVec 32 := 1#32
  let arg22 : BitVec 32 := Scf.iv v738 c1_i32_347 k0_t27
  let c128_i32_364 : BitVec 32 := 128#32
  let v805 : BitVec 32 := Scalar.muli arg22 c128_i32_364
  let v806 : BitVec 32 := Scalar.addi v682 v805
  let v807 : BitVec 32 := Scalar.addi v806 c0_i32_365
  let v808 : Index := Scalar.indexCast v807
  ![v808.toNat]

def k0_chk65 (v37 : BitVec 32) (v41 : BitVec 32) (k0_t15 : Fin (k0_t15_loop v37 v41).trips) (v668 : BitVec 32) (v674 : BitVec 32) : Prop :=
  (∀ (k0_h27 : k0_cond27 v37 v41 k0_t15 v668 v674 = 1#1), (k0_t26_loop v37 v41 k0_t15 v668 v674).OK) ∧
  (∀ k0_t26 : Fin (k0_t26_loop v37 v41 k0_t15 v668 v674).trips, ∀ (k0_h27 : k0_cond27 v37 v41 k0_t15 v668 v674 = 1#1), ∀ (r : Fin 8), ∀ a, (k0_off170 v37 v41 k0_t15 v668 v674 k0_t26 (BitVec.ofNat 32 (16 * r.val))) a + S16.size a ≤ S65536.size a) ∧
  (∀ (k0_h27 : k0_cond27 v37 v41 k0_t15 v668 v674 = 1#1), (k0_t27_loop v37 v41 k0_t15 v668 v674).OK) ∧
  (∀ k0_t27 : Fin (k0_t27_loop v37 v41 k0_t15 v668 v674).trips, ∀ (k0_h27 : k0_cond27 v37 v41 k0_t15 v668 v674 = 1#1), ∀ (r : Fin 8), ∀ a, (k0_off171 v37 v41 k0_t15 v668 v674 k0_t27 (BitVec.ofNat 32 (16 * r.val))) a + S16.size a ≤ S65536.size a)
theorem k0_t26_ok : ∀ (v37 : BitVec 32) (v41 : BitVec 32) (k0_t15 : Fin (k0_t15_loop v37 v41).trips) (v668 : BitVec 32) (v674 : BitVec 32) (k0_hw65 : k0_chk65 v37 v41 k0_t15 v668 v674), ∀ (k0_h27 : k0_cond27 v37 v41 k0_t15 v668 v674 = 1#1), (k0_t26_loop v37 v41 k0_t15 v668 v674).OK := fun v37 v41 k0_t15 v668 v674 k0_hw65 k0_h27 => k0_hw65.1 k0_h27
theorem k0_off170_inb : ∀ (v37 : BitVec 32) (v41 : BitVec 32) (k0_t15 : Fin (k0_t15_loop v37 v41).trips) (v668 : BitVec 32) (v674 : BitVec 32) (k0_hw65 : k0_chk65 v37 v41 k0_t15 v668 v674) (k0_t26 : Fin (k0_t26_loop v37 v41 k0_t15 v668 v674).trips), ∀ (k0_h27 : k0_cond27 v37 v41 k0_t15 v668 v674 = 1#1), ∀ (r : Fin 8), ∀ a, (k0_off170 v37 v41 k0_t15 v668 v674 k0_t26 (BitVec.ofNat 32 (16 * r.val))) a + S16.size a ≤ S65536.size a := fun v37 v41 k0_t15 v668 v674 k0_hw65 k0_t26 k0_h27 r => k0_hw65.2.1 k0_t26 k0_h27 r
theorem k0_t27_ok : ∀ (v37 : BitVec 32) (v41 : BitVec 32) (k0_t15 : Fin (k0_t15_loop v37 v41).trips) (v668 : BitVec 32) (v674 : BitVec 32) (k0_hw65 : k0_chk65 v37 v41 k0_t15 v668 v674), ∀ (k0_h27 : k0_cond27 v37 v41 k0_t15 v668 v674 = 1#1), (k0_t27_loop v37 v41 k0_t15 v668 v674).OK := fun v37 v41 k0_t15 v668 v674 k0_hw65 k0_h27 => k0_hw65.2.2.1 k0_h27
theorem k0_off171_inb : ∀ (v37 : BitVec 32) (v41 : BitVec 32) (k0_t15 : Fin (k0_t15_loop v37 v41).trips) (v668 : BitVec 32) (v674 : BitVec 32) (k0_hw65 : k0_chk65 v37 v41 k0_t15 v668 v674) (k0_t27 : Fin (k0_t27_loop v37 v41 k0_t15 v668 v674).trips), ∀ (k0_h27 : k0_cond27 v37 v41 k0_t15 v668 v674 = 1#1), ∀ (r : Fin 8), ∀ a, (k0_off171 v37 v41 k0_t15 v668 v674 k0_t27 (BitVec.ofNat 32 (16 * r.val))) a + S16.size a ≤ S65536.size a := fun v37 v41 k0_t15 v668 v674 k0_hw65 k0_t27 k0_h27 r => k0_hw65.2.2.2 k0_t27 k0_h27 r

def k0_chk70 (v37 : BitVec 32) (v41 : BitVec 32) (k0_t15 : Fin (k0_t15_loop v37 v41).trips) (v668 : BitVec 32) (v674 : BitVec 32) (v855 : IVec S16 32) : Prop :=
  (∀ (k0_h27 : k0_cond27 v37 v41 k0_t15 v668 v674 = 1#1), ∀ a x, ((![v855] : Fin 1 → IVec S16 32) a x).toNat < S16.size a)
theorem k0_idx61_inb : ∀ (v37 : BitVec 32) (v41 : BitVec 32) (k0_t15 : Fin (k0_t15_loop v37 v41).trips) (v668 : BitVec 32) (v674 : BitVec 32) (v855 : IVec S16 32) (k0_hw70 : k0_chk70 v37 v41 k0_t15 v668 v674 v855), ∀ (k0_h27 : k0_cond27 v37 v41 k0_t15 v668 v674 = 1#1), ∀ a x, ((![v855] : Fin 1 → IVec S16 32) a x).toNat < S16.size a := fun v37 v41 k0_t15 v668 v674 v855 k0_hw70 k0_h27 => k0_hw70 k0_h27

def k0_chk71 (v37 : BitVec 32) (v41 : BitVec 32) (k0_t15 : Fin (k0_t15_loop v37 v41).trips) (v668 : BitVec 32) (v674 : BitVec 32) (v862 : IVec S16 32) : Prop :=
  (∀ (k0_h27 : k0_cond27 v37 v41 k0_t15 v668 v674 = 1#1), ∀ a x, ((![v862] : Fin 1 → IVec S16 32) a x).toNat < S16.size a)
theorem k0_idx62_inb : ∀ (v37 : BitVec 32) (v41 : BitVec 32) (k0_t15 : Fin (k0_t15_loop v37 v41).trips) (v668 : BitVec 32) (v674 : BitVec 32) (v862 : IVec S16 32) (k0_hw71 : k0_chk71 v37 v41 k0_t15 v668 v674 v862), ∀ (k0_h27 : k0_cond27 v37 v41 k0_t15 v668 v674 = 1#1), ∀ a x, ((![v862] : Fin 1 → IVec S16 32) a x).toNat < S16.size a := fun v37 v41 k0_t15 v668 v674 v862 k0_hw71 k0_h27 => k0_hw71 k0_h27

def k0_chk72 (v37 : BitVec 32) (v41 : BitVec 32) (k0_t15 : Fin (k0_t15_loop v37 v41).trips) (v668 : BitVec 32) (v674 : BitVec 32) (v869 : IVec S16 32) : Prop :=
  (∀ (k0_h27 : k0_cond27 v37 v41 k0_t15 v668 v674 = 1#1), ∀ a x, ((![v869] : Fin 1 → IVec S16 32) a x).toNat < S16.size a)
theorem k0_idx63_inb : ∀ (v37 : BitVec 32) (v41 : BitVec 32) (k0_t15 : Fin (k0_t15_loop v37 v41).trips) (v668 : BitVec 32) (v674 : BitVec 32) (v869 : IVec S16 32) (k0_hw72 : k0_chk72 v37 v41 k0_t15 v668 v674 v869), ∀ (k0_h27 : k0_cond27 v37 v41 k0_t15 v668 v674 = 1#1), ∀ a x, ((![v869] : Fin 1 → IVec S16 32) a x).toNat < S16.size a := fun v37 v41 k0_t15 v668 v674 v869 k0_hw72 k0_h27 => k0_hw72 k0_h27

def k0_chk73 (v37 : BitVec 32) (v41 : BitVec 32) (k0_t15 : Fin (k0_t15_loop v37 v41).trips) (v668 : BitVec 32) (v674 : BitVec 32) (v876 : IVec S16 32) : Prop :=
  (∀ (k0_h27 : k0_cond27 v37 v41 k0_t15 v668 v674 = 1#1), ∀ a x, ((![v876] : Fin 1 → IVec S16 32) a x).toNat < S16.size a)
theorem k0_idx64_inb : ∀ (v37 : BitVec 32) (v41 : BitVec 32) (k0_t15 : Fin (k0_t15_loop v37 v41).trips) (v668 : BitVec 32) (v674 : BitVec 32) (v876 : IVec S16 32) (k0_hw73 : k0_chk73 v37 v41 k0_t15 v668 v674 v876), ∀ (k0_h27 : k0_cond27 v37 v41 k0_t15 v668 v674 = 1#1), ∀ a x, ((![v876] : Fin 1 → IVec S16 32) a x).toNat < S16.size a := fun v37 v41 k0_t15 v668 v674 v876 k0_hw73 k0_h27 => k0_hw73 k0_h27
def k0_off172 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_275_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S320000x1 : Shape := ⟨2, ![320000, 1]⟩
abbrev S1x1 : Shape := ⟨2, ![1, 1]⟩
abbrev S_ : Shape := ⟨0, ![]⟩
abbrev S256x128 : Shape := ⟨2, ![256, 128]⟩
abbrev S1x320000 : Shape := ⟨2, ![1, 320000]⟩
abbrev S256 : Shape := ⟨1, ![256]⟩
abbrev S256x1 : Shape := ⟨2, ![256, 1]⟩
abbrev S256x320000 : Shape := ⟨2, ![256, 320000]⟩
abbrev S256x320000x1 : Shape := ⟨3, ![256, 320000, 1]⟩
abbrev S1x320000x128 : Shape := ⟨3, ![1, 320000, 128]⟩
abbrev S256x320000x128 : Shape := ⟨3, ![256, 320000, 128]⟩
abbrev S256x256 : Shape := ⟨2, ![256, 256]⟩

abbrev nBuf : Space → Nat
  | .hbm => 32
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x1, .f32⟩
  | .hbm, ⟨3, _⟩ => ⟨S1, .f32⟩
  | .hbm, ⟨4, _⟩ => ⟨S320000x1, .f32⟩
  | .hbm, ⟨5, _⟩ => ⟨S1x1, .f32⟩
  | .hbm, ⟨6, _⟩ => ⟨S320000x1, .f32⟩
  | .hbm, ⟨7, _⟩ => ⟨S320000x1, .f32⟩
  | .hbm, ⟨8, _⟩ => ⟨S320000x1, .f32⟩
  | .hbm, ⟨9, _⟩ => ⟨S320000x128, .f32⟩
  | .hbm, ⟨10, _⟩ => ⟨S320000x128, .f32⟩
  | .hbm, ⟨11, _⟩ => ⟨S_, .f32⟩
  | .hbm, ⟨12, _⟩ => ⟨S256x128, .f32⟩
  | .hbm, ⟨13, _⟩ => ⟨S320000x1, .i32⟩
  | .hbm, ⟨14, _⟩ => ⟨S256x128, .f32⟩
  | .hbm, ⟨15, _⟩ => ⟨S1x320000, .i32⟩
  | .hbm, ⟨16, _⟩ => ⟨S256, .i32⟩
  | .hbm, ⟨17, _⟩ => ⟨S256x1, .i32⟩
  | .hbm, ⟨18, _⟩ => ⟨S256x320000, .i32⟩
  | .hbm, ⟨19, _⟩ => ⟨S256x320000, .i32⟩
  | .hbm, ⟨20, _⟩ => ⟨S256x320000, .i1⟩
  | .hbm, ⟨21, _⟩ => ⟨S256x320000x1, .i1⟩
  | .hbm, ⟨22, _⟩ => ⟨S1x320000x128, .f32⟩
  | .hbm, ⟨23, _⟩ => ⟨S_, .f32⟩
  | .hbm, ⟨24, _⟩ => ⟨S_, .f32⟩
  | .hbm, ⟨25, _⟩ => ⟨S256x320000x128, .i1⟩
  | .hbm, ⟨26, _⟩ => ⟨S256x320000x128, .f32⟩
  | .hbm, ⟨27, _⟩ => ⟨S256x320000x128, .f32⟩
  | .hbm, ⟨28, _⟩ => ⟨S256x320000x128, .f32⟩
  | .hbm, ⟨29, _⟩ => ⟨S_, .f32⟩
  | .hbm, ⟨30, _⟩ => ⟨S256x128, .f32⟩
  | .hbm, ⟨31, _⟩ => ⟨S256x256, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.Progs.lean ====
/-
  The kernel's repeated stretches of program, each written once: a run of loads, a run of stores, one lane shuffle,
  one row of a chunk, one segment of a chunk. The printed program repeats a row's and a segment's text for each of the
  four chunk buffers (and a row's twice in each); the theorems below say that every one of these texts is an instance
  of the one written here.
-/
module

public import proofs.«01_k».proof.Proof.Gen.KernelIdeal
public import Mathlib.Tactic.IntervalCases

@[expose] public section

noncomputable section

namespace Cert.Proof.Tile

open Cert.KernelIdeal Cert.KernelIdeal.Gen Idealize.ShloMosaic Idealize.SL.Sem

variable {F : FTy → Type} [FloatOps F]

/-- A lane vector of floats, a lane vector of words, a word. -/
abbrev FV (F : FTy → Type) := FVec F S16 .f32
abbrev IV := IVec S16 32
abbrev W := BitVec 32

/-- The programs of the subcore at grid point `i`. -/
abbrev PR (F : FTy → Type) [FloatOps F] (i : grid0.Coords) (α : Type) :=
  Prog (TpuEff nD τ sig (Elt F) Λ₀ (.scVector ((i 0).castLE hcore0) ((i 1).castLE hsub0))) α

/-! ## Words -/

/-- Whether the chunk `ci` is among the first `n`, as the kernel computes it. -/
abbrev haveC (n ci : W) : BitVec 1 := Scalar.cmpi .ne (Scalar.extui (Scalar.cmpi .slt ci n)) 0#32
/-- How many rows of the chunk of rows `ts … ts+128` a segment of rows `sb … se` has, as the kernel computes it. -/
def mjW (sb se ts : W) : W := Scalar.subi (Scalar.minsi se (Scalar.addi ts 128#32)) (Scalar.maxsi sb ts)

/-- The condition under which a segment's rows are walked. -/
def condW (sb se ts : W) : BitVec 1 := Scalar.cmpi .ne (Scalar.extui (Scalar.cmpi .sgt (mjW sb se ts) 0#32)) 0#32

/-- The number of the chunk slot `b` of trip `t` of the ring loop holds. -/
abbrev ciW (t : Nat) (b : W) : W := Scalar.addi (Scalar.muli 4#32 (Scf.iv 0#32 1#32 t)) b
/-- The first row the chunk `ci` would have. -/
abbrev tsW (v37 ci : W) : W := Scalar.addi v37 (Scalar.muli ci 128#32)
/-- The first row of the chunk as fetched: clipped to the last place a whole chunk fits. -/
abbrev clipW (ts : W) : W := Scalar.minsi ts 319872#32
/-- How far the rows lie from the start of the fetched chunk. -/
abbrev coffW (ts : W) : W := Scalar.subi ts (clipW ts)

/-- Where the segment's first row lies in the ring buffer. -/
def rowBase (boff ts coff sb : W) : W :=
  Scalar.addi boff (Scalar.muli (Scalar.addi coff (Scalar.subi (Scalar.maxsi sb ts) ts)) 128#32)

/-- The loop over a segment's rows. -/
@[reducible] def rowLoop (sb se ts : W) : Scf.Loop 32 :=
  ⟨0#32, Scalar.addi 0#32 (Scalar.muli (Scalar.divsi (Scalar.subi (mjW sb se ts) 0#32) 1#32) 1#32), 1#32⟩

/-- The loop over the rows the first loop's unrolling leaves: none. -/
@[reducible] def remLoop (sb se ts : W) : Scf.Loop 32 :=
  ⟨Scalar.addi 0#32 (Scalar.muli (Scalar.divsi (Scalar.subi (mjW sb se ts) 0#32) 1#32) 1#32), Scalar.addi 0#32 (Scalar.subi (mjW sb se ts) 0#32), 1#32⟩

/-- The ring-buffer offset of lane group `c` of the row numbered by the word `iv`. -/
def rowOff (base iv c : W) : Fin 1 → Nat :=
  ![(Scalar.indexCast (Scalar.addi (Scalar.addi base (Scalar.muli iv 128#32)) c)).toNat]

/-- The stage offset of lane group `c` of segment `k`. -/
def stageOff (k : Nat) (c : Nat) : Fin 2 → Nat := ![(Scalar.indexCast (Scf.iv 0#32 1#32 k)).toNat, c]

/-- What a segment's step assumes of the words it read. -/
def chkSeg (boff ts coff sb se : W) : Prop :=
  (condW sb se ts = 1#1 → (rowLoop sb se ts).OK)
    ∧ (∀ k : Fin (rowLoop sb se ts).trips, condW sb se ts = 1#1 → ∀ r : Fin 8, ∀ a,
        rowOff (rowBase boff ts coff sb) (Scf.iv 0#32 1#32 k) (BitVec.ofNat 32 (16 * r.val)) a + S16.size a ≤ S65536.size a)
    ∧ (condW sb se ts = 1#1 → (remLoop sb se ts).OK)
    ∧ (∀ k : Fin (remLoop sb se ts).trips, condW sb se ts = 1#1 → ∀ r : Fin 8, ∀ a,
        rowOff (rowBase boff ts coff sb) (Scf.iv (remLoop sb se ts).lb 1#32 k) (BitVec.ofNat 32 (16 * r.val)) a + S16.size a ≤ S65536.size a)

/-! ## Runs of loads and of stores -/

/-- Load `n` rectangles of a buffer, one after the other, then go on with the vectors read. -/
def loadsP (i : grid0.Coords) {s : Shape} {e : EltTy} (m : Memref sig .scVector .vmem s e) {sz : Fin s.rank → Nat} {α : Type} :
    (n : Nat) → (off : Fin n → Fin s.rank → Nat) → (inb : ∀ j a, off j a + sz a ≤ s.size a)
      → (hl : ∀ j, m.view.LoadsAt (Rect.unit (off j) sz (inb j)).toLoadRect)
      → ((Fin n → Shape.Idx ⟨s.rank, sz⟩ → Elt F e) → PR F i α) → PR F i α
  | 0, _, _, _, k => k Fin.elim0
  | n + 1, off, inb, hl, k =>
    .op (.load m (Rect.unit (off 0) sz (inb 0)).toLoadRect (hl 0)) fun v =>
      loadsP i m n (fun j => off j.succ) (fun j => inb j.succ) (fun j => hl j.succ) fun vs => k (Fin.cons v vs)

/-- Store `n` vectors at `n` rectangles of a buffer, each store after a load of the same rectangle, then go on. -/
def storesP (i : grid0.Coords) {s : Shape} {e : EltTy} (m : Memref sig .scVector .vmem s e) {sz : Fin s.rank → Nat} {α : Type} :
    (n : Nat) → (off : Fin n → Fin s.rank → Nat) → (inb : ∀ j a, off j a + sz a ≤ s.size a)
      → (hl : ∀ j, m.view.LoadsAt (Rect.unit (off j) sz (inb j)).toLoadRect)
      → (hx : ∀ j, (m.access (Rect.unit (off j) sz (inb j))).Stores Finset.univ)
      → (w : Fin n → Shape.Idx ⟨s.rank, sz⟩ → Elt F e) → PR F i α → PR F i α
  | 0, _, _, _, _, _, k => k
  | n + 1, off, inb, hl, hx, w, k =>
    .op (.load m (Rect.unit (off 0) sz (inb 0)).toLoadRect (hl 0)) fun _ =>
      .op (.store m (Rect.unit (off 0) sz (inb 0)) (w 0) Finset.univ (hx 0) (.inl rfl)) fun _ =>
        storesP i m n (fun j => off j.succ) (fun j => inb j.succ) (fun j => hl j.succ) (fun j => hx j.succ) (fun j => w j.succ) k

/-! ## A row -/

/-- Sixteen lane vectors as the loops carry them. -/
abbrev Tup (F : FTy → Type) := FV F × FV F × FV F × FV F × FV F × FV F × FV F × FV F × FV F × FV F × FV F × FV F × FV F × FV F × FV F × FV F

/-- The lane vectors of a tuple. -/
def ofT (t : Tup F) : Fin 16 → FV F :=
  ![t.1, t.2.1, t.2.2.1, t.2.2.2.1, t.2.2.2.2.1, t.2.2.2.2.2.1, t.2.2.2.2.2.2.1, t.2.2.2.2.2.2.2.1, t.2.2.2.2.2.2.2.2.1,
    t.2.2.2.2.2.2.2.2.2.1, t.2.2.2.2.2.2.2.2.2.2.1, t.2.2.2.2.2.2.2.2.2.2.2.1, t.2.2.2.2.2.2.2.2.2.2.2.2.1,
    t.2.2.2.2.2.2.2.2.2.2.2.2.2.1, t.2.2.2.2.2.2.2.2.2.2.2.2.2.2.1, t.2.2.2.2.2.2.2.2.2.2.2.2.2.2.2]

/-- The tuple of sixteen lane vectors. -/
def toT (f : Fin 16 → FV F) : Tup F :=
  (f 0, f 1, f 2, f 3, f 4, f 5, f 6, f 7, f 8, f 9, f 10, f 11, f 12, f 13, f 14, f 15)

/-- The lanes numbered `lane xor c`. -/
abbrev xorIdx (iota : IV) (c : W) : IV := xori iota (broadcast S16 c)

/-- One lane shuffle: store `v`, load it back at the lanes `ix`. The assumption about the lanes is stated
    as the program states it, under the condition `c`. -/
def shufP (i : grid0.Coords) (sh : Memref sig .scVector .vmem S16 .f32) {α : Type} (c : Prop) (hc : c) (v : FV F) (ix : IV)
    (dc : Decidable (c → ∀ a x, ((![ix] : Fin 1 → IVec S16 32) a x).toNat < S16.size a)) (k : FV F → PR F i α) : PR F i α :=
  .op (.assume (c → ∀ a x, ((![ix] : Fin 1 → IVec S16 32) a x).toNat < S16.size a) dc) fun hw =>
    .op (.load sh (Rect.unit (s := S16) ![0] S16.size inb_S16_S16_0).toLoadRect (View.loadsAt_vmem h_S16)) fun _ =>
      .op (.store sh (Rect.unit (s := S16) ![0] S16.size inb_S16_S16_0) (shapeCast S16 v shapeCasts_S16_S16) Finset.univ (View.stores_vmem_bits_univ h_S16 rfl) (.inl rfl)) fun _ =>
        SparseCore.vectorLoadIdx sh ![ix] (hw.down hc) (View.loads_vmem h_S16) >>= k

/-- The per-lane partial dot product of a row with the weights. -/
def partialDot (ws x : Fin 8 → FV F) : FV F :=
  addf (addf (addf (addf (addf (addf (addf (mulf (x 0) (ws 0)) (mulf (x 1) (ws 1))) (mulf (x 2) (ws 2))) (mulf (x 3) (ws 3)))
    (mulf (x 4) (ws 4))) (mulf (x 5) (ws 5))) (mulf (x 6) (ws 6))) (mulf (x 7) (ws 7))

/-- The row's weight from the lane sums of the dot product and the bias. -/
def weightOf (bv s : FV F) : FV F :=
  divf (subf (exp (addf (addf s bv) (addf s bv))) (broadcast S16 (Scalar.ofBits .f32 0x3F800000#32)))
    (addf (exp (addf (addf s bv) (addf s bv))) (broadcast S16 (Scalar.ofBits .f32 0x3F800000#32)))

/-- The sixteen running vectors after one more row `x` of weight `wt`. -/
def accStep (wt : FV F) (x : Fin 8 → FV F) (a : Fin 16 → FV F) : Fin 16 → FV F :=
  ![addf (a 0) (mulf (x 0) wt), addf (a 1) (mulf (x 1) wt), addf (a 2) (mulf (x 2) wt), addf (a 3) (mulf (x 3) wt),
    addf (a 4) (mulf (x 4) wt), addf (a 5) (mulf (x 5) wt), addf (a 6) (mulf (x 6) wt), addf (a 7) (mulf (x 7) wt),
    maximumf (a 8) (x 0), maximumf (a 9) (x 1), maximumf (a 10) (x 2), maximumf (a 11) (x 3),
    maximumf (a 12) (x 4), maximumf (a 13) (x 5), maximumf (a 14) (x 6), maximumf (a 15) (x 7)]

/-- The eight lane vectors as reshaped on their way from a load. -/
abbrev castRow (v : Fin 8 → Vec F S16 .f32) : Fin 8 → FV F := fun j => shapeCast S16 (v j) shapeCasts_S16_S16

/-- One row: its eight lane vectors, the dot product and its four shuffles, and the running vectors after it. -/
def rowP (i : grid0.Coords) (buf : Memref sig .scVector .vmem S65536 .f32) (sh : Memref sig .scVector .vmem S16 .f32)
    (c : Prop) (hc : c) (ws : Fin 8 → FV F) (bv : FV F) (iota : IV)
    (dc : ∀ ix : IV, Decidable (c → ∀ a x, ((![ix] : Fin 1 → IVec S16 32) a x).toNat < S16.size a))
    (off : Fin 8 → Fin 1 → Nat) (inb : ∀ j a, off j a + S16.size a ≤ S65536.size a) (acc : Tup F) : PR F i (Tup F) :=
  loadsP i buf (sz := S16.size) 8 off inb (fun _ => View.loadsAt_vmem h_S16) fun v =>
    shufP i sh c hc (partialDot ws (castRow v)) (xorIdx iota 8#32) (dc _) fun s1 =>
      shufP i sh c hc (addf (partialDot ws (castRow v)) s1) (xorIdx iota 4#32) (dc _) fun s2 =>
        shufP i sh c hc (addf (addf (partialDot ws (castRow v)) s1) s2) (xorIdx iota 2#32) (dc _) fun s3 =>
          shufP i sh c hc (addf (addf (addf (partialDot ws (castRow v)) s1) s2) s3) (xorIdx iota 1#32) (dc _) fun s4 =>
            pure (toT (accStep (weightOf bv (addf (addf (addf (addf (partialDot ws (castRow v)) s1) s2) s3) s4)) (castRow v) (ofT acc)))

/-- The offsets of a row's eight lane vectors. -/
abbrev rowOffs (base iv : W) : Fin 8 → Fin 1 → Nat := fun r => rowOff base iv (BitVec.ofNat 32 (16 * r.val))

/-! ## A segment -/

/-- The first lane of a vector of words. -/
abbrev firstW (v : Vec F S16 .i32) : W :=
  extractAt ![0] (extractStridedSlice S1 ![0] (shapeCast S16 v shapeCasts_S16_S16) slices_S16_o0_S1) inpos_S1_p0

/-- The stage columns, in the order the running vectors are numbered. -/
def colsL (j : Fin 16) : Nat := 16 * j.val

/-- The running vector stored by the `j`th of the sixteen final stores. -/
def ordS (j : Fin 16) : Fin 16 := if j.val % 2 = 0 then ⟨j.val / 2, by omega⟩ else ⟨8 + j.val / 2, by omega⟩

/-- A lane vector as the stage holds it. -/
abbrev toRow (v : FV F) : FVec F S1x16 .f32 := shapeCast S1x16 v shapeCasts_S16_S1x16
/-- A lane vector of the stage. -/
abbrev ofRow (v : Vec F S1x16 .f32) : FV F := shapeCast S16 v shapeCasts_S1x16_S16

/-- One segment of a chunk, its first row and the next segment's known: if the chunk has rows of the segment, take the running
    vectors from the stage, walk the rows, and put the running vectors back. -/
def segTail (i : grid0.Coords) (buf : Memref sig .scVector .vmem S65536 .f32)
    (sh : Memref sig .scVector .vmem S16 .f32) (stg : Memref sig .scVector .vmem S8x256 .f32)
    (ws : Fin 8 → FV F) (bv : FV F) (iota : IV) (boff ts coff : W)
    (so : Fin 16 → Fin 2 → Nat) (si : ∀ j a, so j a + S1x16.size a ≤ S8x256.size a) (sb se : W)
    (dk : Decidable (chkSeg boff ts coff sb se))
    (dc dc' : ∀ ix : IV, Decidable (condW sb se ts = 1#1 → ∀ a x, ((![ix] : Fin 1 → IVec S16 32) a x).toNat < S16.size a)) : PR F i Unit := do
  have hw : chkSeg boff ts coff sb se := (← Prog.lift (TpuEff.assume (chkSeg boff ts coff sb se) dk)).down
  if h : condW sb se ts = 1#1 then do
    let vs ← loadsP i stg (sz := S1x16.size) 16 so si (fun _ => View.loadsAt_vmem h_S1x16) pure
    let ⟨b4, b5, b6, b7, b11, b12, b13, b14, b15, last⟩ : Σ' (_ : FV F) (_ : FV F) (_ : FV F) (_ : FV F) (_ : FV F) (_ : FV F) (_ : FV F) (_ : FV F) (_ : FV F), Vec F S1x16 .f32 ← (do
      let a ← Scf.Loop.for (rowLoop sb se ts) (hw.1 h) (toT fun j => ofRow (vs j)) fun k acc =>
        rowP i buf sh (condW sb se ts = 1#1) h ws bv iota dc (rowOffs (rowBase boff ts coff sb) (Scf.iv 0#32 1#32 k))
          (fun r a => hw.2.1 k h r a) acc
      let b ← Scf.Loop.for (remLoop sb se ts) (hw.2.2.1 h) a fun k acc =>
        rowP i buf sh (condW sb se ts = 1#1) h ws bv iota dc' (rowOffs (rowBase boff ts coff sb) (Scf.iv (remLoop sb se ts).lb 1#32 k))
          (fun r a => hw.2.2.2 k h r a) acc
      storesP i stg (sz := S1x16.size) 7 (fun j => so (ordS (j.castLE (by decide)))) (fun j => si _) (fun _ => View.loadsAt_vmem h_S1x16)
        (fun _ => View.stores_vmem_bits_univ h_S1x16 rfl) (fun j => toRow (ofT b (ordS (j.castLE (by decide))))) (do
          let v ← Prog.lift (.load stg (Rect.unit (s := S8x256) (so 11) S1x16.size (si 11)).toLoadRect (View.loadsAt_vmem h_S1x16))
          pure ⟨ofT b 4, ofT b 5, ofT b 6, ofT b 7, ofT b 11, ofT b 12, ofT b 13, ofT b 14, ofT b 15, v⟩))
    Prog.lift (.store stg (Rect.unit (s := S8x256) (so 11) S1x16.size (si 11)) (toRow b11) Finset.univ (View.stores_vmem_bits_univ h_S1x16 rfl) (.inl rfl))
    storesP i stg (sz := S1x16.size) 8 (fun j => so (ordS (Fin.natAdd 8 j))) (fun j => si _) (fun _ => View.loadsAt_vmem h_S1x16)
      (fun _ => View.stores_vmem_bits_univ h_S1x16 rfl) (fun j => toRow ((![b4, b12, b5, b13, b6, b14, b7, b15] : Fin 8 → FV F) j)) (pure ⟨⟩)
  else do
    pure ⟨⟩
  pure ⟨⟩

/-- One segment of a chunk: read the segment's first row and the next one's, and if the chunk has rows of the
    segment, take the running vectors from the stage, walk the rows, and put the running vectors back. -/
def segP (i : grid0.Coords) (buf : Memref sig .scVector .vmem S65536 .f32) (offR : Memref sig .scVector .vmem S32 .i32)
    (sh : Memref sig .scVector .vmem S16 .f32) (stg : Memref sig .scVector .vmem S8x256 .f32)
    (ws : Fin 8 → FV F) (bv : FV F) (iota : IV) (boff ts coff : W)
    (o0 : Fin 1 → Nat) (i0 : ∀ a, o0 a + S16.size a ≤ S32.size a) (o1 : Fin 1 → Nat) (i1 : ∀ a, o1 a + S16.size a ≤ S32.size a)
    (so : Fin 16 → Fin 2 → Nat) (si : ∀ j a, so j a + S1x16.size a ≤ S8x256.size a)
    (dk : ∀ sb se, Decidable (chkSeg boff ts coff sb se))
    (dc dc' : ∀ sb se, ∀ ix : IV, Decidable (condW sb se ts = 1#1 → ∀ a x, ((![ix] : Fin 1 → IVec S16 32) a x).toNat < S16.size a)) : PR F i Unit := do
  let v665 : Vec F S16 .i32 ← Prog.lift (.load offR (Rect.unit (s := S32) o0 S16.size i0).toLoadRect (View.loadsAt_vmem h_S16))
  let v671 : Vec F S16 .i32 ← Prog.lift (.load offR (Rect.unit (s := S32) o1 S16.size i1).toLoadRect (View.loadsAt_vmem h_S16))
  segTail i buf sh stg ws bv iota boff ts coff so si (firstW v665) (firstW v671) (dk _ _) (dc _ _) (dc' _ _)

/-! ## A chunk buffer's turn -/

/-- The loop over the eight segments. -/
@[reducible] def segLoop : Scf.Loop 32 := ⟨0#32, Scalar.addi 0#32 8#32, 1#32⟩

/-- Where a segment's first row is read, and where the next segment's is. -/
def offAt (k : Nat) : Fin 1 → Nat := ![(Scalar.indexCast (Scf.iv 0#32 1#32 k)).toNat]
/-- Where the next segment's first row is read. -/
def offNext (k : Nat) : Fin 1 → Nat := ![(Scalar.indexCast (Scalar.addi (Scf.iv 0#32 1#32 k) 1#32)).toNat]

theorem segLoop_ok : segLoop.OK := k0_t3_ok
theorem offAt_inb (k : Fin segLoop.trips) : ∀ a, offAt k a + S16.size a ≤ S32.size a := k0_off5_inb k
theorem offNext_inb (k : Fin segLoop.trips) : ∀ a, offNext k a + S16.size a ≤ S32.size a := k0_off6_inb k

theorem segLoop_trips : segLoop.trips = 8 := by decide

theorem stageOff_inb (k : Fin segLoop.trips) (j : Fin 16) : ∀ a, stageOff k (16 * j.val) a + S1x16.size a ≤ S8x256.size a := by
  have hk : k.val < 8 := segLoop_trips ▸ k.isLt
  have hj := j.isLt
  generalize k.val = n at hk
  rw [Fin.forall_fin_two]
  constructor
  · show (Scalar.indexCast (Scf.iv 0#32 1#32 n)).toNat + 1 ≤ 8
    interval_cases n <;> decide
  · show 16 * j.val + 16 ≤ 256
    omega

/-- The four windows of the ring buffer, and the window of a chunk in the array. -/
abbrev winM (buf : Memref sig .scVector .vmem S65536 .f32) (w : Nat) (hw : ∀ a, (![w] : Fin 1 → Nat) a + S16384.size a ≤ S65536.size a) :
    Memref sig .scVector .vmem S16384 .f32 := buf.slice (Rect.unit (s := S65536) ![w] S16384.size hw) (fun _ => rfl)
/-- The window of a chunk in the array. -/
abbrev srcM (x : Memref sig .scVector .hbm S40960000 .f32) (o : Fin 1 → Nat) (ho : ∀ a, o a + S16384.size a ≤ S40960000.size a) :
    Memref sig .scVector .hbm S16384 .f32 := x.slice (Rect.unit (s := S40960000) o S16384.size ho) (fun _ => rfl)

/-- One chunk buffer's turn: start the fetch three chunks ahead, wait for this chunk's, walk the eight segments. -/
def slotP (i : grid0.Coords) (x : Memref sig .scVector .hbm S40960000 .f32) (buf : Memref sig .scVector .vmem S65536 .f32) (semI semW : DmaSems sig S_)
    (ci cw : BitVec 1) (wi ww : Nat) (hwi : ∀ a, (![wi] : Fin 1 → Nat) a + S16384.size a ≤ S65536.size a) (hww : ∀ a, (![ww] : Fin 1 → Nat) a + S16384.size a ≤ S65536.size a)
    (o : Fin 1 → Nat) (ho : ci = 1#1 → ∀ a, o a + S16384.size a ≤ S40960000.size a)
    (body : Fin segLoop.trips → Unit → PR F i Unit) {α : Type} (k : PR F i α) : PR F i α := do
  if h : ci = 1#1 then do
    Prog.lift (.enqueueDma (srcM x o (ho h)) (.here (winM buf wi hwi)) (.dma semI.sem) (View.wordExact_bits rfl) (View.wordExact_bits rfl) ⟨Or.inl rfl, trivial⟩)
    pure ⟨⟩
  else do
    pure ⟨⟩
  if cw = 1#1 then do
    Prog.lift (.waitDma2 semW.sem (srcM x ![0] inb_S40960000_S16384_0) (winM buf ww hww) (View.wordExact_bits rfl) (View.wordExact_bits rfl))
    pure ⟨⟩
  else do
    pure ⟨⟩
  Scf.Loop.for segLoop segLoop_ok ⟨⟩ body
  k

/-! ## The stage's initial contents -/

/-- The column of the `j`th store to a stage row: sums and maxima alternate. -/
def colI (j : Nat) : Nat := if j % 2 = 0 then 8 * j else 120 + 8 * j

theorem initOff_inb (r : Fin 8) (j : Fin 16) : ∀ a, (![r.val, colI j.val] : Fin 2 → Nat) a + S1x16.size a ≤ S8x256.size a := by
  have hr := r.isLt
  have hj := j.isLt
  rw [Fin.forall_fin_two]
  constructor
  · show r.val + 1 ≤ 8
    omega
  · show colI j.val + 16 ≤ 256
    unfold colI
    split <;> omega

/-- Fill row `r` of the stage: zeros in the sums' half, minus infinity in the maxima's. -/
def initRow (i : grid0.Coords) (stg : Memref sig .scVector .vmem S8x256 .f32) (r : Fin 8) {α : Type} (k : PR F i α) : PR F i α :=
  storesP i stg (sz := S1x16.size) 16 (fun j => ![r.val, colI j.val]) (initOff_inb r) (fun _ => View.loadsAt_vmem h_S1x16)
    (fun _ => View.stores_vmem_bits_univ h_S1x16 rfl)
    (fun j => toRow (if j.val % 2 = 0 then broadcast S16 (Scalar.ofBits .f32 0x00000000#32) else broadcast S16 (Scalar.ofBits .f32 0xFF800000#32))) k

/-- Fill the stage. -/
def initP (i : grid0.Coords) (stg : Memref sig .scVector .vmem S8x256 .f32) {α : Type} (k : PR F i α) : PR F i α :=
  initRow i stg 0 (initRow i stg 1 (initRow i stg 2 (initRow i stg 3 (initRow i stg 4 (initRow i stg 5 (initRow i stg 6 (initRow i stg 7 k)))))))

/-! ## The first fetches -/

/-- How many chunks the rows `v37 … v41` take, as the kernel computes it. -/
def nchW (v37 v41 : W) : W :=
  let v43 : W := Scalar.addi (Scalar.subi v41 v37) 127#32
  let v49 : W := Scalar.subi (Scalar.extui (Scalar.cmpi .sgt v43 0#32)) (Scalar.extui (Scalar.cmpi .slt v43 0#32))
  let v54 : W := Scalar.subi (Scalar.extui (Scalar.cmpi .sgt 128#32 0#32)) (Scalar.extui (Scalar.cmpi .slt 128#32 0#32))
  let v58 : BitVec 1 := Scalar.andi (Scalar.cmpi .ne v49 v54) (Scalar.cmpi .ne (Scalar.remsi v43 128#32) 0#32)
  Scalar.select v58 (Scalar.subi (Scalar.divsi v43 128#32) 1#32) (Scalar.divsi v43 128#32)

/-- Where the ring loop ends, as the kernel computes it from the number of chunks to walk and the ring's length. -/
def lastW (v584 four : W) : W :=
  let v590 : W := Scalar.subi (Scalar.extui (Scalar.cmpi .sgt v584 0#32)) (Scalar.extui (Scalar.cmpi .slt v584 0#32))
  let v595 : W := Scalar.subi (Scalar.extui (Scalar.cmpi .sgt four 0#32)) (Scalar.extui (Scalar.cmpi .slt four 0#32))
  let v599 : BitVec 1 := Scalar.andi (Scalar.cmpi .ne v590 v595) (Scalar.cmpi .ne (Scalar.remsi v584 four) 0#32)
  let v601 : W := Scalar.select v599 (Scalar.subi (Scalar.divsi v584 four) 1#32) (Scalar.divsi v584 four)
  Scalar.addi 0#32 (Scalar.muli (Scalar.divsi (Scalar.subi v601 0#32) 1#32) 1#32)

/-- Start the fetch of a chunk if there is one. -/
def issueP (i : grid0.Coords) (x : Memref sig .scVector .hbm S40960000 .f32) (buf : Memref sig .scVector .vmem S65536 .f32) (sem : DmaSems sig S_)
    (c : BitVec 1) (w : Nat) (hw : ∀ a, (![w] : Fin 1 → Nat) a + S16384.size a ≤ S65536.size a)
    (o : Fin 1 → Nat) (ho : c = 1#1 → ∀ a, o a + S16384.size a ≤ S40960000.size a) {α : Type} (k : PR F i α) : PR F i α := do
  if h : c = 1#1 then do
    Prog.lift (.enqueueDma (srcM x o (ho h)) (.here (winM buf w hw)) (.dma sem.sem) (View.wordExact_bits rfl) (View.wordExact_bits rfl) ⟨Or.inl rfl, trivial⟩)
    pure ⟨⟩
  else do
    pure ⟨⟩
  k

end Cert.Proof.Tile
-- ==== Proof.Spec.lean ====
/-
  What the kernel computes, as plain functions of what its buffers hold, over any values: a lane shuffle, a row's
  weight, one row's step of the sixteen running vectors, a run of rows, and the stage as the sixteen vectors of each of
  the eight segments.
-/
module

public import proofs.«01_k».proof.Proof.Progs

@[expose] public section

noncomputable section

namespace Cert.Proof.Tile

open Cert.KernelIdeal Cert.KernelIdeal.Gen Idealize.ShloMosaic Idealize.SL.Sem

variable {F : FTy → Type} [FloatOps F]

/-- The element of a flat buffer at a place, the place taken modulo the length. -/
def atN {α : Type} {n : Nat} [NeZero n] (f : (⟨1, ![n]⟩ : Shape).Idx → α) (p : Nat) : α :=
  f fun a => ⟨p % n, by rw [Fin.eq_zero a]; exact Nat.mod_lt _ (NeZero.pos n)⟩

/-- The lane vector from place `n` on. -/
def lanesAt {α : Type} (g : Nat → α) (n : Nat) : S16.Idx → α := fun l => g (n + (l 0).val)
/-- The eight lane vectors of a row from place `n` on. -/
def rowAt {α : Type} (g : Nat → α) (n : Nat) : Fin 8 → S16.Idx → α := fun j => lanesAt g (n + 16 * j.val)

/-- The lanes of `v` at their numbers' exclusive or with `c`. -/
def shuf {α : Type} (v : S16.Idx → α) (c : Nat) : S16.Idx → α :=
  fun l => v fun a => ⟨((l 0).val ^^^ c) % 16, by rw [Fin.eq_zero a]; exact Nat.mod_lt _ (by decide)⟩

/-- Every lane the sum of all lanes, as four shuffles compute it. -/
def lanesum (v : FV F) : FV F :=
  let p1 := addf v (shuf v 8)
  let p2 := addf p1 (shuf p1 4)
  let p3 := addf p2 (shuf p2 2)
  addf p3 (shuf p3 1)

/-- The running vectors after one more row. -/
def rowUpd (ws : Fin 8 → FV F) (bv : FV F) (x : Fin 8 → FV F) (a : Fin 16 → FV F) : Fin 16 → FV F :=
  accStep (weightOf bv (lanesum (partialDot ws x))) x a

/-- The running vectors after the `n` rows from `lo` on. -/
def rowsFold (ws : Fin 8 → FV F) (bv : FV F) (R : Nat → Fin 8 → FV F) (a : Fin 16 → FV F) (lo : Nat) : Nat → Fin 16 → FV F
  | 0 => a
  | n + 1 => rowUpd ws bv (R (lo + n)) (rowsFold ws bv R a lo n)

theorem rowsFold_congr {ws : Fin 8 → FV F} {bv : FV F} {R R' : Nat → Fin 8 → FV F} {a : Fin 16 → FV F} {lo n : Nat}
    (h : ∀ k, lo ≤ k → k < lo + n → R k = R' k) : rowsFold ws bv R a lo n = rowsFold ws bv R' a lo n := by
  induction n with
  | zero => rfl
  | succ n ih =>
    unfold rowsFold
    rw [ih fun k h1 h2 => h k h1 (by omega), h (lo + n) (by omega) (by omega)]

theorem rowsFold_add {ws : Fin 8 → FV F} {bv : FV F} {R : Nat → Fin 8 → FV F} {a : Fin 16 → FV F} {lo n n' : Nat} :
    rowsFold ws bv R (rowsFold ws bv R a lo n) (lo + n) n' = rowsFold ws bv R a lo (n + n') := by
  induction n' with
  | zero => rfl
  | succ n' ih =>
    show rowUpd _ _ _ (rowsFold _ _ _ _ _ _) = rowUpd _ _ _ (rowsFold _ _ _ _ _ (n + n'))
    rw [ih, Nat.add_assoc]
    rfl

/-- The number of rows of a segment `sb … se` in the chunk from `t` on. -/
def cntOf (sb se t : Nat) : Nat := min se (t + 128) - max sb t

/-- The stage that holds the sixteen lane vectors of each of the eight segments. -/
def stageOf {α : Type} (A : Fin 8 → Fin 16 → S16.Idx → α) : S8x256.Idx → α :=
  fun x => A (x 0) ⟨(x 1).val / 16, by have h : (x 1).val < 256 := (x 1).isLt; omega⟩ fun a => ⟨(x 1).val % 16, by rw [Fin.eq_zero a]; exact Nat.mod_lt _ (by decide)⟩

/-- The stage with one lane vector replaced. -/
def setA {α : Type} (A : Fin 8 → Fin 16 → S16.Idx → α) (r : Fin 8) (j : Fin 16) (v : S16.Idx → α) : Fin 8 → Fin 16 → S16.Idx → α :=
  fun r' j' => if r' = r ∧ j' = j then v else A r' j'

/-- The stage with one segment's vectors replaced. -/
def setRow {α : Type} (A : Fin 8 → Fin 16 → S16.Idx → α) (r : Fin 8) (b : Fin 16 → S16.Idx → α) : Fin 8 → Fin 16 → S16.Idx → α :=
  fun r' => if r' = r then b else A r'

/-- The words the search leaves, twice over, as the kernel keeps them. -/
def offC (H : IV) : S32.Idx → W := fun x => H fun a => ⟨(x 0).val % 16, by rw [Fin.eq_zero a]; exact Nat.mod_lt _ (by decide)⟩

/-- The word the search leaves in lane `k`. -/
def laneW (H : IV) (k : Nat) : W := H fun a => ⟨k % 16, by rw [Fin.eq_zero a]; exact Nat.mod_lt _ (by decide)⟩

end Cert.Proof.Tile
-- ==== Proof.WpBase.lean ====
/-
  The launch's set-up and the rules for the repeated stretches of program: runs of loads and of stores, the stage as the
  lane vectors of its segments, a lane shuffle, a row.
-/
module

public import proofs.«01_k».proof.Proof.Spec
public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

/-- The assertions' model. -/
abbrev MM (F : FTy → Type) := MT nD τ sig (HIx 1) (Elt F) ℕ UU ℕ

abbrev EH : Emb UH (MM F) := embL

variable [FloatOps F] (d : Dev nD) (i : grid0.Coords)

/-- The thread of the subcore at grid point `i`. -/
abbrev thr : Thread nD τ := V d ((i 0).castLE hcore0) ((i 1).castLE hsub0)

/-- The weakest precondition of a subcore's program. -/
@[irreducible] def WP {α : Type} (p : PR F i α) (Q : α → sProp (MM F)) : sProp (MM F) :=
  wp frame (wpE (defs₀ (F := F)) 𝒱₀ (thr d i) none) Set.univ p Q

/-! ## The kernel's buffers -/

abbrev bufW : Memref sig .scVector .vmem S65536 .f32 := Memref.whole cc0_scratch0
abbrev wvW : Memref sig .scVector .vmem S128 .f32 := Memref.whole cc0_scratch1
abbrev bvW : Memref sig .scVector .vmem S16 .f32 := Memref.whole cc0_scratch2
abbrev offW : Memref sig .scVector .vmem S32 .i32 := Memref.whole cc0_scratch3
abbrev prbW : Memref sig .scVector .vmem S16 .i32 := Memref.whole cc0_scratch4
abbrev midW : Memref sig .scVector .vmem S16 .i32 := Memref.whole cc0_scratch5
abbrev shfW : Memref sig .scVector .vmem S16 .f32 := Memref.whole cc0_scratch6
abbrev stgW : Memref sig .scVector .vmem S8x256 .f32 := Memref.whole cc0_scratch7
abbrev xW : Memref sig .scVector .hbm S40960000 .f32 := Memref.whole main_v0_scv
abbrev idW : Memref sig .scVector .hbm S320000 .i32 := Memref.whole main_arg1_scv
abbrev wW : Memref sig .scVector .hbm S128 .f32 := Memref.whole main_v1_scv
abbrev bW : Memref sig .scVector .hbm S16 .f32 := Memref.whole main_v2_scv
abbrev outW : Memref sig .scVector .hbm S256x256 .f32 := Memref.whole main_v3_scv

variable {d i} {s : Shape} {e : EltTy}

theorem wp_end {α : Type} (a : α) (Q : α → sProp (MM F)) : Q a ⊢ WP d i (pure a) Q := by
  unfold WP
  rw [wp_pure]
  iintro H
  imodintro
  iexact H

theorem wp_seq {α β : Type} (p : PR F i α) (k : α → PR F i β) (Q : β → sProp (MM F)) :
    WP d i p (fun a => WP d i (k a) Q) ⊢ WP d i (p >>= k) Q := by
  unfold WP
  rw [wp_bind]

theorem wp_post {α : Type} (p : PR F i α) (Q Q' : α → sProp (MM F)) :
    iprop(WP d i p Q ∗ ∀ a, Q a -∗ Q' a) ⊢ WP d i p Q' := by
  unfold WP
  exact wp_wand_r _ _ _

theorem wp_ld (m : Memref sig .scVector .vmem s e) {r : Rect s} {hl : m.view.LoadsAt r.toLoadRect} {α : Type} {k : (r.shape.Idx → Elt F e) → PR F i α}
    {Q : α → sProp (MM F)} {S : Finset (Idx (m.view.loc (thr d i)))} {q : PosShare TreeShare} {f : Buf (Elt F) (m.view.loc (thr d i))}
    (hS : (m.access r).set ⊆ S) :
    (m.view.loc (thr d i) ↦[S]{q} f : sProp (MM F))
      ⊢ iprop(((m.view.loc (thr d i) ↦[S]{q} f) -∗ WP d i (k ((m.access r).read (Elt F) f)) Q) -∗ WP d i (.op (.load m r.toLoadRect hl) k) Q) :=
  by unfold WP; exact wp_load_rect (defs := defs₀ (F := F)) (𝒱 := 𝒱₀) (c := thr d i) (bd := none) (E := Set.univ) (Q := Q) (m := m) (r := r) (k := k) (S := S) (q := q) (f := f) hS

theorem wp_st (m : Memref sig .scVector .vmem s e) {r : Rect s} {w : r.shape.Idx → Elt F e} {hx : (m.access r).Stores Finset.univ} {hm} {α : Type}
    {k : PUnit → PR F i α} {Q : α → sProp (MM F)} {f : Buf (Elt F) (m.view.loc (thr d i))} :
    (m.view.loc (thr d i) ↦{fullShare} f : sProp (MM F))
      ⊢ iprop(((m.view.loc (thr d i) ↦{fullShare} ((m.access r).write (Elt F) f w Finset.univ)) -∗ WP d i (k ⟨⟩) Q)
        -∗ WP d i (.op (.store m r w Finset.univ hx hm) k) Q) :=
  by unfold WP; exact wp_store (defs := defs₀ (F := F)) (𝒱 := 𝒱₀) (c := thr d i) (bd := none) (E := Set.univ) (Q := Q) (m := m) (r := r) (w := w) (Mk := Finset.univ) (k := k) (S := Finset.univ) (f := f) (Finset.subset_univ _)

theorem wp_asm {P : Prop} {dp : Decidable P} {α : Type} {k : PLift P → PR F i α} {Q : α → sProp (MM F)} (h : P) :
    WP d i (k ⟨h⟩) Q ⊢ WP d i (.op (.assume P dp) k) Q :=
  by unfold WP; exact wp_assume 𝒱₀ (thr d i) none Set.univ h

theorem wp_vli (m : Memref sig .scVector .vmem s e) {t : Shape} {idxs : Fin s.rank → IVec t 32} {h : ∀ a x, (idxs a x).toNat < s.size a} {hl : m.view.Loads}
    {α : Type} {k : Vec F t e → PR F i α} {Q : α → sProp (MM F)} {f : Buf (Elt F) (m.view.loc (thr d i))} :
    (m.view.loc (thr d i) ↦{fullShare} f : sProp (MM F))
      ⊢ iprop(((m.view.loc (thr d i) ↦{fullShare} f) -∗ WP d i (k (loadIdx ((m.access (.whole s)).read (Elt F) f) idxs h)) Q)
        -∗ WP d i (SparseCore.vectorLoadIdx m idxs h hl >>= k) Q) := by
  unfold WP
  exact SparseCore.wp_vectorLoadIdx (defs := defs₀ (F := F)) (𝒱 := 𝒱₀) (c := thr d i) (bd := none) (E := Set.univ) (Q := Q) (base := m) (idxs := idxs) (h := h)
    (k := k) (S := Finset.univ) (f := f) (Finset.subset_univ _)

theorem wp_loop {L : Scf.Loop 32} {hok : L.OK} {σ : Type} {init : σ} {body : Fin L.trips → σ → PR F i σ} (I : Nat → σ → sProp (MM F))
    (hbody : ∀ (k : Fin L.trips) (acc : σ), I k acc ⊢ WP d i (body k acc) (I (k.val + 1))) {Q : σ → sProp (MM F)} :
    iprop(I 0 init ∗ (∀ acc, I L.trips acc -∗ Q acc)) ⊢ WP d i (Scf.Loop.for L hok init body) Q := by
  unfold WP at *
  exact Scf.wp_for _ _ _ L.lb L.ub L.st hok init body I hbody

/-! ## Runs of loads -/

theorem wp_loadsP {m : Memref sig .scVector .vmem s e} {sz : Fin s.rank → Nat} {α : Type} {n : Nat}
    {off : Fin n → Fin s.rank → Nat} {inb : ∀ j a, off j a + sz a ≤ s.size a}
    {hl : ∀ j, m.view.LoadsAt (Rect.unit (off j) sz (inb j)).toLoadRect} {k : (Fin n → Shape.Idx ⟨s.rank, sz⟩ → Elt F e) → PR F i α}
    {Q : α → sProp (MM F)} {S : Finset (Idx (m.view.loc (thr d i)))} {q : PosShare TreeShare} {f : Buf (Elt F) (m.view.loc (thr d i))}
    (hS : ∀ j, (m.access (Rect.unit (off j) sz (inb j))).set ⊆ S) :
    (m.view.loc (thr d i) ↦[S]{q} f : sProp (MM F))
      ⊢ iprop(((m.view.loc (thr d i) ↦[S]{q} f) -∗ WP d i (k fun j => (m.access (Rect.unit (off j) sz (inb j))).read (Elt F) f) Q)
        -∗ WP d i (loadsP i m n off inb hl k) Q) := by
  induction n with
  | zero =>
    iintro H Hk
    have e : (fun j : Fin 0 => (m.access (Rect.unit (off j) sz (inb j))).read (Elt F) f) = (fun j : Fin 0 => j.elim0) := funext fun j => j.elim0
    rw [e]
    iapply Hk
    iexact H
  | succ n ih =>
    iintro H Hk
    iapply (wp_ld m (hS 0)) $$ H
    iintro H
    iapply (ih (off := fun j => off j.succ) (inb := fun j => inb j.succ) (hl := fun j => hl j.succ) (fun j => hS j.succ)) $$ H
    iintro H
    have e : (Fin.cons ((m.access (Rect.unit (off 0) sz (inb 0))).read (Elt F) f) fun j : Fin n => (m.access (Rect.unit (off j.succ) sz (inb j.succ))).read (Elt F) f)
        = (fun j : Fin (n + 1) => (m.access (Rect.unit (off j) sz (inb j))).read (Elt F) f) :=
      funext fun j => Fin.cases rfl (fun _ => rfl) j
    rw [e]
    iapply Hk
    iexact H

/-! ## The stage -/

theorem stg_congr {α : Type} (A : Fin 8 → Fin 16 → S16.Idx → α) {r r' : Fin 8} {j j' : Fin 16} {l l' : S16.Idx} (hr : r = r') (hj : j = j') (hl : l = l') :
    A r j l = A r' j' l' := by
  subst hr hj hl; rfl

theorem stg_read (A : Fin 8 → Fin 16 → FV F) (r : Fin 8) (j : Fin 16) (off : Fin 2 → Nat) (inb : ∀ a, off a + S1x16.size a ≤ S8x256.size a)
    (ho : off = ![r.val, 16 * j.val]) :
    (stgW.access (Rect.unit (s := S8x256) off S1x16.size inb)).read (Elt F) (stageOf A) = toRow (A r j) := by
  subst ho
  funext x
  refine Eq.trans ?_ (shapeCast_addUnit_apply ![16] (A r j) shapeCasts_S16_S1x16 x).symm
  have h0 : (x 0).val < 1 := (x 0).isLt
  have h1 : (x 1).val < 16 := (x 1).isLt
  show stageOf A ((Rect.unit (s := S8x256) ![r.val, 16 * j.val] S1x16.size inb).emb x) = _
  unfold stageOf
  have e0 : ((Rect.unit (s := S8x256) ![r.val, 16 * j.val] S1x16.size inb).emb x 0).val = r.val := by
    show r.val + 1 * (x 0).val = r.val
    omega
  have e1 : ((Rect.unit (s := S8x256) ![r.val, 16 * j.val] S1x16.size inb).emb x 1).val = 16 * j.val + (x 1).val := by
    show 16 * j.val + 1 * (x 1).val = _
    omega
  refine stg_congr A (Fin.ext e0) (Fin.ext (by show _ / 16 = j.val; rw [e1]; omega)) (funext fun a => ?_)
  rw [Fin.eq_zero a]
  exact Fin.ext (by show _ % 16 = (x 1).val; rw [e1]; omega)

theorem stg_write (A : Fin 8 → Fin 16 → FV F) (r : Fin 8) (j : Fin 16) (v : FV F) (off : Fin 2 → Nat) (inb : ∀ a, off a + S1x16.size a ≤ S8x256.size a)
    (ho : off = ![r.val, 16 * j.val]) :
    (stgW.access (Rect.unit (s := S8x256) off S1x16.size inb)).write (Elt F) (stageOf A) (toRow v) Finset.univ = stageOf (setA A r j v) := by
  subst ho
  funext y
  have hy0 : (y 0).val < 8 := (y 0).isLt
  have hy1 : (y 1).val < 256 := (y 1).isLt
  by_cases hin : y 0 = r ∧ (y 1).val / 16 = j.val
  · obtain ⟨h0, h1⟩ := hin
    have hr := r.isLt
    let x : S1x16.Idx := fun a => match a with
      | 0 => (⟨0, by decide⟩ : Fin 1)
      | 1 => (⟨(y 1).val % 16, Nat.mod_lt _ (by decide)⟩ : Fin 16)
    have hx : (stgW.access (Rect.unit (s := S8x256) ![r.val, 16 * j.val] S1x16.size inb)).emb x = y := by
      funext a
      match a with
      | 0 => exact Fin.ext (by show r.val + 1 * 0 = (y 0).val; rw [h0]; omega)
      | 1 => exact Fin.ext (by show 16 * j.val + 1 * ((y 1).val % 16) = (y 1).val; omega)
    have hw := View.write_emb_of_mem (v := stgW.access (Rect.unit (s := S8x256) ![r.val, 16 * j.val] S1x16.size inb)) (Val := Elt F)
      (stageOf A) (toRow v) (M := Finset.univ) (x := x) (Finset.mem_univ _)
    rw [hx] at hw
    rw [hw]
    refine Eq.trans (shapeCast_addUnit_apply ![16] v shapeCasts_S16_S1x16 x) ?_
    unfold stageOf setA
    rw [if_pos ⟨h0, Fin.ext h1⟩]
    congr 1
    funext a
    rw [Fin.eq_zero a]
    rfl
  · rw [View.write_of_not_mem]
    · unfold stageOf setA
      rw [if_neg (fun h => hin ⟨h.1, congrArg Fin.val h.2⟩)]
    · intro hm
      obtain ⟨x, -, hx⟩ := Finset.mem_map.mp hm
      have hx1 : (x 1).val < 16 := (x 1).isLt
      have hx0 : (x 0).val < 1 := (x 0).isLt
      have e0 : r.val + 1 * (x 0).val = (y 0).val := congrArg (fun z : S8x256.Idx => (z 0).val) hx
      have e1 : 16 * j.val + 1 * (x 1).val = (y 1).val := congrArg (fun z : S8x256.Idx => (z 1).val) hx
      exact hin ⟨Fin.ext (by omega), by omega⟩

/-- The vectors of the stage after a list of them is stored, one after the other. -/
def setMany {α : Type} (A : Fin 8 → Fin 16 → S16.Idx → α) : (n : Nat) → (Fin n → Fin 8) → (Fin n → Fin 16) → (Fin n → S16.Idx → α) → Fin 8 → Fin 16 → S16.Idx → α
  | 0, _, _, _ => A
  | n + 1, r, j, v => setMany (setA A (r 0) (j 0) (v 0)) n (fun m => r m.succ) (fun m => j m.succ) (fun m => v m.succ)

theorem wp_stgStores {α : Type} {n : Nat} {off : Fin n → Fin 2 → Nat} {inb : ∀ j a, off j a + S1x16.size a ≤ S8x256.size a}
    {hl : ∀ j, stgW.view.LoadsAt (Rect.unit (s := S8x256) (off j) S1x16.size (inb j)).toLoadRect}
    {hx : ∀ j, (stgW.access (Rect.unit (s := S8x256) (off j) S1x16.size (inb j))).Stores Finset.univ}
    {w : Fin n → Shape.Idx S1x16 → Elt F .f32} {k : PR F i α} {Q : α → sProp (MM F)} (A : Fin 8 → Fin 16 → FV F)
    (r : Fin n → Fin 8) (j : Fin n → Fin 16) (v : Fin n → FV F) (ho : ∀ m, off m = ![(r m).val, 16 * (j m).val]) (hv : ∀ m, w m = toRow (v m)) :
    (stgW.view.loc (thr d i) ↦{fullShare} stageOf A : sProp (MM F))
      ⊢ iprop(((stgW.view.loc (thr d i) ↦{fullShare} stageOf (setMany A n r j v)) -∗ WP d i k Q)
        -∗ WP d i (storesP i stgW (sz := S1x16.size) n off inb hl hx w k) Q) := by
  induction n generalizing A with
  | zero =>
    iintro H Hk
    iapply Hk
    iexact H
  | succ n ih =>
    iintro H Hk
    iapply (wp_ld (d := d) (i := i) stgW (r := Rect.unit (s := S8x256) (off 0) S1x16.size (inb 0)) (hl := hl 0) (S := Finset.univ) (q := fullShare) (f := stageOf A) (Finset.subset_univ _)) $$ H
    iintro H
    iapply (wp_st (d := d) (i := i) stgW (r := Rect.unit (s := S8x256) (off 0) S1x16.size (inb 0)) (hx := hx 0) (f := stageOf A)) $$ H
    rw [hv 0, stg_write A (r 0) (j 0) (v 0) _ _ (ho 0)]
    iintro H
    iapply (ih (off := fun m => off m.succ) (inb := fun m => inb m.succ) (hl := fun m => hl m.succ) (hx := fun m => hx m.succ)
      (w := fun m => w m.succ) (setA A (r 0) (j 0) (v 0)) (fun m => r m.succ) (fun m => j m.succ) (fun m => v m.succ)
      (fun m => ho m.succ) (fun m => hv m.succ)) $$ H
    iintro H
    iapply Hk
    iexact H

/-! ## A lane shuffle -/

/-- The lane numbers. -/
abbrev iotaV : IV := iota .scVector S16 32 [0] iota_S16_d0_w32_scVector

theorem xorIdx_toNat (c : W) (x : S16.Idx) : (xorIdx iotaV c x).toNat = (x 0).val ^^^ c.toNat := by
  have hx : (x 0).val < 16 := (x 0).isLt
  show ((iotaV x) ^^^ c).toNat = _
  rw [BitVec.toNat_xor]
  congr 1
  rw [iotaV, iota_single_apply, BitVec.toNat_ofNat]
  omega

theorem xorIdx_lt {c : W} (hc : c.toNat < 16) (x : S16.Idx) : (xorIdx iotaV c x).toNat < 16 := by
  rw [xorIdx_toNat]
  exact Nat.xor_lt_two_pow (n := 4) (x 0).isLt hc

theorem wp_shufP {α : Type} {c : Prop} {hc : c} {v : FV F} {cw : W} (hcw : cw.toNat < 16)
    {dc : Decidable (c → ∀ a x, ((![xorIdx iotaV cw] : Fin 1 → IVec S16 32) a x).toNat < S16.size a)} {k : FV F → PR F i α}
    {Q : α → sProp (MM F)} {f : Buf (Elt F) (shfW.view.loc (thr d i))} :
    (shfW.view.loc (thr d i) ↦{fullShare} f : sProp (MM F))
      ⊢ iprop(((∃ g, shfW.view.loc (thr d i) ↦{fullShare} g) -∗ WP d i (k (shuf v cw.toNat)) Q)
        -∗ WP d i (shufP i shfW c hc v (xorIdx iotaV cw) dc k) Q) := by
  have hw : c → ∀ a x, ((![xorIdx iotaV cw] : Fin 1 → IVec S16 32) a x).toNat < S16.size a := by
    intro _ a x
    rw [Fin.eq_zero a]
    exact xorIdx_lt hcw x
  iintro H Hk
  unfold shufP
  iapply (wp_asm (d := d) (i := i) hw)
  iapply (wp_ld (d := d) (i := i) shfW (r := Rect.unit (s := S16) ![0] S16.size inb_S16_S16_0) (S := Finset.univ) (q := fullShare) (f := f) (Finset.subset_univ _)) $$ H
  iintro H
  iapply (wp_st (d := d) (i := i) shfW (r := Rect.unit (s := S16) ![0] S16.size inb_S16_S16_0) (f := f)) $$ H
  iintro H
  iapply (wp_vli (d := d) (i := i) shfW (idxs := ![xorIdx iotaV cw]) (f := (shfW.access (Rect.unit (s := S16) ![0] S16.size inb_S16_S16_0)).write (Elt F) f
      (shapeCast S16 v shapeCasts_S16_S16) Finset.univ)) $$ H
  iintro H
  have e : loadIdx ((shfW.access (.whole S16)).read (Elt F) ((shfW.access (Rect.unit (s := S16) ![0] S16.size inb_S16_S16_0)).write (Elt F) f
      (shapeCast S16 v shapeCasts_S16_S16) Finset.univ)) ![xorIdx iotaV cw] (hw hc) = shuf v cw.toNat := by
    rw [show (shfW.access (Rect.unit (s := S16) ![0] S16.size inb_S16_S16_0)).write (Elt F) f (shapeCast S16 v shapeCasts_S16_S16) Finset.univ
      = shapeCast S16 v shapeCasts_S16_S16 from Memref.write_access_unit_zero_univ (Elt F) cc0_scratch6 (by funext a; rw [Fin.eq_zero a]; rfl) _ _ _]
    rw [show (shfW.access (.whole S16)).read (Elt F) (shapeCast S16 v shapeCasts_S16_S16) = shapeCast S16 v shapeCasts_S16_S16 from
      Memref.read_access_whole (Elt F) cc0_scratch6 _]
    rw [shapeCast_self]
    funext x
    unfold loadIdx shuf
    congr 1
    funext a
    rw [Fin.eq_zero a]
    refine Fin.ext ?_
    show (xorIdx iotaV cw x).toNat = _
    have := xorIdx_lt hcw x
    rw [xorIdx_toNat] at this ⊢
    exact (Nat.mod_eq_of_lt this).symm
  rw [e]
  iapply Hk
  iexists _
  iexact H

/-! ## A row -/

theorem wp_rowP {c : Prop} {hc : c} {ws : Fin 8 → FV F} {bv : FV F}
    {dc : ∀ ix : IV, Decidable (c → ∀ a x, ((![ix] : Fin 1 → IVec S16 32) a x).toNat < S16.size a)}
    {off : Fin 8 → Fin 1 → Nat} {inb : ∀ j a, off j a + S16.size a ≤ S65536.size a} {acc : Tup F}
    {S : Finset (Idx (bufW.view.loc (thr d i)))} {q : PosShare TreeShare} {f : Buf (Elt F) (bufW.view.loc (thr d i))}
    (n : Nat) (hn : ∀ j, off j = ![n + 16 * j.val]) (hS : ∀ j, (bufW.access (Rect.unit (s := S65536) (off j) S16.size (inb j))).set ⊆ S) :
    (iprop((bufW.view.loc (thr d i) ↦[S]{q} f) ∗ ∃ g, shfW.view.loc (thr d i) ↦{fullShare} g) : sProp (MM F))
      ⊢ WP d i (rowP i bufW shfW c hc ws bv iotaV dc off inb acc) fun r =>
          iprop(⌜r = toT (rowUpd ws bv (rowAt (atN (n := 65536) f) n) (ofT acc))⌝ ∗ (bufW.view.loc (thr d i) ↦[S]{q} f) ∗ ∃ g, shfW.view.loc (thr d i) ↦{fullShare} g) := by
  have e : (castRow fun j => (bufW.access (Rect.unit (s := S65536) (off j) S16.size (inb j))).read (Elt F) f) = rowAt (atN (n := 65536) f) n := by
    funext j
    show shapeCast S16 _ shapeCasts_S16_S16 = _
    rw [shapeCast_self]
    funext l
    have hl : (l 0).val < 16 := (l 0).isLt
    have hi : n + 16 * j.val + 16 ≤ 65536 := by
      have := inb j 0
      rw [hn j] at this
      exact this
    show f ((Rect.unit (s := S65536) (off j) S16.size (inb j)).emb l) = atN (n := 65536) f (n + 16 * j.val + (l 0).val)
    unfold atN
    congr 1
    funext a
    rw [Fin.eq_zero a]
    refine Fin.ext ?_
    have ho : off j 0 = n + 16 * j.val := by rw [hn j]; rfl
    show off j 0 + 1 * (l 0).val = (n + 16 * j.val + (l 0).val) % 65536
    rw [Nat.mod_eq_of_lt (by omega)]
    omega
  iintro ⟨Hb, %g, Hs⟩
  unfold rowP
  iapply (wp_loadsP hS) $$ Hb
  iintro Hb
  rw [e]
  iapply (wp_shufP (by decide)) $$ Hs
  iintro ⟨%g1, Hs⟩
  iapply (wp_shufP (by decide)) $$ Hs
  iintro ⟨%g2, Hs⟩
  iapply (wp_shufP (by decide)) $$ Hs
  iintro ⟨%g3, Hs⟩
  iapply (wp_shufP (by decide)) $$ Hs
  iintro ⟨%g4, Hs⟩
  iapply wp_end
  isplitr
  · ipureintro; rfl
  isplitl [Hb]; · iexact Hb
  iexists _; iexact Hs

end Cert.Proof.Tile
-- ==== Proof.Words.lean ====
/-
  What the kernel's 32-bit words are as whole numbers: the number of chunks, the first row of a chunk, the rows of a
  segment in a chunk and where they lie in the ring buffer, and the bounds of the binary search.
-/
module

public import proofs.«01_k».proof.Proof.Spec
public import Idealize.ShloMosaic.Lib.Affine
public import Idealize.ShloMosaic.Lib.LoopRemainder
public import Idealize.ShloMosaic.Lib.WordArith
public import Idealize.ShloMosaic.Lib.WordArith.Masks

@[expose] public section

noncomputable section

namespace Cert.Proof.Tile

open Cert.KernelIdeal Cert.KernelIdeal.Gen Idealize.ShloMosaic Idealize.SL.Sem
open Affine (IsInt)

theorem isInt_of {x : W} {n : Nat} (h : x.toNat = n) (hn : n < 2 ^ 31) : IsInt x n := by
  have hx : x = BitVec.ofNat 32 n := by rw [← h, BitVec.ofNat_toNat, BitVec.setWidth_eq]
  rw [hx]
  exact Affine.ofNat n ⟨rfl, hn⟩

theorem nat_of {x : W} {n : Nat} (h : IsInt x n) : x.toNat = n := by
  have := Affine.toNat_of h (by omega)
  omega

theorem int_eq {x : W} {e : Int} (h : IsInt x e) : x.toInt = e := by
  unfold IsInt at h
  exact h

/-- A lane counted up from zero by ones. -/
theorem iv_isInt (k : Nat) (hk : k < 2 ^ 31) : IsInt (Scf.iv 0#32 1#32 k) k :=
  Affine.iv (Affine.ofNat 0 ⟨rfl, by decide⟩) (Affine.ofNat 1 ⟨rfl, by decide⟩) k ⟨by omega, by omega, by omega⟩

theorem iv_nat (k : Nat) (hk : k < 2 ^ 31) : (Scf.iv 0#32 1#32 k).toNat = k := nat_of (iv_isInt k hk)

abbrev lit (n : Nat) (h : n < 2 ^ 31 := by decide) : IsInt (BitVec.ofNat 32 n) n := Affine.ofNat n ⟨rfl, h⟩

/-- A widened comparison tested against zero is the comparison. -/
theorem ne_extui (c : BitVec 1) : Scalar.cmpi .ne (Scalar.extui c) 0#32 = c := by
  rcases BitVec.eq_zero_or_eq_one c with rfl | rfl <;> decide

theorem sgt_iff {x y : W} {a b : Int} (hx : IsInt x a) (hy : IsInt y b) : Scalar.cmpi .sgt x y = 1#1 ↔ b < a :=
  ⟨fun h => by by_contra hn; exact Affine.sgt_fails hx hy hn h, fun h => Affine.sgt_holds hx hy h⟩
theorem slt_iff {x y : W} {a b : Int} (hx : IsInt x a) (hy : IsInt y b) : Scalar.cmpi .slt x y = 1#1 ↔ a < b :=
  ⟨fun h => by by_contra hn; exact Affine.slt_fails hx hy hn h, fun h => Affine.slt_holds hx hy h⟩

theorem subi_zero (x : W) : Scalar.subi x 0#32 = x := BitVec.sub_zero x
theorem zero_addi (x : W) : Scalar.addi 0#32 x = x := BitVec.zero_add x

/-! ## A segment of a chunk -/

section Seg
variable {sb se ts : W} {b e t : Nat} (hb : sb.toNat = b) (he : se.toNat = e) (ht : ts.toNat = t)
  (hb' : b ≤ 320000) (he' : e ≤ 320000) (ht' : t ≤ 1000000)
include hb he ht hb' he' ht'

theorem mjW_isInt : IsInt (mjW sb se ts) ((min e (t + 128) : Nat) - (max b t : Nat) : Int) :=
  Affine.subi (Affine.minsi (isInt_of he (by omega)) (Affine.addi (e := (t + 128 : Nat)) (isInt_of ht (by omega)) (lit 128) ⟨by omega, by omega, by omega⟩)
    (e := (min e (t + 128) : Nat)) (by omega)) (Affine.maxsi (isInt_of hb (by omega)) (isInt_of ht (by omega)) (e := (max b t : Nat)) (by omega)) ⟨rfl, by omega, by omega⟩

theorem condW_iff : condW sb se ts = 1#1 ↔ 0 < cntOf sb.toNat se.toNat ts.toNat := by
  unfold condW cntOf
  rw [ne_extui, sgt_iff (mjW_isInt hb he ht hb' he' ht') (lit 0), hb, he, ht]
  omega

theorem rowLoop_ub : Scalar.addi 0#32 (Scalar.muli (Scalar.divsi (Scalar.subi (mjW sb se ts) 0#32) 1#32) 1#32) = mjW sb se ts := by
  rw [Scalar.muli_divsi_one, subi_zero, zero_addi]

theorem rowLoop_trips : (rowLoop sb se ts).trips = cntOf sb.toNat se.toNat ts.toNat := by
  show Scf.trips 0#32 (Scalar.addi 0#32 (Scalar.muli (Scalar.divsi (Scalar.subi (mjW sb se ts) 0#32) 1#32) 1#32)) 1#32 = _
  rw [rowLoop_ub hb he ht hb' he' ht']
  have hm := int_eq (mjW_isInt hb he ht hb' he' ht')
  have h0 : (0#32 : W).toInt = 0 := by decide
  have h1 : (1#32 : W).toInt = 1 := by decide
  unfold Scf.trips cntOf
  rw [hm, h0, h1, hb, he, ht]
  omega

theorem rowLoop_ok : (rowLoop sb se ts).OK := by
  show Scf.OK 0#32 (Scalar.addi 0#32 (Scalar.muli (Scalar.divsi (Scalar.subi (mjW sb se ts) 0#32) 1#32) 1#32)) 1#32
  rw [rowLoop_ub hb he ht hb' he' ht']
  exact Affine.ok (lit 0) (mjW_isInt hb he ht hb' he' ht') (lit 1) ⟨by decide, by omega⟩

theorem remLoop_trips : (remLoop sb se ts).trips = 0 := Scf.rem_trips 0#32 (Scalar.subi (mjW sb se ts) 0#32)
theorem remLoop_ok : (remLoop sb se ts).OK := Scf.rem_ok 0#32 (Scalar.subi (mjW sb se ts) 0#32)

/-- Where a row of a segment lies in the ring buffer: in its chunk's window, by its place in the fetched chunk. -/
theorem rowOff_eq {boff : W} {o k : Nat} (ho : boff.toNat = o) (ho' : o ≤ 49152) (hk : k < cntOf sb.toNat se.toNat ts.toNat) (r : Fin 8) :
    rowOff (rowBase boff ts (coffW ts) sb) (Scf.iv 0#32 1#32 k) (BitVec.ofNat 32 (16 * r.val))
      = ![o + (max sb.toNat ts.toNat + k - min ts.toNat 319872) * 128 + 16 * r.val] := by
  unfold cntOf at hk
  have hr := r.isLt
  rw [hb, ht]
  rw [hb, he, ht] at hk
  have h1 : IsInt (clipW ts) (min t 319872 : Nat) := Affine.minsi (isInt_of ht (by omega)) (lit 319872) (by omega)
  have h2 : IsInt (coffW ts) (t - min t 319872 : Nat) := Affine.subi (isInt_of ht (by omega)) h1 ⟨by omega, by omega, by omega⟩
  have h3 : IsInt (Scalar.maxsi sb ts) (max b t : Nat) := Affine.maxsi (isInt_of hb (by omega)) (isInt_of ht (by omega)) (by omega)
  have h4 : IsInt (Scalar.subi (Scalar.maxsi sb ts) ts) (max b t - t : Nat) := Affine.subi h3 (isInt_of ht (by omega)) ⟨by omega, by omega, by omega⟩
  have h5 : IsInt (Scalar.addi (coffW ts) (Scalar.subi (Scalar.maxsi sb ts) ts)) (max b t - min t 319872 : Nat) :=
    Affine.addi h2 h4 ⟨by omega, by omega, by omega⟩
  have h6 : IsInt (Scalar.muli (Scalar.addi (coffW ts) (Scalar.subi (Scalar.maxsi sb ts) ts)) 128#32) ((max b t - min t 319872) * 128 : Nat) :=
    Affine.muli h5 (lit 128) ⟨by omega, by omega, by omega⟩
  have h7 : IsInt (rowBase boff ts (coffW ts) sb) (o + (max b t - min t 319872) * 128 : Nat) :=
    Affine.addi (isInt_of ho (by omega)) h6 ⟨by omega, by omega, by omega⟩
  have h8 : IsInt (Scalar.muli (Scf.iv 0#32 1#32 k) 128#32) (k * 128 : Nat) :=
    Affine.muli (iv_isInt k (by omega)) (lit 128) ⟨by omega, by omega, by omega⟩
  have h9 := Affine.addi h7 h8 (e := (o + (max b t + k - min t 319872) * 128 : Nat)) ⟨by omega, by omega, by omega⟩
  have h10 := Affine.addi h9 (Affine.ofNat (16 * r.val) ⟨rfl, by omega⟩) (e := (o + (max b t + k - min t 319872) * 128 + 16 * r.val : Nat)) ⟨by omega, by omega, by omega⟩
  unfold rowOff
  rw [show (Scalar.indexCast (Scalar.addi (Scalar.addi (rowBase boff ts (coffW ts) sb) (Scalar.muli (Scf.iv 0#32 1#32 k) 128#32)) (BitVec.ofNat 32 (16 * r.val)))).toNat = _ from nat_of h10]

/-- A row of a segment lies within its chunk's window. -/
theorem row_in {k : Nat} (hk : k < cntOf sb.toNat se.toNat ts.toNat) : max sb.toNat ts.toNat + k - min ts.toNat 319872 < 128 := by
  unfold cntOf at hk
  omega

theorem chk_all {boff : W} {o : Nat} (ho : boff.toNat = o) (ho' : o ≤ 49152) : chkSeg boff ts (coffW ts) sb se := by
  refine ⟨fun _ => rowLoop_ok hb he ht hb' he' ht', fun k _ r a => ?_, fun _ => remLoop_ok hb he ht hb' he' ht', fun k => ?_⟩
  · have hk : k.val < cntOf sb.toNat se.toNat ts.toNat := lt_of_lt_of_eq k.isLt (rowLoop_trips hb he ht hb' he' ht')
    have hr := r.isLt
    rw [rowOff_eq hb he ht hb' he' ht' ho ho' hk, Fin.eq_zero a]
    have := row_in hb he ht hb' he' ht' hk
    show o + (max sb.toNat ts.toNat + k - min ts.toNat 319872) * 128 + 16 * r.val + 16 ≤ 65536
    omega
  · have hk := k.isLt
    have h0 := remLoop_trips hb he ht hb' he' ht'
    omega

end Seg

/-! ## The chunks -/

/-- How many chunks the rows `a … b` take. -/
def nchN (a b : Nat) : Nat := (b + 127 - a) / 128

/-- A quotient rounded down, as the kernel computes it. -/
def flW (x c : W) : W :=
  Scalar.select (Scalar.andi (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32)))) (Scalar.cmpi .ne (Scalar.remsi x c) 0#32))
      (Scalar.subi (Scalar.divsi x c) 1#32) (Scalar.divsi x c)

theorem lastW_eq (x c : W) : lastW x c = flW x c := by
  refine Eq.trans (b := Scalar.addi 0#32 (Scalar.muli (Scalar.divsi (Scalar.subi (flW x c) 0#32) 1#32) 1#32)) rfl ?_
  rw [Scalar.muli_divsi_one, subi_zero, zero_addi]

/-- A quotient rounded down of a word that is not negative, as the kernel computes it. -/
theorem floor_nonneg {x c : W} {z k : Int} (hx : IsInt x z) (hc : IsInt c k) (hz : 0 ≤ z) (hk : 0 < k) :
    IsInt (flW x c) (z / k) := by
  have hd : IsInt (Scalar.divsi x c) (z / k) := Affine.divsi hx hc ⟨rfl, hz, hk⟩
  have hc1 : IsInt (Scalar.subi (Scalar.extui (Scalar.cmpi .sgt c 0#32)) (Scalar.extui (Scalar.cmpi .slt c 0#32))) 1 :=
    Affine.subi (Affine.extui_holds (Affine.sgt_holds hc (lit 0) (by omega)) rfl) (Affine.extui_fails (Affine.slt_fails hc (lit 0) (by omega)) rfl) ⟨by omega, by omega, by omega⟩
  have hne : Affine.Fails (Scalar.andi (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32)))) (Scalar.cmpi .ne (Scalar.remsi x c) 0#32)) := by
    rcases hz.lt_or_eq with h | h
    · refine Affine.andi_fails_left (Affine.ne_fails (Affine.subi (e := 1) (Affine.extui_holds (Affine.sgt_holds hx (lit 0) (by omega)) rfl)
        (Affine.extui_fails (Affine.slt_fails hx (lit 0) (by omega)) rfl) ⟨by omega, by omega, by omega⟩) hc1 rfl) trivial
    · refine Affine.andi_fails_right trivial (Affine.ne_fails (Affine.remsi (e := 0) hx hc ⟨?_, hz, hk⟩) (lit 0) rfl)
      rw [← h]; simp
  have e : flW x c = Scalar.divsi x c := if_neg hne
  rw [e]
  exact hd

theorem floor_neg {x c : W} {z : Int} (hx : IsInt x z) (hz : z < 0) (hz' : -1000000 ≤ z) (hc : c = 128#32 ∨ c = 4#32) (s : BitVec 1) :
    ∃ q : Int, IsInt (Scalar.select s (Scalar.subi (Scalar.divsi x c) 1#32) (Scalar.divsi x c)) q ∧ -1000001 ≤ q ∧ q ≤ 0 := by
  obtain ⟨q, hq, h1, h2⟩ : ∃ q : Int, IsInt (Scalar.divsi x c) q ∧ -1000000 ≤ q ∧ q ≤ 0 := by
    refine ⟨_, Affine.word _, ?_⟩
    have hxi := int_eq hx
    have hnc : ¬IntOp.SDivCorner x c := by
      unfold IntOp.SDivCorner
      rcases hc with rfl | rfl <;> simp
    have e : Scalar.divsi x c = x.sdiv c := by unfold Scalar.divsi IntOp.divsi; rw [if_neg hnc]
    rw [e, BitVec.toInt_sdiv]
    have h3 : ∀ k : Int, 1 ≤ k → -1000000 ≤ z.tdiv k ∧ z.tdiv k ≤ 0 := by
      intro k hk
      obtain ⟨m, rfl⟩ : ∃ m : Int, z = -m := ⟨-z, by omega⟩
      rw [Int.neg_tdiv, Int.tdiv_eq_ediv_of_nonneg (by omega)]
      have ha := Int.ediv_nonneg (a := m) (b := k) (by omega) (by omega)
      have hb := Int.ediv_le_self (a := m) k (by omega)
      omega
    have h4 : ∃ k : Int, c.toInt = k ∧ 1 ≤ k := by
      rcases hc with rfl | rfl
      · exact ⟨128, by decide, by decide⟩
      · exact ⟨4, by decide, by decide⟩
    obtain ⟨k, hk, hk1⟩ := h4
    rw [hk, hxi]
    have := h3 k hk1
    rw [Int.bmod_eq_of_le (by omega) (by omega)]
    exact this
  have hs : IsInt (Scalar.subi (Scalar.divsi x c) 1#32) (q - 1) := Affine.subi hq (lit 1) ⟨rfl, by omega, by omega⟩
  unfold Scalar.select
  split
  · exact ⟨_, hs, by omega, by omega⟩
  · exact ⟨_, hq, by omega, by omega⟩

section Chunks
variable {v37 v41 : W} {a b : Nat} (ha : v37.toNat = a) (hb : v41.toNat = b) (ha' : a ≤ 320000) (hb' : b ≤ 320000)
include ha hb ha' hb'

/-- The kernel's number of chunks: the number of chunks of the rows, or some number below one where there are no rows. -/
theorem nchW_cases : IsInt (nchW v37 v41) (nchN a b) ∨ (nchN a b = 0 ∧ ∃ q : Int, IsInt (nchW v37 v41) q ∧ -1000001 ≤ q ∧ q ≤ 0) := by
  have h43 : IsInt (Scalar.addi (Scalar.subi v41 v37) 127#32) ((b : Int) - a + 127) :=
    Affine.addi (Affine.subi (isInt_of hb (by omega)) (isInt_of ha (by omega)) ⟨rfl, by omega, by omega⟩) (lit 127) ⟨rfl, by omega, by omega⟩
  by_cases h : (0 : Int) ≤ (b : Int) - a + 127
  · left
    have := floor_nonneg h43 (lit 128) h (by decide)
    have e : (nchN a b : Int) = ((b : Int) - a + 127) / (128 : Nat) := by unfold nchN; omega
    rw [e]
    exact this
  · right
    refine ⟨by unfold nchN; omega, ?_⟩
    exact floor_neg h43 (by omega) (by omega) (.inl rfl) _

theorem haveC_iff {ci : W} {n : Nat} (hn : ci.toNat = n) (hn' : n < 2 ^ 31) : haveC (nchW v37 v41) ci = 1#1 ↔ n < nchN a b := by
  show Scalar.cmpi .ne (Scalar.extui (Scalar.cmpi .slt ci (nchW v37 v41))) 0#32 = 1#1 ↔ _
  rw [ne_extui]
  rcases nchW_cases ha hb ha' hb' with h | ⟨h0, q, h, h1, h2⟩
  · rw [slt_iff (isInt_of hn hn') h]; omega
  · rw [slt_iff (isInt_of hn hn') h]; omega

theorem nchW_sgt (n : Nat) (hn' : n < 2 ^ 31) : Scalar.cmpi .sgt (nchW v37 v41) (BitVec.ofNat 32 n) = 1#1 ↔ n < nchN a b := by
  rcases nchW_cases ha hb ha' hb' with h | ⟨h0, q, h, h1, h2⟩
  · rw [sgt_iff h (Affine.ofNat n ⟨rfl, hn'⟩)]; omega
  · rw [sgt_iff h (Affine.ofNat n ⟨rfl, hn'⟩)]; omega

/-- The ring loop's end: a quarter of the chunks, rounded up, or no more than zero. -/
theorem lastW_cases : IsInt (lastW (Scalar.addi (nchW v37 v41) 3#32) 4#32) ((nchN a b + 3) / 4 : Nat)
    ∨ (nchN a b = 0 ∧ ∃ q : Int, IsInt (lastW (Scalar.addi (nchW v37 v41) 3#32) 4#32) q ∧ -1000001 ≤ q ∧ q ≤ 0) := by
  have key : ∀ z : Int, IsInt (Scalar.addi (nchW v37 v41) 3#32) z → 0 ≤ z → IsInt (lastW (Scalar.addi (nchW v37 v41) 3#32) 4#32) (z / (4 : Nat)) := by
    intro z hz h0
    rw [lastW_eq]
    exact floor_nonneg hz (lit 4) h0 (by decide)
  have hB : nchN a b ≤ 5000 := by unfold nchN; omega
  rcases nchW_cases ha hb ha' hb' with h | ⟨h0, q, h, h1, h2⟩
  · left
    have h3 := key _ (Affine.addi h (lit 3) ⟨rfl, by omega, by omega⟩) (by omega)
    have e : (((nchN a b + 3) / 4 : Nat) : Int) = ((nchN a b : Int) + (3 : Nat)) / (4 : Nat) := by omega
    rw [e]
    exact h3
  · right
    refine ⟨h0, ?_⟩
    have h3 : IsInt (Scalar.addi (nchW v37 v41) 3#32) (q + 3) := Affine.addi h (lit 3) ⟨rfl, by omega, by omega⟩
    by_cases hq : 0 ≤ q + 3
    · exact ⟨_, key _ h3 hq, by omega, by omega⟩
    · rw [lastW_eq]
      exact floor_neg h3 (by omega) (by omega) (.inr rfl) _

theorem t2_trips : (k0_t2_loop v37 v41).trips = (nchN a b + 3) / 4 := by
  show Scf.trips 0#32 (lastW (Scalar.addi (nchW v37 v41) 3#32) 4#32) 1#32 = _
  have h0 : (0#32 : W).toInt = 0 := by decide
  have h1 : (1#32 : W).toInt = 1 := by decide
  rcases lastW_cases ha hb ha' hb' with h | ⟨hz, q, h, hq1, hq2⟩
  · unfold Scf.trips
    rw [int_eq h, h0, h1]
    omega
  · unfold Scf.trips
    rw [int_eq h, h0, h1, hz]
    omega

theorem t2_ok : (k0_t2_loop v37 v41).OK := by
  show Scf.OK 0#32 (lastW (Scalar.addi (nchW v37 v41) 3#32) 4#32) 1#32
  have hB : nchN a b ≤ 5000 := by unfold nchN; omega
  rcases lastW_cases ha hb ha' hb' with h | ⟨hz, q, h, hq1, hq2⟩
  · exact Affine.ok (lit 0) h (lit 1) ⟨by decide, by omega⟩
  · exact Affine.ok (lit 0) h (lit 1) ⟨by decide, by omega⟩

theorem t15_trips : (k0_t15_loop v37 v41).trips = 0 := Scf.rem_trips 0#32 _
theorem t15_ok : (k0_t15_loop v37 v41).OK := Scf.rem_ok 0#32 _

theorem ciW_isInt {t c : Nat} (ht : t ≤ 5000) (hc : c ≤ 100) : IsInt (ciW t (BitVec.ofNat 32 c)) (4 * t + c : Nat) :=
  Affine.addi (Affine.muli (e := (4 * t : Nat)) (lit 4) (iv_isInt t (by omega)) ⟨by omega, by omega, by omega⟩) (Affine.ofNat c ⟨rfl, by omega⟩) ⟨by omega, by omega, by omega⟩

theorem tsW_isInt {ci : W} {n : Nat} (hn : IsInt ci n) (hn' : n ≤ 5000) : IsInt (tsW v37 ci) (a + 128 * n : Nat) :=
  Affine.addi (isInt_of ha (by omega)) (Affine.muli (e := (128 * n : Nat)) hn (lit 128) ⟨by omega, by omega, by omega⟩) ⟨by omega, by omega, by omega⟩

/-- Where the chunk of rows from `ts` on is fetched. -/
theorem fetch_eq {ts : W} {t : Nat} (ht : IsInt ts t) (ht' : t ≤ 1000000) :
    (![(Scalar.muli (Scalar.minsi ts 319872#32) 128#32).toNat] : Fin 1 → Nat) = ![min t 319872 * 128] := by
  have h1 : IsInt (clipW ts) (min t 319872 : Nat) := Affine.minsi ht (lit 319872) (by omega)
  rw [nat_of (Affine.muli h1 (lit 128) (e := (min t 319872 * 128 : Nat)) ⟨by omega, by omega, by omega⟩)]

theorem fetch_inb {o : Fin 1 → Nat} {t : Nat} (h : o = ![min t 319872 * 128]) : ∀ a, o a + S16384.size a ≤ S40960000.size a := by
  intro x
  subst h
  rw [Fin.eq_zero x]
  show min t 319872 * 128 + 16384 ≤ 40960000
  omega

theorem off1_eq : k0_off1 v37 = ![min (a + 128 * 0) 319872 * 128] :=
  fetch_eq ha hb ha' hb' (Affine.addi (isInt_of ha (by omega)) (lit 0) ⟨by omega, by omega, by omega⟩) (by omega)
theorem off2_eq : k0_off2 v37 = ![min (a + 128 * 1) 319872 * 128] :=
  fetch_eq ha hb ha' hb' (Affine.addi (isInt_of ha (by omega)) (lit 128) ⟨by omega, by omega, by omega⟩) (by omega)
theorem off3_eq : k0_off3 v37 = ![min (a + 128 * 2) 319872 * 128] :=
  fetch_eq ha hb ha' hb' (Affine.addi (isInt_of ha (by omega)) (lit 256) ⟨by omega, by omega, by omega⟩) (by omega)

theorem next_isInt (t c : Nat) (ht : t ≤ 4000) (hc : c ≤ 3) : IsInt (Scalar.addi (ciW t (BitVec.ofNat 32 c)) 3#32) (4 * t + c + 3 : Nat) :=
  Affine.addi (ciW_isInt ha hb ha' hb' (by omega) (by omega)) (lit 3) ⟨by omega, by omega, by omega⟩

theorem t2_lt (t : Fin (k0_t2_loop v37 v41).trips) : t.val ≤ 1000 := by
  have := t.isLt
  have h := t2_trips ha hb ha' hb'
  unfold nchN at h
  omega

section Trip
variable (t : Fin (k0_t2_loop v37 v41).trips)

theorem off4_eq : k0_off4 v37 v41 t = ![min (a + 128 * (4 * t + 0 + 3)) 319872 * 128] := by
  have ht := t2_lt ha hb ha' hb' t
  exact fetch_eq ha hb ha' hb' (tsW_isInt ha hb ha' hb' (next_isInt ha hb ha' hb' t 0 (by omega) (by decide)) (by omega)) (by omega)
theorem off25_eq : k0_off25 v37 v41 t = ![min (a + 128 * (4 * t + 1 + 3)) 319872 * 128] := by
  have ht := t2_lt ha hb ha' hb' t
  exact fetch_eq ha hb ha' hb' (tsW_isInt ha hb ha' hb' (next_isInt ha hb ha' hb' t 1 (by omega) (by decide)) (by omega)) (by omega)
theorem off46_eq : k0_off46 v37 v41 t = ![min (a + 128 * (4 * t + 2 + 3)) 319872 * 128] := by
  have ht := t2_lt ha hb ha' hb' t
  exact fetch_eq ha hb ha' hb' (tsW_isInt ha hb ha' hb' (next_isInt ha hb ha' hb' t 2 (by omega) (by decide)) (by omega)) (by omega)
theorem off67_eq : k0_off67 v37 v41 t = ![min (a + 128 * (4 * t + 3 + 3)) 319872 * 128] := by
  have ht := t2_lt ha hb ha' hb' t
  exact fetch_eq ha hb ha' hb' (tsW_isInt ha hb ha' hb' (next_isInt ha hb ha' hb' t 3 (by omega) (by decide)) (by omega)) (by omega)

theorem cond_next {c : Nat} (hc : c ≤ 3) : haveC (nchW v37 v41) (Scalar.addi (ciW t (BitVec.ofNat 32 c)) 3#32) = 1#1 ↔ 4 * t.val + c + 3 < nchN a b := by
  have ht := t2_lt ha hb ha' hb' t
  exact haveC_iff ha hb ha' hb' (nat_of (next_isInt ha hb ha' hb' t c (by omega) hc)) (by omega)

theorem cond4_iff : k0_cond4 v37 v41 t = 1#1 ↔ 4 * t.val + 0 + 3 < nchN a b := cond_next ha hb ha' hb' t (c := 0) (by decide)
theorem cond7_iff : k0_cond7 v37 v41 t = 1#1 ↔ 4 * t.val + 1 + 3 < nchN a b := cond_next ha hb ha' hb' t (c := 1) (by decide)
theorem cond10_iff : k0_cond10 v37 v41 t = 1#1 ↔ 4 * t.val + 2 + 3 < nchN a b := cond_next ha hb ha' hb' t (c := 2) (by decide)
theorem cond13_iff : k0_cond13 v37 v41 t = 1#1 ↔ 4 * t.val + 3 + 3 < nchN a b := cond_next ha hb ha' hb' t (c := 3) (by decide)

/-- Whether the chunk a turn is about is among the chunks. -/
theorem cond_this {c : Nat} (hc : c ≤ 3) : haveC (nchW v37 v41) (ciW t (BitVec.ofNat 32 c)) = 1#1 ↔ 4 * t.val + c < nchN a b := by
  have ht := t2_lt ha hb ha' hb' t
  exact haveC_iff ha hb ha' hb' (nat_of (ciW_isInt ha hb ha' hb' (by omega) (by omega))) (by omega)

theorem ts_this {c : Nat} (hc : c ≤ 3) : (tsW v37 (ciW t (BitVec.ofNat 32 c))).toNat = a + 128 * (4 * t.val + c) := by
  have ht := t2_lt ha hb ha' hb' t
  exact nat_of (tsW_isInt ha hb ha' hb' (ciW_isInt ha hb ha' hb' (by omega) (by omega)) (by omega))

end Trip

theorem cond1_iff : k0_cond1 v37 v41 = 1#1 ↔ 0 < nchN a b := by
  show Scalar.cmpi .ne (Scalar.extui (Scalar.cmpi .sgt (nchW v37 v41) 0#32)) 0#32 = 1#1 ↔ _
  rw [ne_extui]
  exact nchW_sgt ha hb ha' hb' 0 (by decide)
theorem cond2_iff : k0_cond2 v37 v41 = 1#1 ↔ 1 < nchN a b := by
  show Scalar.cmpi .ne (Scalar.extui (Scalar.cmpi .sgt (nchW v37 v41) 1#32)) 0#32 = 1#1 ↔ _
  rw [ne_extui]
  exact nchW_sgt ha hb ha' hb' 1 (by decide)
theorem cond3_iff : k0_cond3 v37 v41 = 1#1 ↔ 2 < nchN a b := by
  show Scalar.cmpi .ne (Scalar.extui (Scalar.cmpi .sgt (nchW v37 v41) 2#32)) 0#32 = 1#1 ↔ _
  rw [ne_extui]
  exact nchW_sgt ha hb ha' hb' 2 (by decide)

theorem chk1_all : k0_chk1 v37 v41 := by
  have hno : ∀ t : Fin (k0_t15_loop v37 v41).trips, False := fun t => by
    have h0 := t15_trips ha hb ha' hb'
    have := t.isLt
    omega
  unfold k0_chk1
  exact ⟨fun _ => fetch_inb ha hb ha' hb' (off1_eq ha hb ha' hb'), fun _ => fetch_inb ha hb ha' hb' (off2_eq ha hb ha' hb'),
    fun _ => fetch_inb ha hb ha' hb' (off3_eq ha hb ha' hb'), t2_ok ha hb ha' hb',
    fun t _ => fetch_inb ha hb ha' hb' (off4_eq ha hb ha' hb' t), fun t _ => fetch_inb ha hb ha' hb' (off25_eq ha hb ha' hb' t),
    fun t _ => fetch_inb ha hb ha' hb' (off46_eq ha hb ha' hb' t), fun t _ => fetch_inb ha hb ha' hb' (off67_eq ha hb ha' hb' t),
    t15_ok ha hb ha' hb', fun t => (hno t).elim, fun t => (hno t).elim, fun t => (hno t).elim, fun t => (hno t).elim⟩

end Chunks

/-! ## The search -/

/-- The place the search probes between two bounds. -/
def midV (lo hi : IV) : IV := minsi (shrsi (addi lo hi) (broadcast S16 1#32)) (broadcast S16 319999#32)

/-- One round of the search: the bounds after the probe `p` at the middle, against the keys `g`. -/
def bsStep (g p : IV) (s : IV × IV) : IV × IV :=
  (select (cmpi .slt s.1 s.2) (select (cmpi .sge p g) s.1 (addi (midV s.1 s.2) (broadcast S16 1#32))) s.1,
    select (cmpi .slt s.1 s.2) (select (cmpi .sge p g) (midV s.1 s.2) s.2) s.2)

/-- The words at the places the lanes of `m` name. -/
def probeV (ids : S320000.Idx → W) (m : IV) : IV := fun l => atN (n := 320000) ids (m l).toNat

/-- The bounds after `k` rounds of the search. -/
def bs (ids : S320000.Idx → W) (g : IV) : Nat → IV × IV
  | 0 => (broadcast S16 0#32, broadcast S16 320000#32)
  | k + 1 => bsStep g (probeV ids (midV (bs ids g k).1 (bs ids g k).2)) (bs ids g k)

theorem midV_toNat {lo hi : IV} {l : S16.Idx} (h1 : (lo l).toNat ≤ 320000) (h2 : (hi l).toNat ≤ 320000) :
    (midV lo hi l).toNat = min (((lo l).toNat + (hi l).toNat) / 2) 319999 := by
  have e : midV lo hi l = Scalar.minsi (Scalar.shrsi (Scalar.addi (lo l) (hi l)) 1#32) 319999#32 := by
    show IntOp.minsi (IntOp.shrsi .vector _ _) _ = IntOp.minsi (IntOp.shrsi .scalar _ _) _
    unfold IntOp.shrsi
    rfl
  rw [e]
  refine nat_of (Affine.minsi (Affine.shrsi (Affine.addi (e := ((lo l).toNat + (hi l).toNat : Nat)) (isInt_of rfl (by omega)) (isInt_of rfl (by omega)) ⟨by omega, by omega, by omega⟩)
    (lit 1) 1 2 rfl ⟨rfl, rfl, by decide⟩) (lit 319999) ?_)
  omega

theorem bs_bounds (ids : S320000.Idx → W) (g : IV) (k : Nat) (l : S16.Idx) : ((bs ids g k).1 l).toNat ≤ 320000 ∧ ((bs ids g k).2 l).toNat ≤ 320000 := by
  induction k with
  | zero => exact ⟨(by decide : (0#32 : W).toNat ≤ 320000), (by decide : (320000#32 : W).toNat ≤ 320000)⟩
  | succ k ih =>
    have hm := midV_toNat ih.1 ih.2
    have ha : (addi (midV (bs ids g k).1 (bs ids g k).2) (broadcast S16 1#32) l).toNat ≤ 320000 := by
      show (midV (bs ids g k).1 (bs ids g k).2 l + 1#32).toNat ≤ 320000
      rw [BitVec.toNat_add, hm, show (1#32 : W).toNat = 1 from rfl]
      omega
    have hs : ∀ (c : BitVec 1) (x y : W), x.toNat ≤ 320000 → y.toNat ≤ 320000 → (Scalar.select c x y).toNat ≤ 320000 := by
      intro c x y hx hy
      unfold Scalar.select
      split <;> assumption
    exact ⟨hs _ _ _ (hs _ _ _ ih.1 ha) ih.1, hs _ _ _ (hs _ _ _ (by omega) ih.2) ih.2⟩

theorem mid_lt (ids : S320000.Idx → W) (g : IV) (k : Nat) (l : S16.Idx) : (midV (bs ids g k).1 (bs ids g k).2 l).toNat < 320000 := by
  have h := bs_bounds ids g k l
  rw [midV_toNat h.1 h.2]
  omega

theorem t1_trips : k0_t1_loop.trips = 19 := by decide

/-! ## The segments' places -/

theorem offAt_eq {k : Nat} (hk : k < 8) : offAt k = ![k] := by
  unfold offAt
  rw [show (Scalar.indexCast (Scf.iv 0#32 1#32 k)).toNat = k from iv_nat k (by omega)]

theorem offNext_eq {k : Nat} (hk : k < 8) : offNext k = ![k + 1] := by
  unfold offNext
  rw [show (Scalar.indexCast (Scalar.addi (Scf.iv 0#32 1#32 k) 1#32)).toNat = k + 1 from
    nat_of (Affine.addi (iv_isInt k (by omega)) (lit 1) ⟨by omega, by omega, by omega⟩)]

theorem stageOff_eq {k : Nat} (hk : k < 8) (c : Nat) : stageOff k c = ![k, c] := by
  unfold stageOff
  rw [show (Scalar.indexCast (Scf.iv 0#32 1#32 k)).toNat = k from iv_nat k (by omega)]

/-- The first row of the stage rows a subcore writes out. -/
theorem off172_eq (i : grid0.Coords) : k0_off172 i = ![8 * ((i 1).val * 2 + (i 0).val), 0] := by
  have h0 : (i 0).val < 2 := (i 0).isLt
  have h1 : (i 1).val < 16 := (i 1).isLt
  have h : IsInt (Scalar.muli (Scalar.addi (Scalar.muli (BitVec.ofNat 32 (i 1).val) 2#32) (BitVec.ofNat 32 (i 0).val)) 8#32) (8 * ((i 1).val * 2 + (i 0).val) : Nat) :=
    Affine.muli (Affine.addi (Affine.muli (Affine.ofNat (i 1).val ⟨rfl, by omega⟩) (lit 2) (e := ((i 1).val * 2 : Nat)) ⟨by omega, by omega, by omega⟩)
      (Affine.ofNat (i 0).val ⟨rfl, by omega⟩) (e := ((i 1).val * 2 + (i 0).val : Nat)) ⟨by omega, by omega, by omega⟩) (lit 8) ⟨by omega, by omega, by omega⟩
  have e := nat_of h
  show (![(Scalar.muli (Scalar.addi (Scalar.muli (BitVec.ofNat 32 (i 1).val) 2#32) (BitVec.ofNat 32 (i 0).val)) 8#32).toNat, 0] : Fin 2 → Nat) = _
  rw [e]

end Cert.Proof.Tile
-- ==== Proof.Seg.lean ====
/-
  One segment of a chunk, and the eight segments one after the other: what the stage holds after them.
-/
module

public import proofs.«01_k».proof.Proof.WpBase
public import proofs.«01_k».proof.Proof.Words

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {d : Dev nD} {i : grid0.Coords}

theorem ofT_toT (f : Fin 16 → FV F) : ofT (toT f) = f := by
  funext j
  fin_cases j <;> rfl

theorem ofRow_toRow (v : FV F) : ofRow (toRow v) = v := by
  show shapeCast S16 (shapeCast S1x16 v shapeCasts_S16_S1x16) shapeCasts_S1x16_S16 = v
  rw [shapeCast_shapeCast]

theorem rows0 (ws : Fin 8 → FV F) (bv : FV F) (R : Nat → Fin 8 → FV F) (a : Fin 16 → FV F) (lo : Nat) :
    (toT fun j => ofRow (toRow (a j))) = toT (rowsFold ws bv R a lo 0) := by
  rw [show (fun j => ofRow (toRow (a j))) = a from funext fun j => ofRow_toRow _]
  rfl

/-- The place in the ring buffer of row `n` of the chunk of rows from `t` on, its window starting at `o`. -/
def placeOf (o t n : Nat) : Nat := o + (n - min t 319872) * 128

/-- The stage's vectors after segment `k` of the chunk of rows from `t` on, read from the window at `o` of the ring
    buffer `f`. -/
def segUpd (ws : Fin 8 → FV F) (bv : FV F) (f : S65536.Idx → F .f32) (o t : Nat) (H : IV) (k : Fin 8) (A : Fin 8 → Fin 16 → FV F) : Fin 8 → Fin 16 → FV F :=
  setRow A k (rowsFold ws bv (fun n => rowAt (atN (n := 65536) f) (placeOf o t n)) (A k) (max (laneW H k).toNat t)
    (cntOf (laneW H k).toNat (laneW H (k.val + 1)).toNat t))

theorem firstW_off (H : IV) {p : Nat} (hp : p ≤ 16) {o : Fin 1 → Nat} (ho : o = ![p]) (hi : ∀ a, o a + S16.size a ≤ S32.size a) :
    firstW (F := F) ((offW.access (Rect.unit (s := S32) o S16.size hi)).read (Elt F) (offC H)) = laneW H p := by
  subst ho
  unfold firstW
  rw [shapeCast_self]
  show offC H _ = _
  unfold offC laneW
  congr 1

theorem laneW_le {H : IV} (hH : ∀ l, (H l).toNat ≤ 320000) (k : Nat) : (laneW H k).toNat ≤ 320000 := hH _

/-- Sixteen vectors put back, in the order of the kernel's stores, replace the segment's vectors. -/
theorem setMany_all (A : Fin 8 → Fin 16 → FV F) (k : Fin 8) (b : Fin 16 → FV F) :
    setMany (setA (setMany A 7 (fun _ => k) (fun j => ordS (j.castLE (by decide))) (fun j => b (ordS (j.castLE (by decide))))) k 11 (b 11)) 8
      (fun _ => k) (fun j => ordS (Fin.natAdd 8 j)) (![b 4, b 12, b 5, b 13, b 6, b 14, b 7, b 15] : Fin 8 → FV F) = setRow A k b := by
  funext r j
  unfold setRow
  by_cases hr : r = k
  · subst hr
    rw [if_pos rfl]
    fin_cases j <;> simp [setMany, setA, ordS] <;> rfl
  · rw [if_neg hr]
    simp [setMany, setA, hr]

theorem le7_16 : 7 ≤ 16 := by decide

theorem wp_segTail {ws : Fin 8 → FV F} {bv : FV F} {boff ts sb se : W} {o b e t : Nat} {so : Fin 16 → Fin 2 → Nat} {si : ∀ j a, so j a + S1x16.size a ≤ S8x256.size a}
    {dk dc dc'} (hb : sb.toNat = b) (he : se.toNat = e) (hb' : b ≤ 320000) (he' : e ≤ 320000) (ho : boff.toNat = o) (ho' : o ≤ 49152) (ht : ts.toNat = t) (ht' : t ≤ 1000000)
    {S : Finset (Idx (bufW.view.loc (thr d i)))} {q : PosShare TreeShare} {f : Buf (Elt F) (bufW.view.loc (thr d i))} (A : Fin 8 → Fin 16 → FV F) (k : Fin 8)
    (hso : ∀ j : Fin 16, so j = ![k.val, 16 * j.val])
    (hS : ∀ p : Fin 1 → Nat, ∀ hi : ∀ a, p a + S16.size a ≤ S65536.size a, o ≤ p 0 → p 0 + 16 ≤ o + 16384 →
      (bufW.access (Rect.unit (s := S65536) p S16.size hi)).set ⊆ S) :
    (iprop((bufW.view.loc (thr d i) ↦[S]{q} f) ∗ (∃ g, shfW.view.loc (thr d i) ↦{fullShare} g) ∗ (stgW.view.loc (thr d i) ↦{fullShare} stageOf A)) : sProp (MM F))
      ⊢ WP d i (segTail i bufW shfW stgW ws bv iotaV boff ts (coffW ts) so si sb se dk dc dc') fun _ =>
        iprop((bufW.view.loc (thr d i) ↦[S]{q} f) ∗ (∃ g, shfW.view.loc (thr d i) ↦{fullShare} g)
          ∗ (stgW.view.loc (thr d i) ↦{fullShare} stageOf (setRow A k (rowsFold ws bv (fun n => rowAt (atN (n := 65536) f) (placeOf o t n)) (A k) (max b t) (cntOf b e t))))) := by
  have hread : (fun j : Fin 16 => (stgW.access (Rect.unit (s := S8x256) (so j) S1x16.size (si j))).read (Elt F) (stageOf A)) = fun j => toRow (A k j) :=
    funext fun j => stg_read A k j _ _ (hso j)
  have hcf : condW sb se ts = 1#1 ↔ 0 < cntOf b e t := by
    have := condW_iff hb he ht hb' he' ht'
    rw [hb, he, ht] at this
    exact this
  have htr : (rowLoop sb se ts).trips = cntOf b e t := by
    have := rowLoop_trips hb he ht hb' he' ht'
    rw [hb, he, ht] at this
    exact this
  have hro : ∀ n, n < cntOf b e t → ∀ r : Fin 8, rowOff (rowBase boff ts (coffW ts) sb) (Scf.iv 0#32 1#32 n) (BitVec.ofNat 32 (16 * r.val))
      = ![placeOf o t (max b t + n) + 16 * r.val] := by
    intro n hn r
    rw [rowOff_eq hb he ht hb' he' ht' ho ho' (by rw [hb, he, ht]; exact hn) r, hb, ht]
    rfl
  have hin : ∀ n, n < cntOf b e t → max b t + n - min t 319872 < 128 := by
    intro n hn
    have := row_in hb he ht hb' he' ht' (k := n) (by rw [hb, he, ht]; exact hn)
    rw [hb, ht] at this
    exact this
  iintro ⟨Hb, Hsh, Hst⟩
  unfold segTail
  iapply (wp_asm (d := d) (i := i) (chk_all hb he ht hb' he' ht' ho ho'))
  by_cases h : condW sb se ts = 1#1
  · simp only [Prog.bind, dif_pos h]
    iapply wp_seq
    iapply (wp_loadsP (d := d) (i := i) (m := stgW) (sz := S1x16.size) (off := so) (inb := si) (S := Finset.univ) (q := fullShare) (f := stageOf A) (fun _ => Finset.subset_univ _)) $$ Hst
    rw [hread]
    iintro Hst
    iapply wp_end
    iapply wp_seq
    iapply wp_seq
    iapply (wp_loop (d := d) (i := i) (fun n acc => iprop(⌜acc = toT (rowsFold ws bv (fun n => rowAt (atN (n := 65536) f) (placeOf o t n)) (A k) (max b t) n)⌝
      ∗ (bufW.view.loc (thr d i) ↦[S]{q} f) ∗ (∃ g, shfW.view.loc (thr d i) ↦{fullShare} g))) ?_)
    · intro n acc
      have hn : n.val < cntOf b e t := lt_of_lt_of_eq n.isLt htr
      have hp := hin n hn
      iintro ⟨%hacc, Hb, Hsh⟩
      iapply (wp_post (d := d) (i := i))
      isplitl [Hb Hsh]
      · iapply (wp_rowP (d := d) (i := i) (S := S) (q := q) (f := f) (placeOf o t (max b t + n.val)) (hro n hn)
          (fun j => hS _ _ (by rw [hro n hn j]; show o ≤ placeOf o t (max b t + n.val) + 16 * j.val; unfold placeOf; omega)
            (by rw [hro n hn j]; have := j.isLt; show placeOf o t (max b t + n.val) + 16 * j.val + 16 ≤ o + 16384; unfold placeOf; omega)))
        isplitl [Hb]; · iexact Hb
        iexact Hsh
      · iintro %r ⟨%hr, Hb, Hsh⟩
        isplitr
        · ipureintro
          rw [hr, hacc, ofT_toT]
          rfl
        isplitl [Hb]; · iexact Hb
        iexact Hsh
    isplitl [Hb Hsh]
    · isplitr
      · ipureintro
        exact rows0 _ _ _ _ _
      isplitl [Hb]; · iexact Hb
      iexact Hsh
    iintro %a ⟨%ha, Hb, Hsh⟩
    rw [htr] at ha
    subst ha
    iapply wp_seq
    iapply (wp_loop (d := d) (i := i) (fun n acc => iprop(⌜n = 0 → acc = toT (rowsFold ws bv (fun n => rowAt (atN (n := 65536) f) (placeOf o t n)) (A k) (max b t) (cntOf b e t))⌝
      ∗ (bufW.view.loc (thr d i) ↦[S]{q} f) ∗ (∃ g, shfW.view.loc (thr d i) ↦{fullShare} g))) ?_)
    · intro n
      have h0 := remLoop_trips hb he ht hb' he' ht'
      have := n.isLt
      omega
    isplitl [Hb Hsh]
    · isplitr
      · ipureintro; intro _; rfl
      isplitl [Hb]; · iexact Hb
      iexact Hsh
    iintro %a ⟨%ha, Hb, Hsh⟩
    have ha' := ha (remLoop_trips hb he ht hb' he' ht')
    subst ha'
    generalize rowsFold ws bv (fun n => rowAt (atN (n := 65536) f) (placeOf o t n)) (A k) (max b t) (cntOf b e t) = B
    rw [ofT_toT]
    iapply (wp_stgStores (d := d) (i := i) A (fun _ => k) (fun j => ordS (j.castLE le7_16)) (fun j => B (ordS (j.castLE le7_16))) (fun j => hso _) (fun _ => rfl)) $$ Hst
    iintro Hst
    iapply (wp_ld (d := d) (i := i) stgW (r := Rect.unit (s := S8x256) (so 11) S1x16.size (si 11)) (S := Finset.univ) (q := fullShare)
      (f := stageOf (setMany A 7 (fun _ => k) (fun j => ordS (j.castLE le7_16)) (fun j => B (ordS (j.castLE le7_16))))) (Finset.subset_univ _)) $$ Hst
    iintro Hst
    iapply wp_end
    dsimp only
    iapply (wp_st (d := d) (i := i) stgW (r := Rect.unit (s := S8x256) (so 11) S1x16.size (si 11))
      (f := stageOf (setMany A 7 (fun _ => k) (fun j => ordS (j.castLE le7_16)) (fun j => B (ordS (j.castLE le7_16)))))) $$ Hst
    rw [stg_write _ k 11 (B 11) _ _ (hso 11)]
    iintro Hst
    iapply wp_seq
    iapply wp_end
    iapply wp_seq
    iapply (wp_stgStores (d := d) (i := i) _ (fun _ => k) (fun j => ordS (Fin.natAdd 8 j)) (![B 4, B 12, B 5, B 13, B 6, B 14, B 7, B 15] : Fin 8 → FV F)
      (fun j => hso _) (fun _ => rfl)) $$ Hst
    rw [setMany_all]
    iintro Hst
    iapply wp_end
    iapply wp_end
    isplitl [Hb]; · iexact Hb
    isplitl [Hsh]; · iexact Hsh
    iexact Hst
  · simp only [Prog.bind, dif_neg h]
    iapply wp_end
    have e : setRow A k (rowsFold ws bv (fun n => rowAt (atN (n := 65536) f) (placeOf o t n)) (A k) (max b t) (cntOf b e t)) = A := by
      rw [hcf] at h
      rw [show cntOf b e t = 0 by omega]
      funext r
      unfold setRow rowsFold
      split
      · rename_i hr; rw [hr]
      · rfl
    rw [e]
    isplitl [Hb]; · iexact Hb
    isplitl [Hsh]; · iexact Hsh
    iexact Hst

/-- The eight segments' vectors after the rows of the chunk from `t` on, read from `R`, for the first `n` segments. -/
def chunkTo (ws : Fin 8 → FV F) (bv : FV F) (R : Nat → Fin 8 → FV F) (t : Nat) (H : IV) (A : Fin 8 → Fin 16 → FV F) (n : Nat) : Fin 8 → Fin 16 → FV F :=
  fun r => if r.val < n then rowsFold ws bv R (A r) (max (laneW H r.val).toNat t) (cntOf (laneW H r.val).toNat (laneW H (r.val + 1)).toNat t) else A r

/-- The rows of the chunk from `t` on as the window at `o` of the ring buffer holds them. -/
def winRow (f : S65536.Idx → F .f32) (o t : Nat) (n : Nat) : Fin 8 → FV F := rowAt (atN (n := 65536) f) (placeOf o t n)

theorem segUpd_chunkTo (ws : Fin 8 → FV F) (bv : FV F) (f : S65536.Idx → F .f32) (o t : Nat) (H : IV) (A : Fin 8 → Fin 16 → FV F) (k : Fin 8) :
    segUpd ws bv f o t H k (chunkTo ws bv (winRow f o t) t H A k.val) = chunkTo ws bv (winRow f o t) t H A (k.val + 1) := by
  funext r
  unfold segUpd setRow chunkTo
  by_cases hr : r = k
  · subst hr
    rw [if_pos rfl, if_neg (Nat.lt_irrefl _), if_pos (Nat.lt_succ_self _)]
    rfl
  · rw [if_neg hr]
    have : r.val ≠ k.val := fun h => hr (Fin.ext h)
    by_cases h : r.val < k.val
    · rw [if_pos h, if_pos (by omega)]
    · rw [if_neg h, if_neg (by omega)]

theorem wp_segP {ws : Fin 8 → FV F} {bv : FV F} {boff ts : W} {o t : Nat} (k : Fin segLoop.trips) (k8 : Fin 8) (hk8 : k8.val = k.val)
    {dk dc dc'} {H : IV} (hH : ∀ l, (H l).toNat ≤ 320000) (ho : boff.toNat = o) (ho' : o ≤ 49152) (ht : ts.toNat = t) (ht' : t ≤ 1000000)
    {S : Finset (Idx (bufW.view.loc (thr d i)))} {q : PosShare TreeShare} {f : Buf (Elt F) (bufW.view.loc (thr d i))} (A : Fin 8 → Fin 16 → FV F)
    (hS : ∀ p : Fin 1 → Nat, ∀ hi : ∀ a, p a + S16.size a ≤ S65536.size a, o ≤ p 0 → p 0 + 16 ≤ o + 16384 →
      (bufW.access (Rect.unit (s := S65536) p S16.size hi)).set ⊆ S) :
    (iprop((offW.view.loc (thr d i) ↦{fullShare} offC H) ∗ (bufW.view.loc (thr d i) ↦[S]{q} f) ∗ (∃ g, shfW.view.loc (thr d i) ↦{fullShare} g)
        ∗ (stgW.view.loc (thr d i) ↦{fullShare} stageOf A)) : sProp (MM F))
      ⊢ WP d i (segP i bufW offW shfW stgW ws bv iotaV boff ts (coffW ts) (offAt k) (offAt_inb k) (offNext k) (offNext_inb k)
          (fun j => stageOff k (16 * j.val)) (stageOff_inb k) dk dc dc') fun _ =>
        iprop((offW.view.loc (thr d i) ↦{fullShare} offC H) ∗ (bufW.view.loc (thr d i) ↦[S]{q} f) ∗ (∃ g, shfW.view.loc (thr d i) ↦{fullShare} g)
          ∗ (stgW.view.loc (thr d i) ↦{fullShare} stageOf (segUpd ws bv f o t H k8 A))) := by
  have hk : k.val < 8 := segLoop_trips ▸ k.isLt
  have e0 := firstW_off (F := F) H (p := k.val) (by omega) (offAt_eq hk) (offAt_inb k)
  have e1 := firstW_off (F := F) H (p := k.val + 1) (by omega) (offNext_eq hk) (offNext_inb k)
  have hsb := laneW_le hH k.val
  have hse := laneW_le hH (k.val + 1)
  have hso : ∀ j : Fin 16, stageOff k (16 * j.val) = ![k8.val, 16 * j.val] := fun j => by rw [stageOff_eq hk, hk8]
  iintro ⟨Hoff, Hb, Hsh, Hst⟩
  unfold segP
  iapply (wp_ld (d := d) (i := i) offW (r := Rect.unit (s := S32) (offAt k) S16.size (offAt_inb k)) (S := Finset.univ) (q := fullShare) (f := offC H) (Finset.subset_univ _)) $$ Hoff
  iintro Hoff
  iapply (wp_ld (d := d) (i := i) offW (r := Rect.unit (s := S32) (offNext k) S16.size (offNext_inb k)) (S := Finset.univ) (q := fullShare) (f := offC H) (Finset.subset_univ _)) $$ Hoff
  iintro Hoff
  iapply (wp_post (d := d) (i := i))
  isplitl [Hb Hsh Hst]
  · iapply (wp_segTail (d := d) (i := i) (S := S) (q := q) (f := f) (congrArg BitVec.toNat e0) (congrArg BitVec.toNat e1) hsb hse ho ho' ht ht' A k8 hso hS)
    isplitl [Hb]; · iexact Hb
    isplitl [Hsh]; · iexact Hsh
    iexact Hst
  iintro %_ ⟨Hb, Hsh, Hst⟩
  isplitl [Hoff]; · iexact Hoff
  isplitl [Hb]; · iexact Hb
  isplitl [Hsh]; · iexact Hsh
  rw [← hk8]
  iexact Hst

/-- The eight segments of a chunk, one after the other. -/
theorem wp_segs {ws : Fin 8 → FV F} {bv : FV F} {boff ts : W} {o t : Nat} {H : IV} {dk : ∀ sb se, Decidable (chkSeg boff ts (coffW ts) sb se)} {dc dc'}
    (hH : ∀ l, (H l).toNat ≤ 320000) (ho : boff.toNat = o) (ho' : o ≤ 49152) (ht : ts.toNat = t) (ht' : t ≤ 1000000)
    {S : Finset (Idx (bufW.view.loc (thr d i)))} {q : PosShare TreeShare} {f : Buf (Elt F) (bufW.view.loc (thr d i))} (A : Fin 8 → Fin 16 → FV F)
    (hS : ∀ p : Fin 1 → Nat, ∀ hi : ∀ a, p a + S16.size a ≤ S65536.size a, o ≤ p 0 → p 0 + 16 ≤ o + 16384 →
      (bufW.access (Rect.unit (s := S65536) p S16.size hi)).set ⊆ S) :
    (iprop((offW.view.loc (thr d i) ↦{fullShare} offC H) ∗ (bufW.view.loc (thr d i) ↦[S]{q} f) ∗ (∃ g, shfW.view.loc (thr d i) ↦{fullShare} g)
        ∗ (stgW.view.loc (thr d i) ↦{fullShare} stageOf A)) : sProp (MM F))
      ⊢ WP d i (Scf.Loop.for segLoop segLoop_ok ⟨⟩ fun (k : Fin segLoop.trips) (_ : Unit) => segP i bufW offW shfW stgW ws bv iotaV boff ts (coffW ts) (offAt k) (offAt_inb k) (offNext k) (offNext_inb k)
          (fun j => stageOff k (16 * j.val)) (stageOff_inb k) dk dc dc') fun _ =>
        iprop((offW.view.loc (thr d i) ↦{fullShare} offC H) ∗ (bufW.view.loc (thr d i) ↦[S]{q} f) ∗ (∃ g, shfW.view.loc (thr d i) ↦{fullShare} g)
          ∗ (stgW.view.loc (thr d i) ↦{fullShare} stageOf (chunkTo ws bv (winRow f o t) t H A 8))) := by
  iintro ⟨Hoff, Hb, Hsh, Hst⟩
  iapply (wp_loop (d := d) (i := i) (fun n _ => iprop((offW.view.loc (thr d i) ↦{fullShare} offC H) ∗ (bufW.view.loc (thr d i) ↦[S]{q} f) ∗ (∃ g, shfW.view.loc (thr d i) ↦{fullShare} g)
          ∗ (stgW.view.loc (thr d i) ↦{fullShare} stageOf (chunkTo ws bv (winRow f o t) t H A n)))) ?_)
  · intro k _
    have hk : k.val < 8 := segLoop_trips ▸ k.isLt
    have h := wp_segP (d := d) (i := i) (ws := ws) (bv := bv) (dk := dk) (dc := dc) (dc' := dc') k ⟨k.val, hk⟩ rfl hH ho ho' ht ht' (q := q) (f := f) (chunkTo ws bv (winRow f o t) t H A k.val) hS
    rw [segUpd_chunkTo ws bv f o t H A ⟨k.val, hk⟩] at h
    exact h
  isplitl [Hoff Hb Hsh Hst]
  · isplitl [Hoff]; · iexact Hoff
    isplitl [Hb]; · iexact Hb
    isplitl [Hsh]; · iexact Hsh
    have e : chunkTo ws bv (winRow f o t) t H A 0 = A := funext fun r => if_neg (Nat.not_lt_zero _)
    rw [e]
    iexact Hst
  · iintro %_ H
    iexact H

end Cert.Proof.Tile
-- ==== Proof.ProgsEq.lean ====
/-
  The printed body of the tile kernel is the same program as its parts written out in `Progs`: one equation for each part.
-/
module

public import proofs.«01_k».proof.Proof.Progs
public import proofs.«01_k».proof.Proof.Gen.KernelIdeal.Skeleton

@[expose] public section

noncomputable section

namespace Cert.Proof.Tile

open Cert.KernelIdeal Cert.KernelIdeal.Gen Idealize.ShloMosaic Idealize.SL.Sem

variable {F : FTy → Type} [FloatOps F]

section
variable (i : grid0.Coords) (arg2 : Memref sig .scVector .hbm S40960000 .f32) (harg2 : arg2.IsWhole)
  (arg3 : Memref sig .scVector .hbm S320000 .i32) (harg3 : arg3.IsWhole) (arg4 : Memref sig .scVector .hbm S128 .f32) (harg4 : arg4.IsWhole)
  (arg5 : Memref sig .scVector .hbm S16 .f32) (harg5 : arg5.IsWhole) (arg6 : Memref sig .scVector .hbm S256x256 .f32) (harg6 : arg6.IsWhole)
  (arg7 : Memref sig .scVector .vmem S65536 .f32) (harg7 : arg7.IsWhole) (arg8 : Memref sig .scVector .vmem S128 .f32) (harg8 : arg8.IsWhole)
  (arg9 : Memref sig .scVector .vmem S16 .f32) (harg9 : arg9.IsWhole) (arg10 : Memref sig .scVector .vmem S32 .i32) (harg10 : arg10.IsWhole)
  (arg11 : Memref sig .scVector .vmem S16 .i32) (harg11 : arg11.IsWhole) (arg12 : Memref sig .scVector .vmem S16 .i32) (harg12 : arg12.IsWhole)
  (arg13 : Memref sig .scVector .vmem S16 .f32) (harg13 : arg13.IsWhole) (arg14 : Memref sig .scVector .vmem S8x256 .f32) (harg14 : arg14.IsWhole)
  (arg15 arg16 arg17 arg18 arg19 r0 r1 r2 : DmaSems sig S_)
  (v4 v6 v8 v10 v12 v14 v16 v18 v20 : FV F) (v21 : IV)

/-- The segments' loop in the first chunk buffer walks the segment written once. -/
theorem t3_eq (v37 v41 : W) (hw1 : k0_chk1 v37 v41) (v60 : W) (t : Fin (k0_t2_loop v37 v41).trips) (ts' coff' : W) :
    k0_t3_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t ts' coff'
      = fun (k : Fin segLoop.trips) _ => segP i arg7 arg10 arg13 arg14 ![v4, v6, v8, v10, v12, v14, v16, v18] v20 v21 0#32 (tsW v37 (ciW t 0#32)) (coffW (tsW v37 (ciW t 0#32)))
              (offAt k) (offAt_inb k) (offNext k) (offNext_inb k) (fun j => stageOff k (16 * j.val)) (stageOff_inb k)
              (fun sb se => k0_chk2.dec v37 v41 t sb se) (fun sb se ix => k0_chk3.dec v37 v41 t sb se ix) (fun sb se ix => k0_chk7.dec v37 v41 t sb se ix) := rfl

/-- The segments' loop in the second chunk buffer walks the segment written once. -/
theorem t6_eq (v37 v41 : W) (hw1 : k0_chk1 v37 v41) (v60 : W) (t : Fin (k0_t2_loop v37 v41).trips) (ts' coff' : W) :
    k0_t6_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t ts' coff'
      = fun (k : Fin segLoop.trips) _ => segP i arg7 arg10 arg13 arg14 ![v4, v6, v8, v10, v12, v14, v16, v18] v20 v21 16384#32 (tsW v37 (ciW t 1#32)) (coffW (tsW v37 (ciW t 1#32)))
              (offAt k) (offAt_inb k) (offNext k) (offNext_inb k) (fun j => stageOff k (16 * j.val)) (stageOff_inb k)
              (fun sb se => k0_chk11.dec v37 v41 t sb se) (fun sb se ix => k0_chk12.dec v37 v41 t sb se ix) (fun sb se ix => k0_chk16.dec v37 v41 t sb se ix) := rfl

/-- The segments' loop in the third chunk buffer walks the segment written once. -/
theorem t9_eq (v37 v41 : W) (hw1 : k0_chk1 v37 v41) (v60 : W) (t : Fin (k0_t2_loop v37 v41).trips) (ts' coff' : W) :
    k0_t9_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t ts' coff'
      = fun (k : Fin segLoop.trips) _ => segP i arg7 arg10 arg13 arg14 ![v4, v6, v8, v10, v12, v14, v16, v18] v20 v21 32768#32 (tsW v37 (ciW t 2#32)) (coffW (tsW v37 (ciW t 2#32)))
              (offAt k) (offAt_inb k) (offNext k) (offNext_inb k) (fun j => stageOff k (16 * j.val)) (stageOff_inb k)
              (fun sb se => k0_chk20.dec v37 v41 t sb se) (fun sb se ix => k0_chk21.dec v37 v41 t sb se ix) (fun sb se ix => k0_chk25.dec v37 v41 t sb se ix) := rfl

/-- The segments' loop in the fourth chunk buffer walks the segment written once. -/
theorem t12_eq (v37 v41 : W) (hw1 : k0_chk1 v37 v41) (v60 : W) (t : Fin (k0_t2_loop v37 v41).trips) (ts' coff' : W) :
    k0_t12_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t ts' coff'
      = fun (k : Fin segLoop.trips) _ => segP i arg7 arg10 arg13 arg14 ![v4, v6, v8, v10, v12, v14, v16, v18] v20 v21 49152#32 (tsW v37 (ciW t 3#32)) (coffW (tsW v37 (ciW t 3#32)))
              (offAt k) (offAt_inb k) (offNext k) (offNext_inb k) (fun j => stageOff k (16 * j.val)) (stageOff_inb k)
              (fun sb se => k0_chk29.dec v37 v41 t sb se) (fun sb se ix => k0_chk30.dec v37 v41 t sb se ix) (fun sb se ix => k0_chk34.dec v37 v41 t sb se ix) := rfl

/-- The first two turns of a trip of the ring loop. -/
theorem p25_eq (v37 v41 : W) (hw1 : k0_chk1 v37 v41) (v60 : W) (t : Fin (k0_t2_loop v37 v41).trips) :
    k0_part25 i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t
      = slotP i arg2 arg7 arg19 arg16 (k0_cond4 v37 v41 t) (haveC v60 (ciW t 0#32)) 49152 0 inb_S65536_S16384_49152 inb_S65536_S16384_0
            (k0_off4 v37 v41 t) (k0_off4_inb v37 v41 hw1 t)
            (k0_t3_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t (tsW v37 (ciW t 0#32)) (coffW (tsW v37 (ciW t 0#32))))
            (slotP i arg2 arg7 arg16 arg17 (k0_cond7 v37 v41 t) (haveC v60 (ciW t 1#32)) 0 16384 inb_S65536_S16384_0 inb_S65536_S16384_16384
            (k0_off25 v37 v41 t) (k0_off25_inb v37 v41 hw1 t)
            (k0_t6_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t (tsW v37 (ciW t 1#32)) (coffW (tsW v37 (ciW t 1#32))))
            (pure (Scalar.muli 4#32 (Scf.iv 0#32 1#32 t)))) := rfl

/-- A trip of the ring loop is four turns, of the four chunk buffers. -/
theorem p26_eq (v37 v41 : W) (hw1 : k0_chk1 v37 v41) (v60 : W) (t : Fin (k0_t2_loop v37 v41).trips) :
    k0_part26 i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t
      = Prog.bind (slotP i arg2 arg7 arg19 arg16 (k0_cond4 v37 v41 t) (haveC v60 (ciW t 0#32)) 49152 0 inb_S65536_S16384_49152 inb_S65536_S16384_0
            (k0_off4 v37 v41 t) (k0_off4_inb v37 v41 hw1 t)
            (fun (k : Fin segLoop.trips) _ => segP i arg7 arg10 arg13 arg14 ![v4, v6, v8, v10, v12, v14, v16, v18] v20 v21 0#32 (tsW v37 (ciW t 0#32)) (coffW (tsW v37 (ciW t 0#32)))
              (offAt k) (offAt_inb k) (offNext k) (offNext_inb k) (fun j => stageOff k (16 * j.val)) (stageOff_inb k)
              (fun sb se => k0_chk2.dec v37 v41 t sb se) (fun sb se ix => k0_chk3.dec v37 v41 t sb se ix) (fun sb se ix => k0_chk7.dec v37 v41 t sb se ix))
            (slotP i arg2 arg7 arg16 arg17 (k0_cond7 v37 v41 t) (haveC v60 (ciW t 1#32)) 0 16384 inb_S65536_S16384_0 inb_S65536_S16384_16384
            (k0_off25 v37 v41 t) (k0_off25_inb v37 v41 hw1 t)
            (fun (k : Fin segLoop.trips) _ => segP i arg7 arg10 arg13 arg14 ![v4, v6, v8, v10, v12, v14, v16, v18] v20 v21 16384#32 (tsW v37 (ciW t 1#32)) (coffW (tsW v37 (ciW t 1#32)))
              (offAt k) (offAt_inb k) (offNext k) (offNext_inb k) (fun j => stageOff k (16 * j.val)) (stageOff_inb k)
              (fun sb se => k0_chk11.dec v37 v41 t sb se) (fun sb se ix => k0_chk12.dec v37 v41 t sb se ix) (fun sb se ix => k0_chk16.dec v37 v41 t sb se ix))
            (pure (Scalar.muli 4#32 (Scf.iv 0#32 1#32 t))))) fun v =>
        slotP i arg2 arg7 arg17 arg18 (k0_cond10 v37 v41 t) (haveC v60 (Scalar.addi v 2#32)) 16384 32768 inb_S65536_S16384_16384 inb_S65536_S16384_32768
            (k0_off46 v37 v41 t) (k0_off46_inb v37 v41 hw1 t)
            (fun (k : Fin segLoop.trips) _ => segP i arg7 arg10 arg13 arg14 ![v4, v6, v8, v10, v12, v14, v16, v18] v20 v21 32768#32 (tsW v37 (ciW t 2#32)) (coffW (tsW v37 (ciW t 2#32)))
              (offAt k) (offAt_inb k) (offNext k) (offNext_inb k) (fun j => stageOff k (16 * j.val)) (stageOff_inb k)
              (fun sb se => k0_chk20.dec v37 v41 t sb se) (fun sb se ix => k0_chk21.dec v37 v41 t sb se ix) (fun sb se ix => k0_chk25.dec v37 v41 t sb se ix))
            (slotP i arg2 arg7 arg18 arg19 (k0_cond13 v37 v41 t) (haveC v60 (Scalar.addi v 3#32)) 32768 49152 inb_S65536_S16384_32768 inb_S65536_S16384_49152
            (k0_off67 v37 v41 t) (k0_off67_inb v37 v41 hw1 t)
            (fun (k : Fin segLoop.trips) _ => segP i arg7 arg10 arg13 arg14 ![v4, v6, v8, v10, v12, v14, v16, v18] v20 v21 49152#32 (tsW v37 (ciW t 3#32)) (coffW (tsW v37 (ciW t 3#32)))
              (offAt k) (offAt_inb k) (offNext k) (offNext_inb k) (fun j => stageOff k (16 * j.val)) (stageOff_inb k)
              (fun sb se => k0_chk29.dec v37 v41 t sb se) (fun sb se ix => k0_chk30.dec v37 v41 t sb se ix) (fun sb se ix => k0_chk34.dec v37 v41 t sb se ix))
            (pure ⟨⟩)) := by
  refine Eq.trans (b := Prog.bind (slotP i arg2 arg7 arg19 arg16 (k0_cond4 v37 v41 t) (haveC v60 (ciW t 0#32)) 49152 0 inb_S65536_S16384_49152 inb_S65536_S16384_0
            (k0_off4 v37 v41 t) (k0_off4_inb v37 v41 hw1 t)
            (k0_t3_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t (tsW v37 (ciW t 0#32)) (coffW (tsW v37 (ciW t 0#32))))
            (slotP i arg2 arg7 arg16 arg17 (k0_cond7 v37 v41 t) (haveC v60 (ciW t 1#32)) 0 16384 inb_S65536_S16384_0 inb_S65536_S16384_16384
            (k0_off25 v37 v41 t) (k0_off25_inb v37 v41 hw1 t)
            (k0_t6_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t (tsW v37 (ciW t 1#32)) (coffW (tsW v37 (ciW t 1#32))))
            (pure (Scalar.muli 4#32 (Scf.iv 0#32 1#32 t))))) fun v =>
        slotP i arg2 arg7 arg17 arg18 (k0_cond10 v37 v41 t) (haveC v60 (Scalar.addi v 2#32)) 16384 32768 inb_S65536_S16384_16384 inb_S65536_S16384_32768
            (k0_off46 v37 v41 t) (k0_off46_inb v37 v41 hw1 t)
            (k0_t9_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t (tsW v37 (Scalar.addi v 2#32)) (coffW (tsW v37 (Scalar.addi v 2#32))))
            (slotP i arg2 arg7 arg18 arg19 (k0_cond13 v37 v41 t) (haveC v60 (Scalar.addi v 3#32)) 32768 49152 inb_S65536_S16384_32768 inb_S65536_S16384_49152
            (k0_off67 v37 v41 t) (k0_off67_inb v37 v41 hw1 t)
            (k0_t12_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 v4 v6 v8 v10 v12 v14 v16 v18 v20 v21 v37 v41 hw1 v60 0#32 1#32 t (tsW v37 (Scalar.addi v 3#32)) (coffW (tsW v37 (Scalar.addi v 3#32))))
            (pure ⟨⟩))) ?_ (by simp only [t3_eq, t6_eq, t9_eq, t12_eq])
  rfl

/-- The kernel's body up to its last wait: the weights, the bias and the search; the segments' first rows; the stage's
    initial contents; the first three fetches; the ring loop; the copy out. -/
theorem p70_eq :
    k0_part70 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 = Prog.bind (k0_part53 i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2) fun p =>
      .op (.store arg10 (Rect.unit (s := S32) ![16] S16.size inb_S32_S16_16) p.2.2.2.2.2.2.2.2.2.2 Finset.univ (View.stores_vmem_bits_univ h_S16 rfl) (.inl rfl)) fun _ =>
      .op (.load arg10 (Rect.unit (s := S32) ![0] S16.size inb_S32_S16_0).toLoadRect (View.loadsAt_vmem h_S16)) fun v34 =>
      .op (.load arg10 (Rect.unit (s := S32) ![8] S16.size inb_S32_S16_8).toLoadRect (View.loadsAt_vmem h_S16)) fun v38 =>
      .op (.assume (k0_chk1 (firstW v34) (firstW v38)) (k0_chk1.dec (firstW v34) (firstW v38))) fun hw =>
      initP i arg14 <| Prog.bind (
        issueP i arg2 arg7 arg16 (k0_cond1 (firstW v34) (firstW v38)) 0 inb_S65536_S16384_0 (k0_off1 (firstW v34)) (k0_off1_inb (firstW v34) (firstW v38) hw.down) <|
        issueP i arg2 arg7 arg17 (k0_cond2 (firstW v34) (firstW v38)) 16384 inb_S65536_S16384_16384 (k0_off2 (firstW v34)) (k0_off2_inb (firstW v34) (firstW v38) hw.down) <|
        issueP i arg2 arg7 arg18 (k0_cond3 (firstW v34) (firstW v38)) 32768 inb_S65536_S16384_32768 (k0_off3 (firstW v34)) (k0_off3_inb (firstW v34) (firstW v38) hw.down) <|
        (pure ⟨Scalar.addi (nchW (firstW v34) (firstW v38)) 3#32, 4#32⟩ : PR F i (Σ' (_ : W), W))) fun q =>
      Prog.bind (Scf.Loop.for (k0_t2_loop (firstW v34) (firstW v38)) (k0_t2_ok (firstW v34) (firstW v38) hw.down) PUnit.unit
        (k0_t2_body i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1
          (firstW v34) (firstW v38) hw.down (nchW (firstW v34) (firstW v38)))) fun _ =>
      Prog.bind (Scf.Loop.for (k0_t15_loop (firstW v34) (firstW v38)) (k0_t15_ok (firstW v34) (firstW v38) hw.down) PUnit.unit fun t _ => do
          k0_part52 i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 r0 r1 r2 p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1
            (firstW v34) (firstW v38) hw.down (nchW (firstW v34) (firstW v38)) (lastW q.1 q.2) 1#32 t
          pure PUnit.unit) fun _ =>
      .op (.enqueueDma arg14 (.here (arg6.slice (Rect.unit (s := S256x256) (k0_off172 i) S8x256.size (k0_off172_inb i)) (fun _ => rfl))) (.dma r2.sem)
        harg14.wordExact (View.wordExact_bits rfl) ⟨Or.inl rfl, trivial⟩) fun _ => pure PUnit.unit := rfl

end

end Cert.Proof.Tile
-- ==== Proof.Slot.lean ====
/-
  The transfers of a subcore: starting one, waiting for one; the four windows of the ring buffer, free or in flight; a
  chunk buffer's turn.
-/
module

public import proofs.«01_k».proof.Proof.Seg
public import proofs.«01_k».proof.Proof.ProgsEq

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {d : Dev nD} {i : grid0.Coords}

/-! ## Transfers -/

/-- Where the transfers' counters are kept. -/
abbrev EC : UEmb Counters (MM F) := countersEmb

/-- What the subcore owes, and the waits it has made beyond `W`. -/
def Owe (d : Dev nD) (i : grid0.Coords) (O : CellTallies nD τ sig (HIx 1)) (W : Waits sig (HIx 1)) : sProp (MM F) :=
  iprop(∃ W', ⌜∀ p ∈ W', p ∈ W ∨ p.2 = none⌝ ∗ owes (thr d i) O W')

/-- A transfer in flight on a cell, delivering `Dl`. -/
abbrev Fly (d : Dev nD) (i : grid0.Coords) (sem : DmaSems sig S_) (N : Nat) (Dl : sProp (MM F)) : sProp (MM F) :=
  Transfers.Flight EC (thr d i) (.dma sem.sem) (none : HIx 1) N Dl

theorem wp_dma {sp sp' : Space} {s : Shape} {e : EltTy} (src : Memref sig (thr d i).2.kind sp s e) (dst : Memref sig (thr d i).2.kind sp' s e) (sem : DmaSems sig S_)
    {hsrc : src.view.WordExact} {hdst : dst.view.WordExact} {hsem : DmaTarget.Typed (nD := nD) sp (.dma sem.sem) (DmaTarget.here (p := (thr d i).2) dst)} {α : Type}
    {k : PUnit → PR F i α} {Q : α → sProp (MM F)} {q : PosShare TreeShare} {fs : Buf (Elt F) (src.view.loc (thr d i))}
    {Sd : Finset (Idx (dst.view.loc (thr d i)))} {fd : Buf (Elt F) (dst.view.loc (thr d i))} (hs : 0 < s.numel) (hSd : dst.view.set ⊆ Sd) :
    (iprop((src.view.loc (thr d i) ↦[src.view.set]{q} fs) ∗ (dst.view.loc (thr d i) ↦[Sd]{fullShare} fd) ∗ semVal (thr d i, .dma sem.sem) 0) : sProp (MM F))
      ⊢ iprop((Fly d i sem dst.view.dmaCredit iprop((dst.view.loc (thr d i) ↦[Sd]{fullShare} (dst.view.write (Elt F) fd (src.view.read (Elt F) fs) Finset.univ))
              ∗ (src.view.loc (thr d i) ↦[src.view.set]{q} fs)) -∗ WP d i (k ⟨⟩) Q)
          -∗ WP d i (.op (.enqueueDma src (.here dst) (.dma sem.sem) hsrc hdst hsem) k) Q) := by
  unfold WP
  exact Transfers.wp_dmaLocal (defs := defs₀ (F := F)) EC 𝒱₀ (thr d i) none (Q := Q) (k := k) (src := src) (via := .same) (dst := dst) (q := q) (fs := fs) (Sd := Sd) (fd := fd)
    (none : HIx 1) dst.view.dmaCredit rfl (dst.view.dmaCredit_pos hs) hSd

theorem wp_wt {sp sp' sp'' : Space} {s s' : Shape} {e e' : EltTy} {κ' : Kind} {src : Memref sig .scVector sp' s' e'} {dst : Memref sig κ' sp s e} (sem : DmaSems sig S_)
    {hsrc : src.view.WordExact} {hdst : dst.view.WordExact} {α : Type} {k : PUnit → PR F i α} {Q : α → sProp (MM F)} {Dl : sProp (MM F)} {N : Nat}
    {O : CellTallies nD τ sig (HIx 1)} {W : Waits sig (HIx 1)} (hN : dst.view.dmaCredit = N) :
    (iprop(Transfers.MayWaits (thr d i) (none : HIx 1) O ∗ Fly d i sem N Dl ∗ Owe d i O W) : sProp (MM F))
      ⊢ iprop((iprop(Dl ∗ semVal (thr d i, .dma sem.sem) 0 ∗ Owe d i O W) -∗ WP d i (k ⟨⟩) Q)
          -∗ WP d i (.op (.waitDma2 sem.sem src dst hsrc hdst) k) Q) := by
  unfold WP Owe
  iintro ⟨Hmw, Hf, %W', %hW', HO⟩ Hk
  ihave Hm := (Transfers.MayWaits.elim (SemLoc.dma sem.sem)) $$ Hmw
  iapply (Transfers.wp_waitLocalO (defs := defs₀ (F := F)) EC 𝒱₀ (thr d i) none (Q := Q) (k := k) (srcw := src) (dstw := dst) (hsrc := hsrc) (hdst := hdst) (none : HIx 1) hN (D := Dl) (O := O) (W := W')) $$ [Hf HO Hm]
  · isplitl [Hf]; · iexact Hf
    isplitl [HO]; · iexact HO
    iexact Hm
  iintro ⟨HD, Hv, HO⟩
  iapply Hk
  isplitl [HD]; · iexact HD
  isplitl [Hv]; · iexact Hv
  iexists (insert (SemLoc.dma sem.sem, (none : HIx 1)) W')
  isplitr
  · ipureintro
    intro p hp
    rcases Finset.mem_insert.mp hp with hp | hp
    · exact .inr (hp ▸ rfl)
    · exact hW' p hp
  · iexact HO

/-! ## The windows -/

/-- Window `w` of the ring buffer holds the 16384 elements of the array from place `p` on. -/
def Holds (xf : S40960000.Idx → F .f32) (f : S65536.Idx → F .f32) (w p : Nat) : Prop :=
  ∀ j, j < 16384 → atN (n := 65536) f (w + j) = atN (n := 40960000) xf (p + j)

/-- Where chunk `n` of a subcore whose rows begin at `a` is fetched from. -/
def chunkAt (a n : Nat) : Nat := min (a + 128 * n) 319872 * 128

/-- The elements of window `w`. -/
abbrev winSet (d : Dev nD) (i : grid0.Coords) (w : Nat) (hw : ∀ a, (![w] : Fin 1 → Nat) a + S16384.size a ≤ S65536.size a) :
    Finset (Idx (bufW.view.loc (thr d i))) := (winM bufW w hw).view.set

/-- A window free: its elements at whatever contents, its cell at zero, its share of the array. -/
def Free (d : Dev nD) (i : grid0.Coords) (xf : S40960000.Idx → F .f32) (q : PosShare TreeShare) (sem : DmaSems sig S_) (w : Nat)
    (hw : ∀ a, (![w] : Fin 1 → Nat) a + S16384.size a ≤ S65536.size a) : sProp (MM F) :=
  iprop((∃ f, bufW.view.loc (thr d i) ↦[winSet d i w hw]{fullShare} f) ∗ semVal (thr d i, .dma sem.sem) 0 ∗ (xW.view.loc (thr d i) ↦{q} xf))

/-- A window whose chunk `n` is on its way, if there is a chunk `n` at all; otherwise free. -/
def Infl (d : Dev nD) (i : grid0.Coords) (xf : S40960000.Idx → F .f32) (a N : Nat) (q : PosShare TreeShare) (sem : DmaSems sig S_) (w : Nat)
    (hw : ∀ a, (![w] : Fin 1 → Nat) a + S16384.size a ≤ S65536.size a) (n : Nat) : sProp (MM F) :=
  if n < N then
    iprop(∃ Sr : Finset (Idx (xW.view.loc (thr d i))),
      Fly d i sem (winM bufW w hw).view.dmaCredit
        iprop((∃ f, ⌜Holds xf f w (chunkAt a n)⌝ ∗ bufW.view.loc (thr d i) ↦[winSet d i w hw]{fullShare} f) ∗ (xW.view.loc (thr d i) ↦[Sr]{q} xf))
      ∗ (xW.view.loc (thr d i) ↦[Finset.univ \ Sr]{q} xf))
  else Free d i xf q sem w hw

theorem holds_written {xf : S40960000.Idx → F .f32} {fd : S65536.Idx → F .f32} {w p : Nat} {hw : ∀ a, (![w] : Fin 1 → Nat) a + S16384.size a ≤ S65536.size a}
    {o : Fin 1 → Nat} {ho : ∀ a, o a + S16384.size a ≤ S40960000.size a} (h : o = ![p]) :
    Holds xf ((winM bufW w hw).view.write (Elt F) fd ((srcM xW o ho).view.read (Elt F) xf) Finset.univ) w p := by
  subst h
  intro j hj
  have hw' : w + 16384 ≤ 65536 := hw 0
  have hp' : p + 16384 ≤ 40960000 := ho 0
  have hx := View.write_emb_of_mem (v := (winM bufW w hw).view) (Val := Elt F) fd ((srcM xW ![p] ho).view.read (Elt F) xf) (M := Finset.univ)
    (x := fun a => ⟨j, by rw [Fin.eq_zero a]; exact hj⟩) (Finset.mem_univ _)
  have e1 : (winM bufW w hw).view.emb (fun a => ⟨j, by rw [Fin.eq_zero a]; exact hj⟩) = (fun a => ⟨(w + j) % 65536, by rw [Fin.eq_zero a]; exact Nat.mod_lt _ (by decide)⟩ : S65536.Idx) := by
    funext a
    rw [Fin.eq_zero a]
    exact Fin.ext (by show w + 1 * j = (w + j) % 65536; rw [Nat.mod_eq_of_lt (by omega)]; omega)
  rw [e1] at hx
  unfold atN
  refine hx.trans ?_
  show xf ((srcM xW ![p] ho).view.emb _) = xf _
  refine congrArg xf (funext fun a => ?_)
  rw [Fin.eq_zero a]
  exact Fin.ext (by show p + 1 * j = (p + j) % 40960000; rw [Nat.mod_eq_of_lt (by omega)]; omega)

/-- Starting the fetch of chunk `n` into a free window, if there is such a chunk. -/
theorem wp_issue (xf : S40960000.Idx → F .f32) (a N n : Nat) (q : PosShare TreeShare) (sem : DmaSems sig S_) (w : Nat)
    (hw : ∀ a, (![w] : Fin 1 → Nat) a + S16384.size a ≤ S65536.size a) {c : BitVec 1} {o : Fin 1 → Nat}
    {ho : c = 1#1 → ∀ a, o a + S16384.size a ≤ S40960000.size a} {α : Type} {k : PR F i α} {Q : α → sProp (MM F)}
    (hc : c = 1#1 ↔ n < N) (he : o = ![chunkAt a n]) :
    (Free d i xf q sem w hw : sProp (MM F))
      ⊢ iprop((Infl d i xf a N q sem w hw n -∗ WP d i k Q) -∗ WP d i (issueP i xW bufW sem c w hw o ho k) Q) := by
  unfold issueP Infl
  by_cases h : n < N
  · have hc1 := hc.mpr h
    rw [if_pos h]
    simp only [dif_pos hc1]
    unfold Free
    iintro ⟨⟨%fd, Hb⟩, Hv, Hx⟩ Hk
    ihave Hx2 := ((pointsTo_split_subset (Finset.subset_univ (srcM xW o (ho hc1)).view.set)).1) $$ Hx
    icases Hx2 with ⟨Hx1, Hx2⟩
    iapply (wp_dma (d := d) (i := i) (srcM xW o (ho hc1)) (winM bufW w hw) sem (q := q) (fs := xf) (Sd := winSet d i w hw) (fd := fd) (by decide) (Finset.Subset.refl _)) $$ [Hx1 Hb Hv]
    · isplitl [Hx1]; · iexact Hx1
      isplitl [Hb]; · iexact Hb
      iexact Hv
    iintro Hf
    iapply Hk
    iexists (srcM xW o (ho hc1)).view.set
    isplitl [Hf]
    · iapply (Transfers.Flight_mono EC (thr d i) ?_) $$ Hf
      iintro ⟨Hb, Hx⟩
      isplitl [Hb]
      · iexists ((winM bufW w hw).view.write (Elt F) fd ((srcM xW o (ho hc1)).view.read (Elt F) xf) Finset.univ)
        isplitr
        · ipureintro
          exact holds_written he
        · iexact Hb
      · iexact Hx
    · iexact Hx2
  · have hc0 : ¬ c = 1#1 := fun hh => h (hc.mp hh)
    rw [if_neg h]
    simp only [dif_neg hc0]
    iintro H Hk
    iapply Hk
    iexact H

/-- Wait for a chunk if there is one. -/
def awaitP (i : grid0.Coords) (x : Memref sig .scVector .hbm S40960000 .f32) (buf : Memref sig .scVector .vmem S65536 .f32) (sem : DmaSems sig S_)
    (c : BitVec 1) (w : Nat) (hw : ∀ a, (![w] : Fin 1 → Nat) a + S16384.size a ≤ S65536.size a) {α : Type} (k : PR F i α) : PR F i α := do
  if c = 1#1 then do
    Prog.lift (.waitDma2 sem.sem (srcM x ![0] inb_S40960000_S16384_0) (winM buf w hw) (View.wordExact_bits rfl) (View.wordExact_bits rfl))
    pure ⟨⟩
  else do
    pure ⟨⟩
  k

theorem slotP_eq (x : Memref sig .scVector .hbm S40960000 .f32) (buf : Memref sig .scVector .vmem S65536 .f32) (semI semW : DmaSems sig S_)
    (ci cw : BitVec 1) (wi ww : Nat) (hwi : ∀ a, (![wi] : Fin 1 → Nat) a + S16384.size a ≤ S65536.size a) (hww : ∀ a, (![ww] : Fin 1 → Nat) a + S16384.size a ≤ S65536.size a)
    (o : Fin 1 → Nat) (ho : ci = 1#1 → ∀ a, o a + S16384.size a ≤ S40960000.size a)
    (body : Fin segLoop.trips → Unit → PR F i Unit) {α : Type} (k : PR F i α) :
    slotP i x buf semI semW ci cw wi ww hwi hww o ho body k
      = issueP i x buf semI ci wi hwi o ho (awaitP i x buf semW cw ww hww (Scf.Loop.for segLoop segLoop_ok ⟨⟩ body >>= fun _ => k)) := rfl

/-- Waiting for chunk `n`, if there is such a chunk. -/
theorem wp_await (xf : S40960000.Idx → F .f32) (a N n : Nat) (q : PosShare TreeShare) (sem : DmaSems sig S_) (w : Nat)
    (hw : ∀ a, (![w] : Fin 1 → Nat) a + S16384.size a ≤ S65536.size a) {c : BitVec 1} {O : CellTallies nD τ sig (HIx 1)} {W : Waits sig (HIx 1)}
    {α : Type} {k : PR F i α} {Q : α → sProp (MM F)} (hc : c = 1#1 ↔ n < N) :
    (iprop(Transfers.MayWaits (thr d i) (none : HIx 1) O ∗ Infl d i xf a N q sem w hw n ∗ Owe d i O W) : sProp (MM F))
      ⊢ iprop((iprop((∃ f, ⌜n < N → Holds xf f w (chunkAt a n)⌝ ∗ bufW.view.loc (thr d i) ↦[winSet d i w hw]{fullShare} f)
            ∗ semVal (thr d i, .dma sem.sem) 0 ∗ (xW.view.loc (thr d i) ↦{q} xf) ∗ Owe d i O W) -∗ WP d i k Q)
        -∗ WP d i (awaitP i xW bufW sem c w hw k) Q) := by
  unfold Infl awaitP
  by_cases h : n < N
  · have hc1 := hc.mpr h
    rw [if_pos h]
    simp only [if_pos hc1]
    iintro ⟨Hmw, ⟨%Sr, Hf, Hx⟩, HO⟩ Hk
    iapply (wp_wt (d := d) (i := i) (sp'' := .hbm) (dst := winM bufW w hw) sem (Dl := iprop((∃ f, ⌜Holds xf f w (chunkAt a n)⌝ ∗ bufW.view.loc (thr d i) ↦[winSet d i w hw]{fullShare} f) ∗ (xW.view.loc (thr d i) ↦[Sr]{q} xf))) (O := O) (W := W) rfl) $$ [Hmw Hf HO]
    · isplitl [Hmw]; · iexact Hmw
      isplitl [Hf]; · iexact Hf
      iexact HO
    iintro ⟨⟨⟨%f, %hf, Hb⟩, Hx2⟩, Hv, HO⟩
    iapply Hk
    isplitl [Hb]
    · iexists f
      isplitr
      · ipureintro; exact fun _ => hf
      · iexact Hb
    isplitl [Hv]; · iexact Hv
    isplitl [Hx Hx2]
    · iapply ((pointsTo_split_subset (Finset.subset_univ Sr)).2)
      isplitl [Hx2]; · iexact Hx2
      iexact Hx
    iexact HO
  · have hc0 : ¬ c = 1#1 := fun hh => h (hc.mp hh)
    rw [if_neg h]
    simp only [if_neg hc0]
    unfold Free
    iintro ⟨Hmw, ⟨⟨%f, Hb⟩, Hv, Hx⟩, HO⟩ Hk
    iapply Hk
    isplitl [Hb]
    · iexists f
      isplitr
      · ipureintro; exact fun hh => absurd hh h
      · iexact Hb
    isplitl [Hv]; · iexact Hv
    isplitl [Hx]; · iexact Hx
    iexact HO

/-! ## A turn -/

/-- The first `b` segments' ends lie at or before the subcore's last row. -/
def InRange (H : IV) : Prop := ∀ l, l ≤ 8 → (laneW H l).toNat ≤ (laneW H 8).toNat

/-- The rows of the flat array. -/
def xRows (xf : S40960000.Idx → F .f32) (n : Nat) : Fin 8 → FV F := rowAt (atN (n := 40960000) xf) (n * 128)

/-- The segments' vectors after the first `n` chunks of a subcore whose rows begin at `a`. -/
def accTo (ws : Fin 8 → FV F) (bv : FV F) (xf : S40960000.Idx → F .f32) (a : Nat) (H : IV) (A : Fin 8 → Fin 16 → FV F) : Nat → Fin 8 → Fin 16 → FV F
  | 0 => A
  | n + 1 => chunkTo ws bv (xRows xf) (a + 128 * n) H (accTo ws bv xf a H A n) 8

theorem winRow_eq {xf : S40960000.Idx → F .f32} {f : S65536.Idx → F .f32} {o a n r : Nat} (hf : Holds xf f o (chunkAt a n)) (h1 : a + 128 * n ≤ r)
    (h2 : r < a + 128 * n + 128) (h3 : r < 320000) : winRow f o (a + 128 * n) r = xRows xf r := by
  funext j l
  have hj := j.isLt
  have hl : (l 0).val < 16 := (l 0).isLt
  show atN (n := 65536) f (placeOf o (a + 128 * n) r + 16 * j.val + (l 0).val) = atN (n := 40960000) xf (r * 128 + 16 * j.val + (l 0).val)
  have := hf ((r - min (a + 128 * n) 319872) * 128 + 16 * j.val + (l 0).val) (by omega)
  have e1 : placeOf o (a + 128 * n) r + 16 * j.val + (l 0).val = o + ((r - min (a + 128 * n) 319872) * 128 + 16 * j.val + (l 0).val) := by
    unfold placeOf; omega
  have e2 : r * 128 + 16 * j.val + (l 0).val = chunkAt a n + ((r - min (a + 128 * n) 319872) * 128 + 16 * j.val + (l 0).val) := by
    unfold chunkAt; omega
  rw [e1, e2]
  exact this

theorem chunk_congr {ws : Fin 8 → FV F} {bv : FV F} {xf : S40960000.Idx → F .f32} {f : S65536.Idx → F .f32} {o a b n : Nat} {H : IV}
    (hb : (laneW H 8).toNat = b) (hb' : b ≤ 320000) (hR : InRange H) (hf : n < nchN a b → Holds xf f o (chunkAt a n)) (A : Fin 8 → Fin 16 → FV F) :
    chunkTo ws bv (winRow f o (a + 128 * n)) (a + 128 * n) H A 8 = chunkTo ws bv (xRows xf) (a + 128 * n) H A 8 := by
  funext r
  unfold chunkTo
  rw [if_pos r.isLt, if_pos r.isLt]
  refine rowsFold_congr fun k h1 h2 => ?_
  have hr := hR (r.val + 1) (by omega)
  rw [hb] at hr
  unfold cntOf at h2
  have h3 : k < (laneW H (r.val + 1)).toNat ∧ k < a + 128 * n + 128 ∧ a + 128 * n ≤ k := by omega
  refine winRow_eq (hf ?_) h3.2.2 h3.2.1 (by omega)
  unfold nchN
  omega

/-- The window's elements contain every lane vector that lies in it. -/
theorem vec_in_win {o : Nat} {hw : ∀ a, (![o] : Fin 1 → Nat) a + S16384.size a ≤ S65536.size a} (p : Fin 1 → Nat) (hi : ∀ a, p a + S16.size a ≤ S65536.size a)
    (h1 : o ≤ p 0) (h2 : p 0 + 16 ≤ o + 16384) : (bufW.access (Rect.unit (s := S65536) p S16.size hi)).set ⊆ winSet d i o hw := by
  intro y hy
  have hw' : o + 16384 ≤ 65536 := hw 0
  obtain ⟨x, -, hx⟩ := Finset.mem_map.mp hy
  have hx0 : (x 0).val < 16 := (x 0).isLt
  have hy0 : p 0 + 1 * (x 0).val = (y 0).val := congrArg (fun z : S65536.Idx => (z 0).val) hx
  have hz : (y 0).val - o < 16384 := by omega
  refine Finset.mem_map.mpr ⟨fun a => ⟨(y 0).val - o, by rw [Fin.eq_zero a]; exact hz⟩, Finset.mem_univ _, funext fun a => ?_⟩
  rw [Fin.eq_zero a]
  exact Fin.ext (by show o + 1 * ((y 0).val - o) = (y 0).val; omega)

/-- One turn of a chunk buffer: the free window takes chunk `n'`, the window of chunk `n` is walked and left free. -/
theorem wp_slot {ws : Fin 8 → FV F} {bv : FV F} {H : IV} (xf : S40960000.Idx → F .f32) (a b n n' : Nat) (hH : ∀ l, (H l).toNat ≤ 320000)
    (ha : (laneW H 0).toNat = a) (hb : (laneW H 8).toNat = b) (qi qw : PosShare TreeShare) (semI semW : DmaSems sig S_) (wi ww : Nat)
    (hwi : ∀ a, (![wi] : Fin 1 → Nat) a + S16384.size a ≤ S65536.size a) (hww : ∀ a, (![ww] : Fin 1 → Nat) a + S16384.size a ≤ S65536.size a)
    {ci cw : BitVec 1} {o : Fin 1 → Nat} {ho : ci = 1#1 → ∀ a, o a + S16384.size a ≤ S40960000.size a}
    (hci : ci = 1#1 ↔ n' < nchN a b) (hcw : cw = 1#1 ↔ n < nchN a b) (he : o = ![chunkAt a n'])
    {boff ts : W} (hbo : boff.toNat = ww) (hts : ts.toNat = a + 128 * n) (ht' : a + 128 * n ≤ 1000000) {dk : ∀ sb se, Decidable (chkSeg boff ts (coffW ts) sb se)} {dc dc'}
    {O : CellTallies nD τ sig (HIx 1)} {W : Waits sig (HIx 1)} (A : Fin 8 → Fin 16 → FV F) {α : Type} {k : PR F i α} {Q : α → sProp (MM F)} :
    (iprop(Transfers.MayWaits (thr d i) (none : HIx 1) O ∗ Free d i xf qi semI wi hwi ∗ Infl d i xf a (nchN a b) qw semW ww hww n
        ∗ (offW.view.loc (thr d i) ↦{fullShare} offC H) ∗ (∃ g, shfW.view.loc (thr d i) ↦{fullShare} g)
        ∗ (∃ B, ⌜InRange H → B = accTo ws bv xf a H A n⌝ ∗ stgW.view.loc (thr d i) ↦{fullShare} stageOf B) ∗ Owe d i O W) : sProp (MM F))
      ⊢ iprop((iprop(Infl d i xf a (nchN a b) qi semI wi hwi n' ∗ Free d i xf qw semW ww hww
            ∗ (offW.view.loc (thr d i) ↦{fullShare} offC H) ∗ (∃ g, shfW.view.loc (thr d i) ↦{fullShare} g)
            ∗ (∃ B, ⌜InRange H → B = accTo ws bv xf a H A (n + 1)⌝ ∗ stgW.view.loc (thr d i) ↦{fullShare} stageOf B) ∗ Owe d i O W) -∗ WP d i k Q)
        -∗ WP d i (slotP i xW bufW semI semW ci cw wi ww hwi hww o ho (fun (k : Fin segLoop.trips) (_ : Unit) => segP i bufW offW shfW stgW ws bv iotaV boff ts (coffW ts)
            (offAt k) (offAt_inb k) (offNext k) (offNext_inb k) (fun j => stageOff k (16 * j.val)) (stageOff_inb k) dk dc dc') k) Q) := by
  have hww' : ww + 16384 ≤ 65536 := hww 0
  have hb' : b ≤ 320000 := hb ▸ laneW_le hH 8
  rw [slotP_eq]
  iintro ⟨#Hmw, Hfr, Hin, Hoff, Hsh, ⟨%B, %hB, Hst⟩, HO⟩ Hk
  iapply (wp_issue (d := d) (i := i) xf a (nchN a b) n' qi semI wi hwi hci he) $$ Hfr
  iintro Hfr
  iapply (wp_await (d := d) (i := i) xf a (nchN a b) n qw semW ww hww (O := O) (W := W) hcw) $$ [Hin HO]
  · isplitr; · iexact Hmw
    isplitl [Hin]; · iexact Hin
    iexact HO
  iintro ⟨⟨%f, %hf, Hb⟩, Hv, Hx, HO⟩
  iapply (wp_seq (d := d) (i := i))
  iapply (wp_post (d := d) (i := i))
  isplitl [Hoff Hb Hsh Hst]
  · iapply (wp_segs (d := d) (i := i) (dk := dk) (dc := dc) (dc' := dc') hH hbo (by omega) hts ht' (S := winSet d i ww hww) (q := fullShare) (f := f) B
      (fun p hi h1 h2 => vec_in_win p hi h1 h2))
    isplitl [Hoff]; · iexact Hoff
    isplitl [Hb]; · iexact Hb
    isplitl [Hsh]; · iexact Hsh
    iexact Hst
  iintro %_ ⟨Hoff, Hb, Hsh, Hst⟩
  iapply Hk
  isplitl [Hfr]; · iexact Hfr
  isplitl [Hb Hv Hx]
  · unfold Free
    isplitl [Hb]; · iexists f; iexact Hb
    isplitl [Hv]; · iexact Hv
    iexact Hx
  isplitl [Hoff]; · iexact Hoff
  isplitl [Hsh]; · iexact Hsh
  isplitl [Hst]
  · iexists (chunkTo ws bv (winRow f ww (a + 128 * n)) (a + 128 * n) H B 8)
    isplitr
    · ipureintro
      intro hR
      rw [hB hR]
      exact chunk_congr hb hb' hR hf _
    · iexact Hst
  iexact HO

end Cert.Proof.Tile
-- ==== Proof.Ring.lean ====
/-
  The ring loop: a trip is four turns, and after the last trip every window is free and the stage holds the segments'
  vectors after all the chunks.
-/
module

public import proofs.«01_k».proof.Proof.Slot

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {d : Dev nD} {i : grid0.Coords}

/-- What the ring loop keeps: the first three windows have their chunks on the way, the fourth is free; the stage holds
    the segments' vectors after the chunks walked so far, provided the search's words are in order. -/
def Ring (d : Dev nD) (i : grid0.Coords) (ws : Fin 8 → FV F) (bv : FV F) (xf : S40960000.Idx → F .f32) (a N : Nat) (H : IV) (A : Fin 8 → Fin 16 → FV F)
    (q0 q1 q2 q3 : PosShare TreeShare) (O : CellTallies nD τ sig (HIx 1)) (W : Waits sig (HIx 1)) (n : Nat) : sProp (MM F) :=
  iprop(Infl d i xf a N q0 cc0_scratch9 0 inb_S65536_S16384_0 n ∗ Infl d i xf a N q1 cc0_scratch10 16384 inb_S65536_S16384_16384 (n + 1)
    ∗ Infl d i xf a N q2 cc0_scratch11 32768 inb_S65536_S16384_32768 (n + 2) ∗ Free d i xf q3 cc0_scratch12 49152 inb_S65536_S16384_49152
    ∗ (offW.view.loc (thr d i) ↦{fullShare} offC H) ∗ (∃ g, shfW.view.loc (thr d i) ↦{fullShare} g)
    ∗ (∃ B, ⌜InRange H → B = accTo ws bv xf a H A n⌝ ∗ stgW.view.loc (thr d i) ↦{fullShare} stageOf B) ∗ Owe d i O W)

/-- A trip of the ring loop.  -/
theorem wp_trip {v4 v6 v8 v10 v12 v14 v16 v18 v20 : FV F} {H : IV} (xf : S40960000.Idx → F .f32) (a b : Nat) (hH : ∀ l, (H l).toNat ≤ 320000) {v37 v41 : W}
    (e37 : v37 = laneW H 0) (e41 : v41 = laneW H 8) (ha : v37.toNat = a) (hb : v41.toNat = b) (A : Fin 8 → Fin 16 → FV F)
    (q0 q1 q2 q3 : PosShare TreeShare) (O : CellTallies nD τ sig (HIx 1)) (W : Waits sig (HIx 1)) (hw : k0_chk1 v37 v41) (t : Fin (k0_t2_loop v37 v41).trips) (u : Unit) :
    (iprop(Transfers.MayWaits (thr d i) (none : HIx 1) O ∗ Ring d i ![v4, v6, v8, v10, v12, v14, v16, v18] v20 xf a (nchN a b) H A q0 q1 q2 q3 O W (4 * t.val)) : sProp (MM F))
      ⊢ WP d i (k0_t2_body i xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2 v4 v6 v8 v10 v12 v14 v16 v18 v20 iotaV v37 v41 hw (nchW v37 v41) t u)
        fun _ => Ring d i ![v4, v6, v8, v10, v12, v14, v16, v18] v20 xf a (nchN a b) H A q0 q1 q2 q3 O W (4 * (t.val + 1)) := by
  have ha8 : (laneW H 0).toNat = a := e37 ▸ ha
  have hb8 : (laneW H 8).toNat = b := e41 ▸ hb
  have ha' : a ≤ 320000 := ha8 ▸ laneW_le hH 0
  have hb' : b ≤ 320000 := hb8 ▸ laneW_le hH 8
  have ht := t2_lt ha hb ha' hb' t
  unfold k0_t2_body Ring
  rw [p26_eq]
  iintro ⟨#Hmw, H0, H1, H2, H3, Hoff, Hsh, Hst, HO⟩
  iapply (wp_seq (d := d) (i := i))
  iapply (wp_seq (d := d) (i := i))
  iapply (wp_slot (d := d) (i := i) (ws := ![v4, v6, v8, v10, v12, v14, v16, v18]) (bv := v20) (H := H) xf a b (4 * t.val) (4 * t.val + 0 + 3) hH ha8 hb8 q3 q0 cc0_scratch12 cc0_scratch9 49152 0 inb_S65536_S16384_49152 inb_S65536_S16384_0
    (cond4_iff ha hb ha' hb' t) (cond_this ha hb ha' hb' t (c := 0) (by decide)) (off4_eq ha hb ha' hb' t) (boff := 0#32) (ts := tsW v37 (ciW t 0#32)) rfl (ts_this ha hb ha' hb' t (c := 0) (by decide)) (by omega)
    (dk := fun sb se => k0_chk2.dec v37 v41 t sb se) (dc := fun sb se ix => k0_chk3.dec v37 v41 t sb se ix) (dc' := fun sb se ix => k0_chk7.dec v37 v41 t sb se ix) (O := O) (W := W) A) $$ [H3 H0 Hoff Hsh Hst HO]
  · isplitr; · iexact Hmw
    isplitl [H3]; · iexact H3
    isplitl [H0]; · iexact H0
    isplitl [Hoff]; · iexact Hoff
    isplitl [Hsh]; · iexact Hsh
    isplitl [Hst]; · iexact Hst
    iexact HO
  iintro ⟨H3, H0, Hoff, Hsh, Hst, HO⟩
  iapply (wp_slot (d := d) (i := i) (ws := ![v4, v6, v8, v10, v12, v14, v16, v18]) (bv := v20) (H := H) xf a b (4 * t.val + 1) (4 * t.val + 1 + 3) hH ha8 hb8 q0 q1 cc0_scratch9 cc0_scratch10 0 16384 inb_S65536_S16384_0 inb_S65536_S16384_16384
    (cond7_iff ha hb ha' hb' t) (cond_this ha hb ha' hb' t (c := 1) (by decide)) (off25_eq ha hb ha' hb' t) (boff := 16384#32) (ts := tsW v37 (ciW t 1#32)) rfl (ts_this ha hb ha' hb' t (c := 1) (by decide)) (by omega)
    (dk := fun sb se => k0_chk11.dec v37 v41 t sb se) (dc := fun sb se ix => k0_chk12.dec v37 v41 t sb se ix) (dc' := fun sb se ix => k0_chk16.dec v37 v41 t sb se ix) (O := O) (W := W) A) $$ [H0 H1 Hoff Hsh Hst HO]
  · isplitr; · iexact Hmw
    isplitl [H0]; · iexact H0
    isplitl [H1]; · iexact H1
    isplitl [Hoff]; · iexact Hoff
    isplitl [Hsh]; · iexact Hsh
    isplitl [Hst]; · iexact Hst
    iexact HO
  iintro ⟨H0, H1, Hoff, Hsh, Hst, HO⟩
  iapply (wp_end (d := d) (i := i))
  iapply (wp_slot (d := d) (i := i) (ws := ![v4, v6, v8, v10, v12, v14, v16, v18]) (bv := v20) (H := H) xf a b (4 * t.val + 2) (4 * t.val + 2 + 3) hH ha8 hb8 q1 q2 cc0_scratch10 cc0_scratch11 16384 32768 inb_S65536_S16384_16384 inb_S65536_S16384_32768
    (cond10_iff ha hb ha' hb' t) (cond_this ha hb ha' hb' t (c := 2) (by decide)) (off46_eq ha hb ha' hb' t) (boff := 32768#32) (ts := tsW v37 (ciW t 2#32)) rfl (ts_this ha hb ha' hb' t (c := 2) (by decide)) (by omega)
    (dk := fun sb se => k0_chk20.dec v37 v41 t sb se) (dc := fun sb se ix => k0_chk21.dec v37 v41 t sb se ix) (dc' := fun sb se ix => k0_chk25.dec v37 v41 t sb se ix) (O := O) (W := W) A) $$ [H1 H2 Hoff Hsh Hst HO]
  · isplitr; · iexact Hmw
    isplitl [H1]; · iexact H1
    isplitl [H2]; · iexact H2
    isplitl [Hoff]; · iexact Hoff
    isplitl [Hsh]; · iexact Hsh
    isplitl [Hst]; · iexact Hst
    iexact HO
  iintro ⟨H1, H2, Hoff, Hsh, Hst, HO⟩
  iapply (wp_slot (d := d) (i := i) (ws := ![v4, v6, v8, v10, v12, v14, v16, v18]) (bv := v20) (H := H) xf a b (4 * t.val + 3) (4 * t.val + 3 + 3) hH ha8 hb8 q2 q3 cc0_scratch11 cc0_scratch12 32768 49152 inb_S65536_S16384_32768 inb_S65536_S16384_49152
    (cond13_iff ha hb ha' hb' t) (cond_this ha hb ha' hb' t (c := 3) (by decide)) (off67_eq ha hb ha' hb' t) (boff := 49152#32) (ts := tsW v37 (ciW t 3#32)) rfl (ts_this ha hb ha' hb' t (c := 3) (by decide)) (by omega)
    (dk := fun sb se => k0_chk29.dec v37 v41 t sb se) (dc := fun sb se ix => k0_chk30.dec v37 v41 t sb se ix) (dc' := fun sb se ix => k0_chk34.dec v37 v41 t sb se ix) (O := O) (W := W) A) $$ [H2 H3 Hoff Hsh Hst HO]
  · isplitr; · iexact Hmw
    isplitl [H2]; · iexact H2
    isplitl [H3]; · iexact H3
    isplitl [Hoff]; · iexact Hoff
    isplitl [Hsh]; · iexact Hsh
    isplitl [Hst]; · iexact Hst
    iexact HO
  iintro ⟨H2, H3, Hoff, Hsh, Hst, HO⟩
  iapply (wp_end (d := d) (i := i))
  iapply (wp_end (d := d) (i := i))
  isplitl [H0]; · iexact H0
  isplitl [H1]; · iexact H1
  isplitl [H2]; · iexact H2
  isplitl [H3]; · iexact H3
  isplitl [Hoff]; · iexact Hoff
  isplitl [Hsh]; · iexact Hsh
  isplitl [Hst]; · iexact Hst
  iexact HO

end Cert.Proof.Tile
-- ==== Proof.Search.lean ====
/-
  The start of a subcore's program: the weights and the bias fetched and read, and the binary search for its segments'
  first rows.
-/
module

public import proofs.«01_k».proof.Proof.Ring

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {d : Dev nD} {i : grid0.Coords}

/-! ## A probe -/

/-- The segment numbers a subcore's lanes search for. -/
def keyV (i : grid0.Coords) : IV :=
  addi (broadcast S16 (Scalar.muli (Scalar.addi (Scalar.muli (BitVec.ofNat 32 (i 1).val) 2#32) (BitVec.ofNat 32 (i 0).val)) 8#32)) iotaV

/-- The segment numbers as the probe's source. -/
abbrev idS : Memref sig .scVector .hbm S320000 .i32 := idW.slice (Rect.unit (s := S320000) ![0] S320000.size inb_S320000_S320000_0) (fun _ => rfl)

theorem idS_read (ids : S320000.Idx → W) : idS.view.read (Elt F) ids = ids := by
  funext x
  show ids _ = ids x
  refine congrArg ids (funext fun a => ?_)
  rw [Fin.eq_zero a]
  exact Fin.ext (by show 0 + 1 * (x 0).val = (x 0).val; omega)

theorem payload_eq (ids : S320000.Idx → W) (m : IV) (hin : ∀ x, (m x).toNat < S320000.size gathers_S320000_S16.axis) :
    SparseCore.gatherPayload (F := F) (e := .i32) gathers_S320000_S16 ids (SparseCore.rows (F := F) (si := S16) m rfl hin) = probeV ids m := by
  funext x
  unfold SparseCore.gatherPayload probeV atN
  refine congrArg ids (funext fun a => ?_)
  rw [Fin.eq_zero a]
  refine Fin.ext ?_
  unfold Shape.Gathers.idx
  refine (congrArg Fin.val (dif_pos rfl)).trans ?_
  have hx : (S16.rowMajor.symm (((x gathers_S320000_S16.axis').cast rfl : Fin S16.numel))) = x := by
    rw [Equiv.symm_apply_eq]
    refine Fin.ext ?_
    rw [Shape.rowMajor_val_one]
    rfl
  show (m (S16.rowMajor.symm _)).toNat = (m x).toNat % 320000
  have hlt : (m x).toNat < 320000 := hin x
  rw [Nat.mod_eq_of_lt hlt]
  exact congrArg (fun y => (m y).toNat) hx

theorem wp_probe {q : PosShare TreeShare} {ids : S320000.Idx → W} {m : IV} (hin : ∀ l, (m l).toNat < 320000) {α : Type} {k : PUnit → PR F i α} {Q : α → sProp (MM F)}
    {O : CellTallies nD τ sig (HIx 1)} {W₀ : Waits sig (HIx 1)} {f : Buf (Elt F) (prbW.view.loc (thr d i))} :
    (iprop(Transfers.MayWaits (thr d i) (none : HIx 1) O ∗ (idW.view.loc (thr d i) ↦{q} ids) ∗ (prbW.view.loc (thr d i) ↦{fullShare} f) ∗ (midW.view.loc (thr d i) ↦{fullShare} m)
        ∗ semVal (thr d i, .dma cc0_scratch8.sem) 0 ∗ Owe d i O W₀) : sProp (MM F))
      ⊢ iprop((iprop((idW.view.loc (thr d i) ↦{q} ids) ∗ (prbW.view.loc (thr d i) ↦{fullShare} probeV ids m) ∗ (midW.view.loc (thr d i) ↦{fullShare} m)
            ∗ semVal (thr d i, .dma cc0_scratch8.sem) 0 ∗ Owe d i O W₀) -∗ WP d i (k ⟨⟩) Q)
        -∗ WP d i (SparseCore.enqueueIndirectGather rfl idS prbW gathers_S320000_S16 midW rfl cc0_scratch8.sem (View.wordExact_bits rfl) rfl (Or.inl rfl) >>= fun _ =>
            SparseCore.waitIndirectGather cc0_scratch8.sem idS prbW (View.wordExact_bits rfl) (Memref.isWhole_whole _).wordExact >>= k) Q) := by
  have hin' : ∀ x, (midW.view.read (Elt F) m x).toNat < S320000.size gathers_S320000_S16.axis := hin
  have hN := SparseCore.sum_rowCredit_eq_dmaCredit (sig := sig) (e := .i32) (prbW : Memref sig .scVector .vmem S16 .i32) gathers_S320000_S16.axis' (fun _ => rfl)
  iintro ⟨#Hmw, Hid, Hp, Hm, Hv, HO⟩ Hk
  ihave Hid2 := ((pointsTo_split_subset (Finset.subset_univ (idS.view.set))).1) $$ Hid
  icases Hid2 with ⟨Hid1, Hid2⟩
  have key := SparseCore.wp_indirectGatherLocal (defs := defs₀ (F := F)) (EC (F := F)) 𝒱₀ (thr d i) none (Q := Q) (src := idS) (dst := prbW) (hg := gathers_S320000_S16) (offs := midW) (hn := rfl)
    (sem := cc0_scratch8.sem) (hp := rfl) (hsrc := View.wordExact_bits rfl) (he := rfl) (hsp := Or.inl rfl) (hr := by decide)
    (k := fun _ => SparseCore.waitIndirectGather cc0_scratch8.sem idS prbW (View.wordExact_bits rfl) (Memref.isWhole_whole _).wordExact >>= k)
    (q := q) (qo := fullShare) (fs := ids) (fd := f) (fo := m) (none : HIx 1) _ hN (by decide) hin'
  have hset : (prbW.view.set : Finset (Idx (prbW.view.loc (thr d i)))) = Finset.univ := View.set_whole _
  have hset' : (midW.view.set : Finset (Idx (midW.view.loc (thr d i)))) = Finset.univ := View.set_whole _
  have hw : prbW.view.write (Elt F) f (SparseCore.gatherPayload gathers_S320000_S16 (idS.view.read (Elt F) ids)
      (SparseCore.rows (F := F) (si := S16) (midW.view.read (Elt F) m) rfl hin')) Finset.univ = probeV ids m := by
    rw [idS_read]
    exact (View.write_whole_univ _ _ _).trans (payload_eq (F := F) ids m hin')
  rw [hw, hset, hset'] at key
  unfold WP at *
  iapply key $$ [Hid1 Hp Hm Hv]
  · isplitl [Hid1]; · iexact Hid1
    isplitl [Hp]; · iexact Hp
    isplitl [Hm]; · iexact Hm
    iexact Hv
  iintro Hf
  have hwt := wp_wt (d := d) (i := i) (sp'' := .hbm) (src := idS) (dst := prbW) (hsrc := View.wordExact_bits rfl) (hdst := (Memref.isWhole_whole _).wordExact) cc0_scratch8
    (Dl := iprop((prbW.view.loc (thr d i) ↦{fullShare} probeV ids m) ∗ (idS.view.loc (thr d i) ↦[idS.view.set]{q} ids) ∗ (midW.view.loc (thr d i) ↦{fullShare} m)))
    (k := k) (Q := Q) (O := O) (W := W₀) rfl
  unfold WP at hwt
  iapply hwt $$ [Hf HO]
  · isplitr; · iexact Hmw
    isplitl [Hf]; · iexact Hf
    iexact HO
  iintro ⟨⟨Hp, Hid1, Hm⟩, Hv, HO⟩
  iapply Hk
  isplitl [Hid1 Hid2]
  · iapply ((pointsTo_split_subset (Finset.subset_univ (idS.view.set))).2)
    isplitl [Hid1]; · iexact Hid1
    iexact Hid2
  isplitl [Hp]; · iexact Hp
  isplitl [Hm]; · iexact Hm
  isplitl [Hv]; · iexact Hv
  iexact HO

/-! ## A round -/

theorem pay_eq (g lo hi v : IV) (hg : keyV i = g) : ((k0_pay897 (F := F) i lo hi v, k0_pay896 (F := F) i lo hi v) : IV × IV) = bsStep g v (lo, hi) := by
  subst hg
  have e : k0_pay894 (F := F) i v = cmpi .sge v (keyV i) := by
    show cmpi .sge (shapeCast S16 v shapeCasts_S16_S16) (keyV i) = _
    rw [shapeCast_self]
  unfold k0_pay897 k0_pay896 bsStep
  rw [e]
  rfl

/-- What the search's loop holds. -/
def SearchI (d : Dev nD) (i : grid0.Coords) (q : PosShare TreeShare) (ids : S320000.Idx → W) (O : CellTallies nD τ sig (HIx 1)) (W₀ : Waits sig (HIx 1)) : sProp (MM F) :=
  iprop((idW.view.loc (thr d i) ↦{q} ids) ∗ (∃ f, prbW.view.loc (thr d i) ↦{fullShare} f) ∗ (∃ f, midW.view.loc (thr d i) ↦{fullShare} f)
        ∗ semVal (thr d i, .dma cc0_scratch8.sem) 0 ∗ Owe d i O W₀)

/-- A round of the search. -/
theorem wp_round {q : PosShare TreeShare} {ids : S320000.Idx → W} {O : CellTallies nD τ sig (HIx 1)} {W₀ : Waits sig (HIx 1)} (n : Nat) (t : Fin k0_t1_loop.trips) :
    (iprop(Transfers.MayWaits (thr d i) (none : HIx 1) O ∗ SearchI d i q ids O W₀) : sProp (MM F))
      ⊢ WP d i (k0_t1_body i xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2 t (bs ids (keyV i) n)) fun r => iprop(⌜r = bs ids (keyV i) (n + 1)⌝ ∗ SearchI d i q ids O W₀) := by
  unfold SearchI k0_t1_body
  iintro ⟨#Hmw, Hid, ⟨%fp, Hp⟩, ⟨%fm, Hm⟩, Hv, HO⟩
  iapply (wp_ld (d := d) (i := i) midW (r := Rect.unit (s := S16) ![0] S16.size inb_S16_S16_0) (S := Finset.univ) (q := fullShare) (f := fm) (Finset.subset_univ _)) $$ Hm
  iintro Hm
  iapply (wp_st (d := d) (i := i) midW (r := Rect.unit (s := S16) ![0] S16.size inb_S16_S16_0) (f := fm)) $$ Hm
  rw [show (midW.access (Rect.unit (s := S16) ![0] S16.size inb_S16_S16_0)).write (Elt F) fm (k0_pay893 (bs ids (keyV i) n).1 (bs ids (keyV i) n).2) Finset.univ
      = midV (bs ids (keyV i) n).1 (bs ids (keyV i) n).2 from
    (Memref.write_access_unit_zero_univ (Elt F) cc0_scratch5 (by funext a; rw [Fin.eq_zero a]; rfl) _ _ _).trans (shapeCast_self _ _)]
  iintro Hm
  iapply (wp_probe (d := d) (i := i) (q := q) (ids := ids) (m := midV (bs ids (keyV i) n).1 (bs ids (keyV i) n).2) (mid_lt ids (keyV i) n) (O := O) (W₀ := W₀) (f := fp)) $$ [Hid Hp Hm Hv HO]
  · isplitr; · iexact Hmw
    isplitl [Hid]; · iexact Hid
    isplitl [Hp]; · iexact Hp
    isplitl [Hm]; · iexact Hm
    isplitl [Hv]; · iexact Hv
    iexact HO
  iintro ⟨Hid, Hp, Hm, Hv, HO⟩
  iapply (wp_ld (d := d) (i := i) prbW (r := Rect.unit (s := S16) ![0] S16.size inb_S16_S16_0) (S := Finset.univ) (q := fullShare) (f := probeV ids (midV (bs ids (keyV i) n).1 (bs ids (keyV i) n).2)) (Finset.subset_univ _)) $$ Hp
  iintro Hp
  iapply (wp_end (d := d) (i := i))
  isplitr
  · ipureintro
    rw [show (prbW.access (Rect.unit (s := S16) ![0] S16.size inb_S16_S16_0)).read (Elt F) (probeV ids (midV (bs ids (keyV i) n).1 (bs ids (keyV i) n).2))
        = probeV ids (midV (bs ids (keyV i) n).1 (bs ids (keyV i) n).2) from
      Memref.read_access_unit_zero (Elt F) cc0_scratch4 (by funext a; rw [Fin.eq_zero a]; rfl) _ _]
    exact pay_eq (F := F) _ _ _ _ rfl
  isplitl [Hid]; · iexact Hid
  isplitl [Hp]; · iexists _; iexact Hp
  isplitl [Hm]; · iexists _; iexact Hm
  isplitl [Hv]; · iexact Hv
  iexact HO

/-- The search: nineteen rounds. -/
theorem wp_search {q : PosShare TreeShare} {ids : S320000.Idx → W} {O : CellTallies nD τ sig (HIx 1)} {W₀ : Waits sig (HIx 1)} :
    (iprop(Transfers.MayWaits (thr d i) (none : HIx 1) O ∗ SearchI d i q ids O W₀) : sProp (MM F))
      ⊢ WP d i (Scf.Loop.for k0_t1_loop k0_t1_ok (k0_pay890, k0_pay891) (k0_t1_body i xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2))
          fun r => iprop(⌜r = bs ids (keyV i) 19⌝ ∗ SearchI d i q ids O W₀) := by
  have hb : ∀ (t : Fin k0_t1_loop.trips) (r : IV × IV), (iprop(⌜r = bs ids (keyV i) t.val⌝ ∗ Transfers.MayWaits (thr d i) (none : HIx 1) O ∗ SearchI d i q ids O W₀) : sProp (MM F))
      ⊢ WP d i (k0_t1_body i xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2 t r)
          fun r => iprop(⌜r = bs ids (keyV i) (t.val + 1)⌝ ∗ Transfers.MayWaits (thr d i) (none : HIx 1) O ∗ SearchI d i q ids O W₀) := by
    intro t r
    iintro ⟨%hr, #Hmw, H⟩
    rw [hr]
    iapply (wp_post (d := d) (i := i))
    isplitl [H]
    · iapply (wp_round (d := d) (i := i) (q := q) (ids := ids) (O := O) (W₀ := W₀) t.val t)
      isplitr; · iexact Hmw
      iexact H
    iintro %r' ⟨%hr', H⟩
    isplitr
    · ipureintro; exact hr'
    isplitr; · iexact Hmw
    iexact H
  iintro ⟨#Hmw, H⟩
  iapply (wp_loop (d := d) (i := i) (fun n r => iprop(⌜r = bs ids (keyV i) n⌝ ∗ Transfers.MayWaits (thr d i) (none : HIx 1) O ∗ SearchI d i q ids O W₀)) hb)
  isplitl [H]
  · isplitr
    · ipureintro; rfl
    isplitr; · iexact Hmw
    iexact H
  · rw [t1_trips]
    iintro %r ⟨%hr, Hmw, H⟩
    isplitr
    · ipureintro; exact hr
    iexact H

/-! ## The weights and the bias -/

/-- A copy of a whole buffer into a whole buffer, started and waited for. -/
theorem wp_fetch {sp sp' : Space} {s : Shape} {e : EltTy} (src : Memref sig .scVector sp s e) (dst : Memref sig .scVector sp' s e) (sem : DmaSems sig S_)
    {hsrc : src.view.WordExact} {hdst : dst.view.WordExact} {hsem : DmaTarget.Typed (nD := nD) sp (.dma sem.sem) (DmaTarget.here (p := (thr d i).2) dst)} {hsrc' : src.view.WordExact} {hdst' : dst.view.WordExact} {α : Type}
    {k : PUnit → PR F i α} {Q : α → sProp (MM F)} {q : PosShare TreeShare} {fs : Buf (Elt F) (src.view.loc (thr d i))} {g : Buf (Elt F) (dst.view.loc (thr d i))}
    {O : CellTallies nD τ sig (HIx 1)} {W₀ : Waits sig (HIx 1)} (hs : 0 < s.numel) (h1 : (src.view.set : Finset (Idx (src.view.loc (thr d i)))) = Finset.univ)
    (hw : ∀ fd : Buf (Elt F) (dst.view.loc (thr d i)), dst.view.write (Elt F) fd (src.view.read (Elt F) fs) Finset.univ = g) :
    (iprop(Transfers.MayWaits (thr d i) (none : HIx 1) O ∗ (src.view.loc (thr d i) ↦{q} fs) ∗ (∃ f, dst.view.loc (thr d i) ↦{fullShare} f)
        ∗ semVal (thr d i, .dma sem.sem) 0 ∗ Owe d i O W₀) : sProp (MM F))
      ⊢ iprop((iprop((src.view.loc (thr d i) ↦{q} fs) ∗ (dst.view.loc (thr d i) ↦{fullShare} g) ∗ semVal (thr d i, .dma sem.sem) 0 ∗ Owe d i O W₀) -∗ WP d i (k ⟨⟩) Q)
        -∗ WP d i (.op (.enqueueDma src (.here dst) (.dma sem.sem) hsrc hdst hsem) fun _ => .op (.waitDma2 sem.sem src dst hsrc' hdst') k) Q) := by
  iintro ⟨#Hmw, Hs, ⟨%fd, Hd⟩, Hv, HO⟩ Hk
  have key := wp_dma (d := d) (i := i) src dst sem (hsrc := hsrc) (hdst := hdst) (hsem := hsem) (k := fun _ => .op (.waitDma2 sem.sem src dst hsrc' hdst') k) (Q := Q) (q := q) (fs := fs)
    (Sd := Finset.univ) (fd := fd) hs (Finset.subset_univ _)
  rw [h1, hw fd] at key
  iapply key $$ [Hs Hd Hv]
  · isplitl [Hs]; · iexact Hs
    isplitl [Hd]; · iexact Hd
    iexact Hv
  iintro Hf
  iapply (wp_wt (d := d) (i := i) (sp'' := sp) (src := src) (dst := dst) sem (Dl := iprop((dst.view.loc (thr d i) ↦{fullShare} g) ∗ (src.view.loc (thr d i) ↦{q} fs))) (O := O) (W := W₀) rfl) $$ [Hf HO]
  · isplitr; · iexact Hmw
    isplitl [Hf]; · iexact Hf
    iexact HO
  iintro ⟨⟨Hd, Hs⟩, Hv, HO⟩
  iapply Hk
  isplitl [Hs]; · iexact Hs
  isplitl [Hd]; · iexact Hd
  isplitl [Hv]; · iexact Hv
  iexact HO

/-- The eight lane vectors of the weights. -/
def wsV (wf : S128.Idx → F .f32) : Fin 8 → FV F := rowAt (atN (n := 128) wf) 0

theorem wv_read (wf : S128.Idx → F .f32) (j : Fin 8) (off : Fin 1 → Nat) (inb : ∀ a, off a + S16.size a ≤ S128.size a) (ho : off = ![16 * j.val]) :
    shapeCast S16 ((wvW.access (Rect.unit (s := S128) off S16.size inb)).read (Elt F) wf) shapeCasts_S16_S16 = wsV wf j := by
  subst ho
  refine (shapeCast_self _ _).trans ?_
  funext l
  have hl : (l 0).val < 16 := (l 0).isLt
  have hj := j.isLt
  show wf ((Rect.unit (s := S128) ![16 * j.val] S16.size inb).emb l) = atN (n := 128) wf (0 + 16 * j.val + (l 0).val)
  unfold atN
  refine congrArg wf (funext fun a => ?_)
  rw [Fin.eq_zero a]
  exact Fin.ext (by show 16 * j.val + 1 * (l 0).val = (0 + 16 * j.val + (l 0).val) % 128; omega)

/-- The words the search leaves. -/
abbrev searchV (i : grid0.Coords) (ids : S320000.Idx → W) : IV := (bs ids (keyV i) 19).2

/-- The tuple of the weights, the bias, the lane numbers and the search's words. -/
def startT (i : grid0.Coords) (wf : S128.Idx → F .f32) (bf : FV F) (ids : S320000.Idx → W) :
    (Σ' (v4 : FVec F S16 .f32) (v6 : FVec F S16 .f32) (v8 : FVec F S16 .f32) (v10 : FVec F S16 .f32) (v12 : FVec F S16 .f32) (v14 : FVec F S16 .f32) (v16 : FVec F S16 .f32) (v18 : FVec F S16 .f32) (v20 : FVec F S16 .f32) (v21 : IVec S16 32), IVec S16 32) :=
  ⟨wsV wf 0, wsV wf 1, wsV wf 2, wsV wf 3, wsV wf 4, wsV wf 5, wsV wf 6, wsV wf 7, bf, iotaV, searchV i ids⟩

theorem startT_congr (i : grid0.Coords) (wf : S128.Idx → F .f32) (bf : FV F) (ids : S320000.Idx → W) {v0 v1 v2 v3 v4 v5 v6 v7 v8 : FV F} {h : IV} (h0 : v0 = wsV wf 0) (h1 : v1 = wsV wf 1) (h2 : v2 = wsV wf 2) (h3 : v3 = wsV wf 3) (h4 : v4 = wsV wf 4) (h5 : v5 = wsV wf 5) (h6 : v6 = wsV wf 6) (h7 : v7 = wsV wf 7) (h8 : v8 = bf) (h9 : h = searchV i ids) :
    (⟨v0, v1, v2, v3, v4, v5, v6, v7, v8, iotaV, h⟩ : (Σ' (v4 : FVec F S16 .f32) (v6 : FVec F S16 .f32) (v8 : FVec F S16 .f32) (v10 : FVec F S16 .f32) (v12 : FVec F S16 .f32) (v14 : FVec F S16 .f32) (v16 : FVec F S16 .f32) (v18 : FVec F S16 .f32) (v20 : FVec F S16 .f32) (v21 : IVec S16 32), IVec S16 32))
      = startT i wf bf ids := by
  subst h0 h1 h2 h3 h4 h5 h6 h7 h8 h9
  rfl

/-- The start: the weights and the bias are fetched and read, the search is made, its words are stored once. -/
theorem wp_start {q qw qb : PosShare TreeShare} {ids : S320000.Idx → W} {wf : S128.Idx → F .f32} {bf : FV F} {O : CellTallies nD τ sig (HIx 1)} {W₀ : Waits sig (HIx 1)} :
    (iprop(Transfers.MayWaits (thr d i) (none : HIx 1) O ∗ (wW.view.loc (thr d i) ↦{qw} wf) ∗ (bW.view.loc (thr d i) ↦{qb} bf)
        ∗ (∃ f, wvW.view.loc (thr d i) ↦{fullShare} f) ∗ (∃ f, bvW.view.loc (thr d i) ↦{fullShare} f) ∗ (∃ f, offW.view.loc (thr d i) ↦{fullShare} f)
        ∗ semVal (thr d i, .dma cc0_scoped0.sem) 0 ∗ semVal (thr d i, .dma cc0_scoped1.sem) 0 ∗ SearchI d i q ids O W₀) : sProp (MM F))
      ⊢ WP d i (k0_part53 i xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2)
        fun r => iprop(⌜r = startT i wf bf ids⌝ ∗ (wW.view.loc (thr d i) ↦{qw} wf) ∗ (bW.view.loc (thr d i) ↦{qb} bf)
          ∗ (∃ f, wvW.view.loc (thr d i) ↦{fullShare} f) ∗ (∃ f, bvW.view.loc (thr d i) ↦{fullShare} f)
          ∗ (∃ f, offW.view.loc (thr d i) ↦{fullShare} (offW.access (Rect.unit (s := S32) ![0] S16.size inb_S32_S16_0)).write (Elt F) f (searchV i ids) Finset.univ)
          ∗ semVal (thr d i, .dma cc0_scoped0.sem) 0 ∗ semVal (thr d i, .dma cc0_scoped1.sem) 0 ∗ SearchI d i q ids O W₀) := by
  rw [k0_part53_eq_skeleton]
  unfold k0_part53_skel
  iintro ⟨#Hmw, Hw, Hb, Hwv, Hbv, ⟨%fo, Hoff⟩, Hr0, Hr1, HS⟩
  unfold SearchI
  icases HS with ⟨Hid, Hp, Hm, Hv, HO⟩
  iapply (wp_fetch (d := d) (i := i) wW wvW cc0_scoped0 (q := qw) (fs := wf) (g := wf) (O := O) (W₀ := W₀) (by decide) (View.set_whole _)
    (fun fd => (View.write_whole_univ _ _ _).trans rfl)) $$ [Hw Hwv Hr0 HO]
  · isplitr; · iexact Hmw
    isplitl [Hw]; · iexact Hw
    isplitl [Hwv]; · iexact Hwv
    isplitl [Hr0]; · iexact Hr0
    iexact HO
  iintro ⟨Hw, Hwv, Hr0, HO⟩
  iapply (wp_fetch (d := d) (i := i) bW bvW cc0_scoped1 (q := qb) (fs := bf) (g := bf) (O := O) (W₀ := W₀) (by decide) (View.set_whole _)
    (fun fd => (View.write_whole_univ _ _ _).trans rfl)) $$ [Hb Hbv Hr1 HO]
  · isplitr; · iexact Hmw
    isplitl [Hb]; · iexact Hb
    isplitl [Hbv]; · iexact Hbv
    isplitl [Hr1]; · iexact Hr1
    iexact HO
  iintro ⟨Hb, Hbv, Hr1, HO⟩
  iapply (wp_ld (d := d) (i := i) wvW (r := Rect.unit (s := S128) ![0] S16.size inb_S128_S16_0) (S := Finset.univ) (q := fullShare) (f := wf) (Finset.subset_univ _)) $$ Hwv
  iintro Hwv
  iapply (wp_ld (d := d) (i := i) wvW (r := Rect.unit (s := S128) ![16] S16.size inb_S128_S16_16) (S := Finset.univ) (q := fullShare) (f := wf) (Finset.subset_univ _)) $$ Hwv
  iintro Hwv
  iapply (wp_ld (d := d) (i := i) wvW (r := Rect.unit (s := S128) ![32] S16.size inb_S128_S16_32) (S := Finset.univ) (q := fullShare) (f := wf) (Finset.subset_univ _)) $$ Hwv
  iintro Hwv
  iapply (wp_ld (d := d) (i := i) wvW (r := Rect.unit (s := S128) ![48] S16.size inb_S128_S16_48) (S := Finset.univ) (q := fullShare) (f := wf) (Finset.subset_univ _)) $$ Hwv
  iintro Hwv
  iapply (wp_ld (d := d) (i := i) wvW (r := Rect.unit (s := S128) ![64] S16.size inb_S128_S16_64) (S := Finset.univ) (q := fullShare) (f := wf) (Finset.subset_univ _)) $$ Hwv
  iintro Hwv
  iapply (wp_ld (d := d) (i := i) wvW (r := Rect.unit (s := S128) ![80] S16.size inb_S128_S16_80) (S := Finset.univ) (q := fullShare) (f := wf) (Finset.subset_univ _)) $$ Hwv
  iintro Hwv
  iapply (wp_ld (d := d) (i := i) wvW (r := Rect.unit (s := S128) ![96] S16.size inb_S128_S16_96) (S := Finset.univ) (q := fullShare) (f := wf) (Finset.subset_univ _)) $$ Hwv
  iintro Hwv
  iapply (wp_ld (d := d) (i := i) wvW (r := Rect.unit (s := S128) ![112] S16.size inb_S128_S16_112) (S := Finset.univ) (q := fullShare) (f := wf) (Finset.subset_univ _)) $$ Hwv
  iintro Hwv
  iapply (wp_ld (d := d) (i := i) bvW (r := Rect.unit (s := S16) ![0] S16.size inb_S16_S16_0) (S := Finset.univ) (q := fullShare) (f := bf) (Finset.subset_univ _)) $$ Hbv
  iintro Hbv
  iapply (wp_seq (d := d) (i := i) (Scf.Loop.for k0_t1_loop k0_t1_ok (k0_pay890, k0_pay891) (k0_t1_body i xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2)))
  iapply (wp_post (d := d) (i := i))
  isplitl [Hid Hp Hm Hv HO]
  · iapply (wp_search (d := d) (i := i) (q := q) (ids := ids) (O := O) (W₀ := W₀))
    isplitr; · iexact Hmw
    unfold SearchI
    isplitl [Hid]; · iexact Hid
    isplitl [Hp]; · iexact Hp
    isplitl [Hm]; · iexact Hm
    isplitl [Hv]; · iexact Hv
    iexact HO
  iintro %r ⟨%hr, HS⟩
  obtain ⟨lo, hi⟩ := r
  have hhi : hi = searchV i ids := congrArg Prod.snd hr
  subst hhi
  unfold SearchI
  icases HS with ⟨Hid, Hp, Hm, Hv, HO⟩
  iapply (wp_ld (d := d) (i := i) offW (r := Rect.unit (s := S32) ![0] S16.size inb_S32_S16_0) (S := Finset.univ) (q := fullShare) (f := fo) (Finset.subset_univ _)) $$ Hoff
  iintro Hoff
  iapply (wp_st (d := d) (i := i) offW (r := Rect.unit (s := S32) ![0] S16.size inb_S32_S16_0) (f := fo)) $$ Hoff
  rw [show k0_pay898 (searchV i ids) = searchV i ids from shapeCast_self _ _]
  iintro Hoff
  iapply (wp_ld (d := d) (i := i) offW (r := Rect.unit (s := S32) ![16] S16.size inb_S32_S16_16) (S := Finset.univ) (q := fullShare)
    (f := (offW.access (Rect.unit (s := S32) ![0] S16.size inb_S32_S16_0)).write (Elt F) fo (searchV i ids) Finset.univ) (Finset.subset_univ _)) $$ Hoff
  iintro Hoff
  iapply (wp_end (d := d) (i := i))
  isplitr
  · ipureintro
    exact startT_congr i wf bf ids (wv_read wf 0 _ _ rfl) (wv_read wf 1 _ _ rfl) (wv_read wf 2 _ _ rfl) (wv_read wf 3 _ _ rfl) (wv_read wf 4 _ _ rfl) (wv_read wf 5 _ _ rfl)
      (wv_read wf 6 _ _ rfl) (wv_read wf 7 _ _ rfl) ((shapeCast_self _ _).trans (Memref.read_access_unit_zero (Elt F) cc0_scratch2 (by funext a; rw [Fin.eq_zero a]; rfl) _ _))
      (shapeCast_self _ _)
  isplitl [Hw]; · iexact Hw
  isplitl [Hb]; · iexact Hb
  isplitl [Hwv]; · iexists _; iexact Hwv
  isplitl [Hbv]; · iexists _; iexact Hbv
  isplitl [Hoff]; · iexists fo; iexact Hoff
  isplitl [Hr0]; · iexact Hr0
  isplitl [Hr1]; · iexact Hr1
  isplitl [Hid]; · iexact Hid
  isplitl [Hp]; · iexact Hp
  isplitl [Hm]; · iexact Hm
  isplitl [Hv]; · iexact Hv
  iexact HO

end Cert.Proof.Tile
-- ==== Proof.Body.lean ====
/-
  The whole program of a subcore: the stage's first contents, the ring buffer cut into its windows, the ring loop, the
  copy of the stage into the result's rows.
-/
module

public import proofs.«01_k».proof.Proof.Search
public import Idealize.ShloMosaic.Lib.Ring

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {d : Dev nD} {i : grid0.Coords}

/-! ## The stage filled -/

/-- The vectors a segment starts from: zeros for the sums, minus infinity for the maxima. -/
def initV : Fin 16 → FV F := fun j => if j.val < 8 then broadcast S16 (Scalar.ofBits .f32 0x00000000#32) else broadcast S16 (Scalar.ofBits .f32 0xFF800000#32)

/-- Which vector the `j`-th store of a row writes. -/
def jcol (j : Fin 16) : Fin 16 := if j.val % 2 = 0 then ⟨j.val / 2, by omega⟩ else ⟨8 + j.val / 2, by omega⟩

theorem jcol_colI (j : Fin 16) : colI j.val = 16 * (jcol j).val := by revert j; decide

theorem setMany_eq {α : Type} {n : Nat} (A : Fin 8 → Fin 16 → S16.Idx → α) (r : Fin n → Fin 8) (j : Fin n → Fin 16) (v : Fin n → S16.Idx → α)
    (r' : Fin 8) (j' : Fin 16) (x : S16.Idx → α) (h1 : ∀ m, r' = r m ∧ j' = j m → v m = x) (h2 : (∃ m, r' = r m ∧ j' = j m) ∨ A r' j' = x) :
    setMany A n r j v r' j' = x := by
  induction n generalizing A with
  | zero =>
    rcases h2 with ⟨m, -⟩ | h2
    · exact m.elim0
    · exact h2
  | succ n ih =>
    refine ih _ _ _ _ (fun m h => h1 m.succ h) ?_
    by_cases h0 : r' = r 0 ∧ j' = j 0
    · right
      unfold setA
      rw [if_pos h0]
      exact h1 0 h0
    · rcases h2 with ⟨m, hm⟩ | h2
      · left
        rcases Fin.eq_zero_or_eq_succ m with rfl | ⟨m', rfl⟩
        · exact absurd hm h0
        · exact ⟨m', hm⟩
      · right
        unfold setA
        rw [if_neg h0]
        exact h2

theorem setMany_init (A : Fin 8 → Fin 16 → FV F) (r : Fin 8) :
    setMany A 16 (fun _ => r) jcol (fun j => if j.val % 2 = 0 then broadcast S16 (Scalar.ofBits .f32 0x00000000#32) else broadcast S16 (Scalar.ofBits .f32 0xFF800000#32)) = setRow A r initV := by
  funext r' j'
  refine setMany_eq _ _ _ _ _ _ _ ?_ ?_
  · rintro m ⟨rfl, rfl⟩
    unfold setRow initV
    rw [if_pos rfl]
    have hm : (jcol m).val < 8 ↔ m.val % 2 = 0 := by revert m; decide
    by_cases h : m.val % 2 = 0
    · rw [if_pos h, if_pos (hm.mpr h)]
    · rw [if_neg h, if_neg (fun hh => h (hm.mp hh))]
  · by_cases hr : r' = r
    · left
      have : ∃ m, j' = jcol m := by revert j'; decide
      obtain ⟨m, hm⟩ := this
      exact ⟨m, hr, hm⟩
    · right
      unfold setRow
      rw [if_neg hr]

theorem wp_initRow {α : Type} (r : Fin 8) (A : Fin 8 → Fin 16 → FV F) {k : PR F i α} {Q : α → sProp (MM F)} :
    (stgW.view.loc (thr d i) ↦{fullShare} stageOf A : sProp (MM F))
      ⊢ iprop(((stgW.view.loc (thr d i) ↦{fullShare} stageOf (setRow A r initV)) -∗ WP d i k Q) -∗ WP d i (initRow i stgW r k) Q) := by
  rw [← setMany_init]
  exact wp_stgStores (d := d) (i := i) A (fun _ => r) jcol _ (fun m => by rw [← jcol_colI]) (fun m => rfl)

/-- Any contents of the stage are sixteen lane vectors for each of eight segments. -/
theorem stageOf_all {α : Type} (f : S8x256.Idx → α) : ∃ A, f = stageOf A := by
  refine ⟨fun r j l => f fun a => match a with
    | 0 => r
    | 1 => (⟨16 * j.val + (l 0).val, by have h1 : (l 0).val < 16 := (l 0).isLt; have := j.isLt; show _ < 256; omega⟩ : Fin 256), ?_⟩
  funext x
  unfold stageOf
  refine congrArg f (funext fun a => ?_)
  match a with
  | 0 => rfl
  | 1 => exact Fin.ext (by show (x 1).val = 16 * ((x 1).val / 16) + (x 1).val % 16; omega)

theorem wp_init {α : Type} {f : Buf (Elt F) (stgW.view.loc (thr d i))} {k : PR F i α} {Q : α → sProp (MM F)} :
    (stgW.view.loc (thr d i) ↦{fullShare} f : sProp (MM F))
      ⊢ iprop(((stgW.view.loc (thr d i) ↦{fullShare} stageOf (fun _ => initV)) -∗ WP d i k Q) -∗ WP d i (initP i stgW k) Q) := by
  obtain ⟨A, rfl⟩ : ∃ A : Fin 8 → Fin 16 → FV F, f = stageOf A := stageOf_all (α := F .f32) f
  have e : setRow (setRow (setRow (setRow (setRow (setRow (setRow (setRow A 0 initV) 1 initV) 2 initV) 3 initV) 4 initV) 5 initV) 6 initV) 7 initV = fun _ => initV := by
    funext r
    match r with
    | 0 => rfl
    | 1 => rfl
    | 2 => rfl
    | 3 => rfl
    | 4 => rfl
    | 5 => rfl
    | 6 => rfl
    | 7 => rfl
  iintro H Hk
  unfold initP
  iapply (wp_initRow (d := d) (i := i) 0) $$ H
  iintro H
  iapply (wp_initRow (d := d) (i := i) 1) $$ H
  iintro H
  iapply (wp_initRow (d := d) (i := i) 2) $$ H
  iintro H
  iapply (wp_initRow (d := d) (i := i) 3) $$ H
  iintro H
  iapply (wp_initRow (d := d) (i := i) 4) $$ H
  iintro H
  iapply (wp_initRow (d := d) (i := i) 5) $$ H
  iintro H
  iapply (wp_initRow (d := d) (i := i) 6) $$ H
  iintro H
  iapply (wp_initRow (d := d) (i := i) 7) $$ H
  iintro H
  rw [e]
  iapply Hk
  iexact H

/-! ## The ring buffer in four windows, a share in four -/

theorem winK_inb (k : Fin 4) : ∀ a, (![16384 * k.val] : Fin 1 → Nat) a + S16384.size a ≤ S65536.size a := by
  intro a
  rw [Fin.eq_zero a]
  have := k.isLt
  show 16384 * k.val + 16384 ≤ 65536
  omega

theorem mem_winSet {w : Nat} {hw : ∀ a, (![w] : Fin 1 → Nat) a + S16384.size a ≤ S65536.size a} {y : S65536.Idx} :
    y ∈ winSet d i w hw ↔ w ≤ (y 0).val ∧ (y 0).val < w + 16384 := by
  constructor
  · intro hy
    obtain ⟨x, -, hx⟩ := Finset.mem_map.mp hy
    have hx0 : (x 0).val < 16384 := (x 0).isLt
    have hy0 : w + 1 * (x 0).val = (y 0).val := congrArg (fun z : S65536.Idx => (z 0).val) hx
    omega
  · rintro ⟨h1, h2⟩
    have hz : (y 0).val - w < 16384 := by omega
    refine Finset.mem_map.mpr ⟨fun a => ⟨(y 0).val - w, by rw [Fin.eq_zero a]; exact hz⟩, Finset.mem_univ _, funext fun a => ?_⟩
    rw [Fin.eq_zero a]
    exact Fin.ext (by show w + 1 * ((y 0).val - w) = (y 0).val; omega)

theorem win_disj : ∀ k k' : Fin 4, k ≠ k' → Disjoint (winSet d i (16384 * k.val) (winK_inb k)) (winSet d i (16384 * k'.val) (winK_inb k')) := by
  intro k k' h
  refine Finset.disjoint_left.mpr fun y h1 h2 => ?_
  have h1 := mem_winSet.mp h1
  have h2 := mem_winSet.mp h2
  exact h (Fin.ext (by omega))

theorem win_cover : (Finset.univ.biUnion fun k : Fin 4 => winSet d i (16384 * k.val) (winK_inb k)) = Finset.univ := by
  refine Finset.eq_univ_of_forall fun y => ?_
  have hy : ((y : S65536.Idx) 0).val < 65536 := ((y : S65536.Idx) 0).isLt
  refine Finset.mem_biUnion.mpr ⟨⟨((y : S65536.Idx) 0).val / 16384, by omega⟩, Finset.mem_univ _, mem_winSet.mpr ?_⟩
  dsimp only
  omega

theorem bigSep_four (Φ : Fin 4 → sProp (MM F)) : bigSep Finset.univ Φ = iprop(Φ 0 ∗ Φ 1 ∗ Φ 2 ∗ Φ 3) := by
  rw [show (Finset.univ : Finset (Fin 4)) = {0, 1, 2, 3} from rfl, bigSep_insert (by decide), bigSep_insert (by decide), bigSep_insert (by decide), bigSep_singleton]
  rfl

theorem buf_split {f : Buf (Elt F) (bufW.view.loc (thr d i))} : (bufW.view.loc (thr d i) ↦{fullShare} f : sProp (MM F)) ⊢
    iprop((bufW.view.loc (thr d i) ↦[winSet d i 0 inb_S65536_S16384_0]{fullShare} f) ∗ (bufW.view.loc (thr d i) ↦[winSet d i 16384 inb_S65536_S16384_16384]{fullShare} f)
      ∗ (bufW.view.loc (thr d i) ↦[winSet d i 32768 inb_S65536_S16384_32768]{fullShare} f) ∗ (bufW.view.loc (thr d i) ↦[winSet d i 49152 inb_S65536_S16384_49152]{fullShare} f)) := by
  rw [Ring.pointsTo_blocks (fun k : Fin 4 => winSet d i (16384 * k.val) (winK_inb k)) win_disj win_cover f, bigSep_four]
  exact .rfl

theorem buf_join : (iprop((∃ f, bufW.view.loc (thr d i) ↦[winSet d i 0 inb_S65536_S16384_0]{fullShare} f) ∗ (∃ f, bufW.view.loc (thr d i) ↦[winSet d i 16384 inb_S65536_S16384_16384]{fullShare} f)
      ∗ (∃ f, bufW.view.loc (thr d i) ↦[winSet d i 32768 inb_S65536_S16384_32768]{fullShare} f) ∗ (∃ f, bufW.view.loc (thr d i) ↦[winSet d i 49152 inb_S65536_S16384_49152]{fullShare} f)) : sProp (MM F))
    ⊢ iprop(∃ f, bufW.view.loc (thr d i) ↦{fullShare} f) := by
  iintro ⟨⟨%f0, H0⟩, H1, H2, H3⟩
  iapply (Ring.pointsTo_blocks_join_exists (ℓ := bufW.view.loc (thr d i)) (fun k : Fin 4 => winSet d i (16384 * k.val) (winK_inb k)) win_disj win_cover f0)
  rw [bigSep_four]
  isplitl [H0]; · iexists f0; iexact H0
  isplitl [H1]; · iexact H1
  isplitl [H2]; · iexact H2
  iexact H3

theorem share_four {q : PosShare TreeShare} {f : Buf (Elt F) (xW.view.loc (thr d i))} : (xW.view.loc (thr d i) ↦{q} f : sProp (MM F)) ⊣⊢
    iprop(((xW.view.loc (thr d i) ↦{q.left.left} f) ∗ (xW.view.loc (thr d i) ↦{q.left.right} f)) ∗ ((xW.view.loc (thr d i) ↦{q.right.left} f) ∗ (xW.view.loc (thr d i) ↦{q.right.right} f))) := by
  have h := fun q : PosShare TreeShare => pointsTo_share (Ix := HIx 1) (Name := ℕ) (U := UU) (Lvl := ℕ) (ℓ := xW.view.loc (thr d i)) (I := Finset.univ) (f := f) (PosShare.mem_left_op_right q)
  exact ⟨(h q).1.trans (BIClass.sep_mono (h q.left).1 (h q.right).1), (BIClass.sep_mono (h q.left).2 (h q.right).2).trans (h q).2⟩

/-! ## The ring loop -/

theorem wp_ring {v4 v6 v8 v10 v12 v14 v16 v18 v20 : FV F} {H : IV} (xf : S40960000.Idx → F .f32) (a b : Nat) (hH : ∀ l, (H l).toNat ≤ 320000) {v37 v41 : W}
    (e37 : v37 = laneW H 0) (e41 : v41 = laneW H 8) (ha : v37.toNat = a) (hb : v41.toNat = b) (A : Fin 8 → Fin 16 → FV F)
    (q0 q1 q2 q3 : PosShare TreeShare) (O : CellTallies nD τ sig (HIx 1)) (W : Waits sig (HIx 1)) (hw : k0_chk1 v37 v41) :
    (iprop(Transfers.MayWaits (thr d i) (none : HIx 1) O ∗ Ring d i ![v4, v6, v8, v10, v12, v14, v16, v18] v20 xf a (nchN a b) H A q0 q1 q2 q3 O W 0) : sProp (MM F))
      ⊢ WP d i (Scf.Loop.for (k0_t2_loop v37 v41) (k0_t2_ok v37 v41 hw) PUnit.unit (k0_t2_body i xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2 v4 v6 v8 v10 v12 v14 v16 v18 v20 iotaV v37 v41 hw (nchW v37 v41)))
        fun _ => Ring d i ![v4, v6, v8, v10, v12, v14, v16, v18] v20 xf a (nchN a b) H A q0 q1 q2 q3 O W (4 * (k0_t2_loop v37 v41).trips) := by
  have hbody : ∀ (t : Fin (k0_t2_loop v37 v41).trips) (u : PUnit), (iprop(Transfers.MayWaits (thr d i) (none : HIx 1) O ∗ Ring d i ![v4, v6, v8, v10, v12, v14, v16, v18] v20 xf a (nchN a b) H A q0 q1 q2 q3 O W (4 * t.val)) : sProp (MM F))
      ⊢ WP d i (k0_t2_body i xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2 v4 v6 v8 v10 v12 v14 v16 v18 v20 iotaV v37 v41 hw (nchW v37 v41) t u)
        fun _ => iprop(Transfers.MayWaits (thr d i) (none : HIx 1) O ∗ Ring d i ![v4, v6, v8, v10, v12, v14, v16, v18] v20 xf a (nchN a b) H A q0 q1 q2 q3 O W (4 * (t.val + 1))) := by
    intro t u
    iintro ⟨#Hmw, H⟩
    iapply (wp_post (d := d) (i := i))
    isplitl [H]
    · iapply (wp_trip (d := d) (i := i) xf a b hH e37 e41 ha hb A q0 q1 q2 q3 O W hw t u)
      isplitr; · iexact Hmw
      iexact H
    iintro %_ H
    isplitr; · iexact Hmw
    iexact H
  iintro ⟨#Hmw, H⟩
  iapply (wp_loop (d := d) (i := i) (fun n (_ : PUnit) => iprop(Transfers.MayWaits (thr d i) (none : HIx 1) O ∗ Ring d i ![v4, v6, v8, v10, v12, v14, v16, v18] v20 xf a (nchN a b) H A q0 q1 q2 q3 O W (4 * n))) hbody)
  isplitl [H]
  · isplitr; · iexact Hmw
    iexact H
  · iintro %_ ⟨_, H⟩
    iexact H

/-! ## The whole program -/

/-- The vectors of a subcore's eight segments at the end. -/
def blockV (i : grid0.Coords) (xf : S40960000.Idx → F .f32) (ids : S320000.Idx → W) (wf : S128.Idx → F .f32) (bf : FV F) : Fin 8 → Fin 16 → FV F :=
  accTo (wsV wf) bf xf (laneW (searchV i ids) 0).toNat (searchV i ids) (fun _ => initV)
    (4 * ((nchN (laneW (searchV i ids) 0).toNat (laneW (searchV i ids) 8).toNat + 3) / 4))

/-- The rows of the result a subcore writes. -/
abbrev outM (i : grid0.Coords) : Memref sig .scVector .hbm S8x256 .f32 :=
  outW.slice (Rect.unit (s := S256x256) (k0_off172 i) S8x256.size (k0_off172_inb i)) (fun _ => rfl)
abbrev outSet (d : Dev nD) (i : grid0.Coords) : Finset (Idx (outW.view.loc (thr d i))) := (outM i).view.set

/-- What a subcore leaves in its rows of the result. -/
def Left (i : grid0.Coords) (xf : S40960000.Idx → F .f32) (ids : S320000.Idx → W) (wf : S128.Idx → F .f32) (bf : FV F) (f : S256x256.Idx → F .f32) : Prop :=
  InRange (searchV i ids) → ∀ x : S8x256.Idx, f ((outM i).view.emb x) = stageOf (blockV i xf ids wf bf) x

theorem ws_vec (wf : S128.Idx → F .f32) : ![wsV wf 0, wsV wf 1, wsV wf 2, wsV wf 3, wsV wf 4, wsV wf 5, wsV wf 6, wsV wf 7] = wsV wf := by
  funext j
  match j with
  | 0 => rfl
  | 1 => rfl
  | 2 => rfl
  | 3 => rfl
  | 4 => rfl
  | 5 => rfl
  | 6 => rfl
  | 7 => rfl

/-- The search's words stored at both halves of the offsets' buffer. -/
theorem off_both (f : S32.Idx → W) (H : IV) :
    (offW.access (Rect.unit (s := S32) ![16] S16.size inb_S32_S16_16)).write (Elt F)
      ((offW.access (Rect.unit (s := S32) ![0] S16.size inb_S32_S16_0)).write (Elt F) f H Finset.univ) H Finset.univ = offC H := by
  funext y
  have hy : (y 0).val < 32 := (y 0).isLt
  have key : ∀ (p : Nat) (hp : ∀ a, (![p] : Fin 1 → Nat) a + S16.size a ≤ S32.size a) (g : S32.Idx → W), p ≤ (y 0).val → (y 0).val < p + 16 → p % 16 = 0 →
      (offW.access (Rect.unit (s := S32) ![p] S16.size hp)).write (Elt F) g H Finset.univ y = offC H y := by
    intro p hp g h1 h2 h3
    have hx := View.write_emb_of_mem (v := offW.access (Rect.unit (s := S32) ![p] S16.size hp)) (Val := Elt F) g H (M := Finset.univ)
      (x := fun a => ⟨(y 0).val - p, by rw [Fin.eq_zero a]; show _ < 16; omega⟩) (Finset.mem_univ _)
    have e : (offW.access (Rect.unit (s := S32) ![p] S16.size hp)).emb (fun a => ⟨(y 0).val - p, by rw [Fin.eq_zero a]; show _ < 16; omega⟩) = y := by
      funext a
      rw [Fin.eq_zero a]
      exact Fin.ext (by show p + 1 * ((y 0).val - p) = (y 0).val; omega)
    rw [e] at hx
    rw [hx]
    unfold offC
    refine congrArg H (funext fun a => ?_)
    rw [Fin.eq_zero a]
    exact Fin.ext (by show (y 0).val - p = (y 0).val % 16; omega)
  by_cases h : 16 ≤ (y 0).val
  · exact key 16 _ _ h (by omega) rfl
  · rw [View.write_of_not_mem]
    · exact key 0 _ _ (by omega) (by omega) rfl
    · intro hm
      obtain ⟨x, -, hx⟩ := Finset.mem_map.mp hm
      have e1 : 16 + 1 * (x 0).val = (y 0).val := congrArg (fun z : S32.Idx => (z 0).val) hx
      omega

theorem off_both' (f : S32.Idx → W) (H H' : IV) (h : H' = H) :
    (offW.access (Rect.unit (s := S32) ![16] S16.size inb_S32_S16_16)).write (Elt F)
      ((offW.access (Rect.unit (s := S32) ![0] S16.size inb_S32_S16_0)).write (Elt F) f H Finset.univ) H' Finset.univ = offC H := by
  subst h
  exact off_both f _

theorem startT_off (i : grid0.Coords) (wf : S128.Idx → F .f32) (bf : FV F) (ids : S320000.Idx → W) :
    (startT i wf bf ids).2.2.2.2.2.2.2.2.2.2 = searchV i ids := by
  dsimp only [startT]

theorem left_written (i : grid0.Coords) (xf : S40960000.Idx → F .f32) (ids : S320000.Idx → W) (wf : S128.Idx → F .f32) (bf : FV F) {B : Fin 8 → Fin 16 → FV F}
    (hB : InRange (searchV i ids) → B = blockV i xf ids wf bf) (fo : S256x256.Idx → F .f32) :
    Left i xf ids wf bf ((outM i).view.write (Elt F) fo (stgW.view.read (Elt F) (stageOf B)) Finset.univ) := by
  intro hR x
  rw [View.write_emb_of_mem (v := (outM i).view) (Val := Elt F) fo (stgW.view.read (Elt F) (stageOf B)) (M := Finset.univ) (x := x) (Finset.mem_univ _), hB hR]
  rfl

theorem wp_body {qx qi qw qb : PosShare TreeShare} {xf : S40960000.Idx → F .f32} {ids : S320000.Idx → W} {wf : S128.Idx → F .f32} {bf : FV F}
    {fo : S256x256.Idx → F .f32} {O : CellTallies nD τ sig (HIx 1)} {W₀ : Waits sig (HIx 1)} :
    (iprop(Transfers.MayWaits (thr d i) (none : HIx 1) O
        ∗ ((xW.view.loc (thr d i) ↦{qx} xf) ∗ (idW.view.loc (thr d i) ↦{qi} ids) ∗ (wW.view.loc (thr d i) ↦{qw} wf) ∗ (bW.view.loc (thr d i) ↦{qb} bf)
          ∗ (outW.view.loc (thr d i) ↦[outSet d i]{fullShare} fo))
        ∗ ((∃ f, bufW.view.loc (thr d i) ↦{fullShare} f) ∗ (∃ f, wvW.view.loc (thr d i) ↦{fullShare} f) ∗ (∃ f, bvW.view.loc (thr d i) ↦{fullShare} f)
          ∗ (∃ f, offW.view.loc (thr d i) ↦{fullShare} f) ∗ (∃ f, prbW.view.loc (thr d i) ↦{fullShare} f) ∗ (∃ f, midW.view.loc (thr d i) ↦{fullShare} f)
          ∗ (∃ f, shfW.view.loc (thr d i) ↦{fullShare} f) ∗ (∃ f, stgW.view.loc (thr d i) ↦{fullShare} f))
        ∗ (semVal (thr d i, .dma cc0_scratch8.sem) 0 ∗ semVal (thr d i, .dma cc0_scratch9.sem) 0 ∗ semVal (thr d i, .dma cc0_scratch10.sem) 0
          ∗ semVal (thr d i, .dma cc0_scratch11.sem) 0 ∗ semVal (thr d i, .dma cc0_scratch12.sem) 0 ∗ semVal (thr d i, .dma cc0_scoped0.sem) 0
          ∗ semVal (thr d i, .dma cc0_scoped1.sem) 0 ∗ semVal (thr d i, .dma cc0_scoped2.sem) 0)
        ∗ Owe d i O W₀) : sProp (MM F))
      ⊢ WP d i (cc0__sc_body i xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2) fun _ =>
        iprop(((xW.view.loc (thr d i) ↦{qx} xf) ∗ (idW.view.loc (thr d i) ↦{qi} ids) ∗ (wW.view.loc (thr d i) ↦{qw} wf) ∗ (bW.view.loc (thr d i) ↦{qb} bf)
          ∗ (∃ f, ⌜Left i xf ids wf bf f⌝ ∗ outW.view.loc (thr d i) ↦[outSet d i]{fullShare} f))
        ∗ ((∃ f, bufW.view.loc (thr d i) ↦{fullShare} f) ∗ (∃ f, wvW.view.loc (thr d i) ↦{fullShare} f) ∗ (∃ f, bvW.view.loc (thr d i) ↦{fullShare} f)
          ∗ (∃ f, offW.view.loc (thr d i) ↦{fullShare} f) ∗ (∃ f, prbW.view.loc (thr d i) ↦{fullShare} f) ∗ (∃ f, midW.view.loc (thr d i) ↦{fullShare} f)
          ∗ (∃ f, shfW.view.loc (thr d i) ↦{fullShare} f) ∗ (∃ f, stgW.view.loc (thr d i) ↦{fullShare} f))
        ∗ (semVal (thr d i, .dma cc0_scratch8.sem) 0 ∗ semVal (thr d i, .dma cc0_scratch9.sem) 0 ∗ semVal (thr d i, .dma cc0_scratch10.sem) 0
          ∗ semVal (thr d i, .dma cc0_scratch11.sem) 0 ∗ semVal (thr d i, .dma cc0_scratch12.sem) 0 ∗ semVal (thr d i, .dma cc0_scoped0.sem) 0
          ∗ semVal (thr d i, .dma cc0_scoped1.sem) 0 ∗ semVal (thr d i, .dma cc0_scoped2.sem) 0)
        ∗ Owe d i O W₀) := by
  have hH : ∀ l, (searchV i ids l).toNat ≤ 320000 := fun l => (bs_bounds ids (keyV i) 19 l).2
  have e37 := firstW_off (F := F) (searchV i ids) (p := 0) (by decide) (o := ![0]) rfl inb_S32_S16_0
  have e41 := firstW_off (F := F) (searchV i ids) (p := 8) (by decide) (o := ![8]) rfl inb_S32_S16_8
  have ha := congrArg BitVec.toNat e37
  have hb := congrArg BitVec.toNat e41
  have ha' := laneW_le hH 0
  have hb' := laneW_le hH 8
  have htr := t2_trips ha hb ha' hb'
  unfold cc0__sc_body
  rw [p70_eq]
  iintro ⟨#Hmw, ⟨Hx, Hid, Hw, Hb, Hout⟩, ⟨⟨%fbuf, Hbuf⟩, Hwv, Hbv, Hoff, Hprb, Hmid, Hshf, ⟨%fstg, Hstg⟩⟩, ⟨Hs8, Hs9, Hs10, Hs11, Hs12, Hr0, Hr1, Hr2⟩, HO⟩
  iapply (wp_seq (d := d) (i := i))
  iapply (wp_seq (d := d) (i := i))
  iapply (wp_post (d := d) (i := i))
  isplitl [Hw Hb Hwv Hbv Hoff Hr0 Hr1 Hid Hprb Hmid Hs8 HO]
  · iapply (wp_start (d := d) (i := i) (q := qi) (qw := qw) (qb := qb) (ids := ids) (wf := wf) (bf := bf) (O := O) (W₀ := W₀))
    isplitr; · iexact Hmw
    isplitl [Hw]; · iexact Hw
    isplitl [Hb]; · iexact Hb
    isplitl [Hwv]; · iexact Hwv
    isplitl [Hbv]; · iexact Hbv
    isplitl [Hoff]; · iexact Hoff
    isplitl [Hr0]; · iexact Hr0
    isplitl [Hr1]; · iexact Hr1
    unfold SearchI
    isplitl [Hid]; · iexact Hid
    isplitl [Hprb]; · iexact Hprb
    isplitl [Hmid]; · iexact Hmid
    isplitl [Hs8]; · iexact Hs8
    iexact HO
  iintro %p ⟨%hp, Hw, Hb, Hwv, Hbv, ⟨%fo', Hoff⟩, Hr0, Hr1, HS⟩
  subst hp
  unfold SearchI
  icases HS with ⟨Hid, Hprb, Hmid, Hs8, HO⟩
  iapply (wp_st (d := d) (i := i) offW (r := Rect.unit (s := S32) ![16] S16.size inb_S32_S16_16)
    (f := (offW.access (Rect.unit (s := S32) ![0] S16.size inb_S32_S16_0)).write (Elt F) fo' (searchV i ids) Finset.univ)) $$ Hoff
  iintro Hoff
  ihave Hoff2 := (Entails.of_eq (congrArg (fun g => (View.loc (thr d i) offW.view ↦{fullShare} g : sProp (MM F))) (off_both' (F := F) fo' (searchV i ids) (startT i wf bf ids).2.2.2.2.2.2.2.2.2.2 (startT_off i wf bf ids)))) $$ Hoff
  iapply (wp_ld (d := d) (i := i) offW (r := Rect.unit (s := S32) ![0] S16.size inb_S32_S16_0) (S := Finset.univ) (q := fullShare) (f := offC (searchV i ids)) (Finset.subset_univ _)) $$ Hoff2
  iintro Hoff
  iapply (wp_ld (d := d) (i := i) offW (r := Rect.unit (s := S32) ![8] S16.size inb_S32_S16_8) (S := Finset.univ) (q := fullShare) (f := offC (searchV i ids)) (Finset.subset_univ _)) $$ Hoff
  iintro Hoff
  iapply (wp_asm (d := d) (i := i) (chk1_all ha hb ha' hb'))
  iapply (wp_init (d := d) (i := i)) $$ Hstg
  iintro Hstg
  ihave Hbuf2 := (buf_split (d := d) (i := i) (f := fbuf)) $$ Hbuf
  icases Hbuf2 with ⟨Hb0, Hb1, Hb2, Hb3⟩
  ihave Hx2 := (share_four (d := d) (i := i) (q := qx) (f := xf)).1 $$ Hx
  icases Hx2 with ⟨⟨Hx0, Hx1⟩, Hx2, Hx3⟩
  iapply (wp_seq (d := d) (i := i))
  iapply (wp_issue (d := d) (i := i) xf (laneW (searchV i ids) 0).toNat (nchN (laneW (searchV i ids) 0).toNat (laneW (searchV i ids) 8).toNat) 0 qx.left.left cc0_scratch9 0 inb_S65536_S16384_0
    (cond1_iff ha hb ha' hb') (off1_eq ha hb ha' hb')) $$ [Hb0 Hs9 Hx0]
  · unfold Free
    isplitl [Hb0]; · iexists fbuf; iexact Hb0
    isplitl [Hs9]; · iexact Hs9
    iexact Hx0
  iintro H0
  iapply (wp_issue (d := d) (i := i) xf (laneW (searchV i ids) 0).toNat (nchN (laneW (searchV i ids) 0).toNat (laneW (searchV i ids) 8).toNat) 1 qx.left.right cc0_scratch10 16384 inb_S65536_S16384_16384
    (cond2_iff ha hb ha' hb') (off2_eq ha hb ha' hb')) $$ [Hb1 Hs10 Hx1]
  · unfold Free
    isplitl [Hb1]; · iexists fbuf; iexact Hb1
    isplitl [Hs10]; · iexact Hs10
    iexact Hx1
  iintro H1
  iapply (wp_issue (d := d) (i := i) xf (laneW (searchV i ids) 0).toNat (nchN (laneW (searchV i ids) 0).toNat (laneW (searchV i ids) 8).toNat) 2 qx.right.left cc0_scratch11 32768 inb_S65536_S16384_32768
    (cond3_iff ha hb ha' hb') (off3_eq ha hb ha' hb')) $$ [Hb2 Hs11 Hx2]
  · unfold Free
    isplitl [Hb2]; · iexists fbuf; iexact Hb2
    isplitl [Hs11]; · iexact Hs11
    iexact Hx2
  iintro H2
  iapply (wp_end (d := d) (i := i))
  iapply (wp_seq (d := d) (i := i))
  iapply (wp_post (d := d) (i := i))
  isplitl [H0 H1 H2 Hb3 Hs12 Hx3 Hoff Hshf Hstg HO]
  · iapply (wp_ring (d := d) (i := i) (H := searchV i ids) xf (laneW (searchV i ids) 0).toNat (laneW (searchV i ids) 8).toNat hH e37 e41 ha hb (fun _ => initV)
      qx.left.left qx.left.right qx.right.left qx.right.right O W₀)
    isplitr; · iexact Hmw
    unfold Ring Free
    isplitl [H0]; · iexact H0
    isplitl [H1]; · iexact H1
    isplitl [H2]; · iexact H2
    isplitl [Hb3 Hs12 Hx3]
    · isplitl [Hb3]; · iexists fbuf; iexact Hb3
      isplitl [Hs12]; · iexact Hs12
      iexact Hx3
    isplitl [Hoff]; · iexact Hoff
    isplitl [Hshf]; · iexact Hshf
    isplitl [Hstg]
    · iexists (fun _ => initV)
      isplitr
      · ipureintro; exact fun _ => rfl
      iexact Hstg
    iexact HO
  iintro %_ HR
  have hfree : ∀ (q : PosShare TreeShare) (sem : DmaSems sig S_) (w : Nat) (hw : ∀ a, (![w] : Fin 1 → Nat) a + S16384.size a ≤ S65536.size a) (N n : Nat), N ≤ n →
      Infl d i xf (laneW (searchV i ids) 0).toNat N q sem w hw n = Free d i xf q sem w hw := by
    intro q sem w hw N n h
    unfold Infl
    exact if_neg (by omega)
  unfold Ring
  rw [hfree _ _ _ _ _ _ (by rw [htr]; omega), hfree _ _ _ _ _ _ (by rw [htr]; omega), hfree _ _ _ _ _ _ (by rw [htr]; omega)]
  unfold Free
  icases HR with ⟨⟨Hb0, Hs9, Hx0⟩, ⟨Hb1, Hs10, Hx1⟩, ⟨Hb2, Hs11, Hx2⟩, ⟨Hb3, Hs12, Hx3⟩, Hoff, Hshf, ⟨%B, %hB, Hstg⟩, HO⟩
  have hB' : InRange (searchV i ids) → B = blockV i xf ids wf bf := by
    intro h
    refine (hB h).trans ?_
    rw [htr]
    unfold blockV
    rw [← ws_vec wf]
    rfl
  iapply (wp_seq (d := d) (i := i))
  iapply (wp_loop (d := d) (i := i) (fun _ (_ : PUnit) => (iprop(emp) : sProp (MM F))) (fun t _ => by have h0 := t15_trips ha hb ha' hb'; have h1 := t.isLt; omega))
  isplitr; · iempintro
  iintro %_ _
  have key := fun (k : PUnit → PR F i Unit) (Q : Unit → sProp (MM F)) => wp_dma (d := d) (i := i) stgW (outM i) cc0_scoped2 (hsrc := (Memref.isWhole_whole _).wordExact) (hdst := View.wordExact_bits rfl) (hsem := ⟨Or.inl rfl, trivial⟩)
    (k := k) (Q := Q) (q := fullShare) (fs := stageOf B)
    (Sd := outSet d i) (fd := fo) (by decide) (Finset.Subset.refl _)
  rw [View.set_whole] at key
  iapply (key _ _) $$ [Hstg Hout Hr2]
  · isplitl [Hstg]; · iexact Hstg
    isplitl [Hout]; · iexact Hout
    iexact Hr2
  iintro Hf
  iapply (wp_end (d := d) (i := i))
  iapply (wp_wt (d := d) (i := i) (sp'' := .vmem) (src := stgW) (dst := outM i) cc0_scoped2
    (Dl := iprop((outW.view.loc (thr d i) ↦[outSet d i]{fullShare} ((outM i).view.write (Elt F) fo (stgW.view.read (Elt F) (stageOf B)) Finset.univ)) ∗ (stgW.view.loc (thr d i) ↦{fullShare} stageOf B))) (O := O) (W := W₀) rfl) $$ [Hf HO]
  · isplitr; · iexact Hmw
    isplitl [Hf]; · iexact Hf
    iexact HO
  iintro ⟨⟨Hout, Hstg⟩, Hr2, HO⟩
  iapply (wp_end (d := d) (i := i))
  isplitl [Hx0 Hx1 Hx2 Hx3 Hid Hw Hb Hout]
  · isplitl [Hx0 Hx1 Hx2 Hx3]
    · iapply (share_four (d := d) (i := i) (q := qx) (f := xf)).2
      isplitl [Hx0 Hx1]
      · isplitl [Hx0]; · iexact Hx0
        iexact Hx1
      isplitl [Hx2]; · iexact Hx2
      iexact Hx3
    isplitl [Hid]; · iexact Hid
    isplitl [Hw]; · iexact Hw
    isplitl [Hb]; · iexact Hb
    iexists ((outM i).view.write (Elt F) fo (stgW.view.read (Elt F) (stageOf B)) Finset.univ)
    isplitr
    · ipureintro; exact left_written i xf ids wf bf hB' fo
    iexact Hout
  isplitl [Hb0 Hb1 Hb2 Hb3 Hwv Hbv Hoff Hprb Hmid Hshf Hstg]
  · isplitl [Hb0 Hb1 Hb2 Hb3]
    · iapply (buf_join (d := d) (i := i))
      isplitl [Hb0]; · iexact Hb0
      isplitl [Hb1]; · iexact Hb1
      isplitl [Hb2]; · iexact Hb2
      iexact Hb3
    isplitl [Hwv]; · iexact Hwv
    isplitl [Hbv]; · iexact Hbv
    isplitl [Hoff]; · iexists _; iexact Hoff
    isplitl [Hprb]; · iexact Hprb
    isplitl [Hmid]; · iexact Hmid
    isplitl [Hshf]; · iexact Hshf
    iexists (stageOf B); iexact Hstg
  isplitr [HO]
  · isplitl [Hs8]; · iexact Hs8
    isplitl [Hs9]; · iexact Hs9
    isplitl [Hs10]; · iexact Hs10
    isplitl [Hs11]; · iexact Hs11
    isplitl [Hs12]; · iexact Hs12
    isplitl [Hr0]; · iexact Hr0
    isplitl [Hr1]; · iexact Hr1
    iexact Hr2
  iexact HO

end Cert.Proof.Tile
-- ==== Proof.Launch.lean ====
/-
  The launch: what the call hands each subcore and takes back, the obligations of the launch theorem, @main, and the run
  of the whole program over any float values.
-/
module

public import proofs.«01_k».proof.Proof.Body

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {d : Dev nD} {i : grid0.Coords}

/-! ## The program as the launch theorem sees it -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The grid point of subcore `s` of core `c`. -/
def pt (c : Fin (grid0.bound 0)) (s : Fin (grid0.bound 1)) : grid0.Coords :=
  fun | 0 => c | 1 => s | ⟨_ + 2, h⟩ => absurd h (Nat.not_lt.2 (Nat.le_add_left _ _))

theorem defs_vector (c : Fin τ.nSC) (s : Fin τ.nSub) :
    defs₀ (F := F) (.scVector c s) 0 ()
      = SparseCore.onTile hcore0 hsub0 (fun c s => cc0__sc_body (pt c s) xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2) ⟨⟩ c s := rfl

/-! ## A subcore's own buffers and semaphores -/

def scr : Fin 8 → Ref sig .scVector := ![cc0_scratch0, cc0_scratch1, cc0_scratch2, cc0_scratch3, cc0_scratch4, cc0_scratch5, cc0_scratch6, cc0_scratch7]
theorem scr_inj : Function.Injective scr := by decide
def sms : Fin 8 → SemLoc sig := ![.dma cc0_scratch8.sem, .dma cc0_scratch9.sem, .dma cc0_scratch10.sem, .dma cc0_scratch11.sem, .dma cc0_scratch12.sem, .dma cc0_scoped0.sem, .dma cc0_scoped1.sem, .dma cc0_scoped2.sem]
theorem sms_inj : Function.Injective sms := by decide

variable (d : Dev nD) (i : grid0.Coords)

def scrE : Fin 8 ↪ DevRef τ sig := ⟨fun k => (thr d i).2.devRef (scr k), fun _ _ h => scr_inj (Proc.devRef_injective _ h)⟩
def smsE : Fin 8 ↪ GSem nD τ sig := ⟨fun k => (thr d i, sms k), fun _ _ h => sms_inj (Prod.mk.inj h).2⟩

theorem bigSep_eight (Φ : Fin 8 → sProp (MM F)) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem sems_own : (ownSems0 (thr d i) : sProp (MM F))
    = iprop((semVal (thr d i, .dma cc0_scratch8.sem) 0 ∗ semVal (thr d i, .dma cc0_scratch9.sem) 0 ∗ semVal (thr d i, .dma cc0_scratch10.sem) 0
          ∗ semVal (thr d i, .dma cc0_scratch11.sem) 0 ∗ semVal (thr d i, .dma cc0_scratch12.sem) 0 ∗ semVal (thr d i, .dma cc0_scoped0.sem) 0
          ∗ semVal (thr d i, .dma cc0_scoped1.sem) 0 ∗ semVal (thr d i, .dma cc0_scoped2.sem) 0)
        ∗ bigSep (ownCells (thr d i) \ Finset.univ.map (smsE d i)) fun g => semVal g 0) := by
  have hsub : Finset.univ.map (smsE d i) ⊆ ownCells (thr d i) := by
    intro g hg
    obtain ⟨k, -, rfl⟩ := Finset.mem_map.mp hg
    exact mem_ownCells.mpr ⟨rfl, (show ∀ k : Fin 8, (sms k).isScoped .scVector = true by decide) k⟩
  unfold SparseCore.Cfg.ownSems0
  rw [SparseCore.bigSep_sdiff_split' hsub, bigSep_map, bigSep_eight]
  rfl

theorem bufs_own : (ownBufs (thr d i) : sProp (MM F))
    = iprop(((∃ f, bufW.view.loc (thr d i) ↦{fullShare} f) ∗ (∃ f, wvW.view.loc (thr d i) ↦{fullShare} f) ∗ (∃ f, bvW.view.loc (thr d i) ↦{fullShare} f)
          ∗ (∃ f, offW.view.loc (thr d i) ↦{fullShare} f) ∗ (∃ f, prbW.view.loc (thr d i) ↦{fullShare} f) ∗ (∃ f, midW.view.loc (thr d i) ↦{fullShare} f)
          ∗ (∃ f, shfW.view.loc (thr d i) ↦{fullShare} f) ∗ (∃ f, stgW.view.loc (thr d i) ↦{fullShare} f))
        ∗ bigSep (ownRefs (τ := τ) (thr d i).2 \ Finset.univ.map (scrE d i)) fun b => iprop(∃ f, ((d, b) : Loc nD τ sig) ↦{fullShare} f)) := by
  have hsub : Finset.univ.map (scrE d i) ⊆ ownRefs (τ := τ) (thr d i).2 := by
    intro g hg
    obtain ⟨k, -, rfl⟩ := Finset.mem_map.mp hg
    match k with
    | 0 => exact SparseCore.Cfg.mem_ownRefs_of_owner (p := (thr d i).2) (b := (thr d i).2.devRef cc0_scratch0) rfl
    | 1 => exact SparseCore.Cfg.mem_ownRefs_of_owner (p := (thr d i).2) (b := (thr d i).2.devRef cc0_scratch1) rfl
    | 2 => exact SparseCore.Cfg.mem_ownRefs_of_owner (p := (thr d i).2) (b := (thr d i).2.devRef cc0_scratch2) rfl
    | 3 => exact SparseCore.Cfg.mem_ownRefs_of_owner (p := (thr d i).2) (b := (thr d i).2.devRef cc0_scratch3) rfl
    | 4 => exact SparseCore.Cfg.mem_ownRefs_of_owner (p := (thr d i).2) (b := (thr d i).2.devRef cc0_scratch4) rfl
    | 5 => exact SparseCore.Cfg.mem_ownRefs_of_owner (p := (thr d i).2) (b := (thr d i).2.devRef cc0_scratch5) rfl
    | 6 => exact SparseCore.Cfg.mem_ownRefs_of_owner (p := (thr d i).2) (b := (thr d i).2.devRef cc0_scratch6) rfl
    | 7 => exact SparseCore.Cfg.mem_ownRefs_of_owner (p := (thr d i).2) (b := (thr d i).2.devRef cc0_scratch7) rfl
  unfold SparseCore.Cfg.ownBufs
  refine (SparseCore.bigSep_sdiff_split' hsub).trans ?_
  rw [bigSep_map, bigSep_eight]
  rfl

/-! ## What the call hands out -/

variable (m : (ℓ : Loc nD τ sig) → Buf (Elt F) ℓ) (ρ : Dev nD → PrngReg)

/-- Where the TensorCore's array `b` lies. -/
abbrev aLoc (d : Dev nD) (b : Ref sig .tc) : Loc nD τ sig := (SparseCore.T d).loc b

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev a3 : DevRef τ sig := Proc.devRef .tc (main_arg3 : Ref sig .tc)
abbrev x0 : DevRef τ sig := Proc.devRef .tc (main_v0 : Ref sig .tc)
abbrev x1 : DevRef τ sig := Proc.devRef .tc (main_v1 : Ref sig .tc)
abbrev x2 : DevRef τ sig := Proc.devRef .tc (main_v2 : Ref sig .tc)
abbrev x3 : DevRef τ sig := Proc.devRef .tc (main_v3 : Ref sig .tc)

abbrev opX : HloOp τ sig (Elt F) := StableHlo.reshape main_arg0 main_v0 (rfl : (.f32 : EltTy) = .f32) shapeCasts_S320000x128_S40960000
abbrev opW : HloOp τ sig (Elt F) := StableHlo.reshape main_arg2 main_v1 (rfl : (.f32 : EltTy) = .f32) shapeCasts_S128x1_S128
abbrev opB : HloOp τ sig (Elt F) := StableHlo.unary main_arg3 main_v2 (broadcastInDim S16 ![0] bcast_S1_S16_0 : (⟨S1, .f32⟩ : BufTy).Contents (Elt F) → (⟨S16, .f32⟩ : BufTy).Contents (Elt F))

/-- The arrays at the launch, and at the call. -/
def V0 : Valuation τ sig (Elt F) := fun b => m (d, b)
def VC : Valuation τ sig (Elt F) := (opB (F := F)).result ((opW (F := F)).result ((opX (F := F)).result (V0 d m)))

/-- The rows, the numbers, the weights and the bias as the kernel reads them. -/
def xV : S40960000.Idx → F .f32 := VC d m x0
def nV : S320000.Idx → W := m (aLoc d main_arg1)
def wV : S128.Idx → F .f32 := VC d m x1
def bV : S16.Idx → F .f32 := VC d m x2

/-- The share of the arrays read that subcore `s` of core `c` holds. -/
def shr (c : Fin 2) (s : Fin 16) : PosShare TreeShare := Transfers.shareTok (Transfers.shareTok fullShare 2 c) 16 s

/-- What subcore `s` of core `c` reads. -/
def Read (c : Fin 2) (s : Fin 16) : sProp (MM F) :=
  iprop((aLoc d main_v0 ↦{shr c s} xV d m) ∗ (aLoc d main_arg1 ↦{shr c s} nV d m)
    ∗ (aLoc d main_v1 ↦{shr c s} wV d m) ∗ (aLoc d main_v2 ↦{shr c s} bV d m))

/-- The rows of the result subcore `s` of core `c` writes, holding `f`. -/
def Rows (c : Fin 2) (s : Fin 16) (f : Buf (Elt F) (aLoc d main_v3)) : sProp (MM F) :=
  aLoc d main_v3 ↦[outSet d (pt c s)]{fullShare} f

def Done (c : Fin 2) (s : Fin 16) (f : S256x256.Idx → F .f32) : Prop := Left (pt c s) (xV d m) (nV d m) (wV d m) (bV d m) f

def Out (c : Fin 2) (s : Fin 16) : sProp (MM F) := iprop(Read d m c s ∗ ∃ f, Rows d c s f)
def Back (c : Fin 2) (s : Fin 16) : sProp (MM F) := iprop(Read d m c s ∗ ∃ f, ⌜Done d m c s f⌝ ∗ Rows d c s f)

instance Out_storable (c : Fin 2) (s : Fin 16) : BI.Storable (upEmb : UEmb _ (MM F)) (Out d m c s) := by unfold Out Read Rows; infer_instance
instance Back_storable (c : Fin 2) (s : Fin 16) : BI.Storable (upEmb : UEmb _ (MM F)) (Back d m c s) := by unfold Back Read Rows; infer_instance

def P : (K (F := F)).Pay (nD := nD) (Val := Elt F) (Name := ℕ) (U := UU) where
  st := fun q d c => match q with | 0 => bigSep Finset.univ fun s : Fin 16 => Out d m c s
  dn := fun q d c => match q with | 0 => bigSep Finset.univ fun s : Fin 16 => Back d m c s
  go := fun q d c s => match q with | 0 => Out d m c s
  td := fun q d c s => match q with | 0 => Back d m c s
  x := fun _ _ => iprop(emp)

instance P_storable : (P (F := F) m).IsStorable where
  st q d c := match q with | 0 => (inferInstance : BI.Storable (upEmb : UEmb _ (MM F)) (bigSep Finset.univ fun s : Fin 16 => Out d m c s))
  dn q d c := match q with | 0 => (inferInstance : BI.Storable (upEmb : UEmb _ (MM F)) (bigSep Finset.univ fun s : Fin 16 => Back d m c s))
  go q d c s := match q with | 0 => Out_storable d m c s
  td q d c s := match q with | 0 => Back_storable d m c s

/-! ## A subcore's task -/

theorem task (c : Fin 2) (s : Fin 16) (O : CellTallies nD τ sig (HIx 1)) (W₀ : Waits sig (HIx 1)) (hO : ∀ g, O g none = 0) :
    iprop(levAts (K (F := F)).L (K (F := F)).lev ∗ emp ∗ Out d m c s
        ∗ scopedBufs (thr d (pt c s)) ∗ scopedSems0 (thr d (pt c s)) ∗ owes (thr d (pt c s)) O W₀)
      ⊢ WP d (pt c s) (cc0__sc_body (F := F) (pt c s) xW (Memref.isWhole_whole _) idW (Memref.isWhole_whole _) wW (Memref.isWhole_whole _) bW (Memref.isWhole_whole _) outW (Memref.isWhole_whole _) bufW (Memref.isWhole_whole _) wvW (Memref.isWhole_whole _) bvW (Memref.isWhole_whole _) offW (Memref.isWhole_whole _) prbW (Memref.isWhole_whole _) midW (Memref.isWhole_whole _) shfW (Memref.isWhole_whole _) stgW (Memref.isWhole_whole _) cc0_scratch8 cc0_scratch9 cc0_scratch10 cc0_scratch11 cc0_scratch12 cc0_scoped0 cc0_scoped1 cc0_scoped2)
        fun _ => iprop(Back d m c s ∗ scopedBufs (thr d (pt c s)) ∗ scopedSems0 (thr d (pt c s))
          ∗ ∃ W', ⌜∀ p ∈ W', p ∈ W₀ ∨ p.2 = none ∨ p.2 = some (0 : Fin 1)⌝ ∗ owes (thr d (pt c s)) O W') := by
  rw [(K (F := F)).scopedBufs_V facts d _ _, SparseCore.Cfg.scopedSems0_V (Val := Elt F) d _ _, bufs_own, sems_own]
  unfold Out Back Read Rows
  iintro ⟨#Hlv, -, ⟨⟨Hx, Hn, Hw, Hb⟩, %fo, Ho⟩, ⟨Hbufs, Hbr⟩, ⟨Hsems, Hsr⟩, HO⟩
  ihave Hmw := ((K (F := F)).mayWaits_none (thr := thr d (pt c s)) hO) $$ Hlv
  iapply (wp_post (d := d) (i := pt c s))
  isplitl [Hmw Hx Hn Hw Hb Ho Hbufs Hsems HO]
  · iapply (wp_body (d := d) (i := pt c s) (qx := shr c s) (qi := shr c s) (qw := shr c s) (qb := shr c s) (xf := xV d m) (ids := nV d m) (wf := wV d m) (bf := bV d m)
      (fo := fo) (O := O) (W₀ := W₀))
    isplitl [Hmw]; · iexact Hmw
    isplitl [Hx Hn Hw Hb Ho]
    · isplitl [Hx]; · iexact Hx
      isplitl [Hn]; · iexact Hn
      isplitl [Hw]; · iexact Hw
      isplitl [Hb]; · iexact Hb
      iexact Ho
    isplitl [Hbufs]; · iexact Hbufs
    isplitl [Hsems]; · iexact Hsems
    unfold Owe
    iexists W₀
    isplitr
    · ipureintro; exact fun p hp => .inl hp
    iexact HO
  iintro %_ ⟨⟨Hx, Hn, Hw, Hb, %f, %hf, Ho⟩, Hbufs, Hsems, HO⟩
  unfold Owe
  icases HO with ⟨%W', %hW', HO⟩
  isplitl [Hx Hn Hw Hb Ho]
  · isplitl [Hx Hn Hw Hb]
    · isplitl [Hx]; · iexact Hx
      isplitl [Hn]; · iexact Hn
      isplitl [Hw]; · iexact Hw
      iexact Hb
    iexists f
    isplitr
    · ipureintro; exact hf
    iexact Ho
  isplitl [Hbufs Hbr]
  · isplitl [Hbufs]; · iexact Hbufs
    iexact Hbr
  isplitl [Hsems Hsr]
  · isplitl [Hsems]; · iexact Hsems
    iexact Hsr
  iexists W'
  isplitr
  · ipureintro; exact fun p hp => (hW' p hp).imp_right Or.inl
  iexact HO

theorem tileObl : (K (F := F)).TileObl (D (F := F)) 𝒱 (P m) v₀ 0 := by
  intro d c s O W₀ hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs_vector]
  simp only [SparseCore.onTile, hc, and_self, ↓reduceDIte]
  have h := task d m c s O W₀ hO
  unfold WP at h
  exact h

theorem vecSplit : (K (F := F)).VecSplit' (P m) 0 := by
  intro d c
  show (bigSep Finset.univ fun s : Fin 16 => Out d m c s) ⊢ |={Set.univ}=> iprop((bigSep Finset.univ fun s : Fin 16 => Out d m c s)
    ∗ ((bigSep Finset.univ fun s : Fin 16 => Back d m c s) -∗ bigSep Finset.univ fun s : Fin 16 => Back d m c s))
  iintro H
  imodintro
  isplitl [H]; · iexact H
  iintro H
  iexact H

end Cert.Proof.Tile

end
-- ==== Proof.Run.lean ====
/-
  The run of the whole program over any float values: the arrays dealt to the subcores and gathered again, @main on the
  TensorCore, and what the memory holds at the end.
-/
module

public import proofs.«01_k».proof.Proof.Launch

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F] (d : Dev nD) (m : (ℓ : Loc nD τ sig) → Buf (Elt F) ℓ) (ρ : Dev nD → PrngReg)

/-! ## Dealing the arrays out -/

/-- What the dealer keeps of an array read by all. -/
def Kept (b : Ref sig .tc) (f : Buf (Elt F) (aLoc d b)) : sProp (MM F) :=
  iprop((aLoc d b ↦{Transfers.shareDrop fullShare 2} f) ∗ bigSep Finset.univ fun c : Fin 2 => aLoc d b ↦{Transfers.shareDrop (Transfers.shareTok fullShare 2 c) 16} f)

theorem deal (b : Ref sig .tc) (f : Buf (Elt F) (aLoc d b)) : (aLoc d b ↦{fullShare} f : sProp (MM F))
    = iprop(Kept d b f ∗ bigSep Finset.univ fun c : Fin 2 => bigSep Finset.univ fun s : Fin 16 => aLoc d b ↦{shr c s} f) := by
  unfold Kept
  have e : ∀ (q : PosShare TreeShare) (n : ℕ), (aLoc d b ↦{q} f : sProp (MM F))
      = iprop((aLoc d b ↦{Transfers.shareDrop q n} f) ∗ bigSep Finset.univ fun i : Fin n => aLoc d b ↦{Transfers.shareTok q n i} f) := fun q n => by
    have h := Transfers.pointsTo_toks (Ix := HIx 1) (Name := ℕ) (U := UU) (Lvl := ℕ) (ℓ := aLoc d b) (S := Finset.univ) (f := f) q n
    exact BI.equiv_iff.mp ⟨h.1, h.2⟩
  have e2 : (bigSep Finset.univ fun c : Fin 2 => aLoc d b ↦{Transfers.shareTok fullShare 2 c} f : sProp (MM F))
      = iprop((bigSep Finset.univ fun c : Fin 2 => aLoc d b ↦{Transfers.shareDrop (Transfers.shareTok fullShare 2 c) 16} f)
        ∗ bigSep Finset.univ fun c : Fin 2 => bigSep Finset.univ fun s : Fin 16 => aLoc d b ↦{shr c s} f) := by
    rw [bigSep_congr fun c _ => e (Transfers.shareTok fullShare 2 c) 16, bigSep_sep']
    rfl
  rw [e fullShare 2, e2]
  have h := Laws.sep_assoc (P := (aLoc d b ↦{Transfers.shareDrop fullShare 2} f : sProp (MM F)))
    (Q := bigSep Finset.univ fun c : Fin 2 => aLoc d b ↦{Transfers.shareDrop (Transfers.shareTok fullShare 2 c) 16} f)
    (R := bigSep Finset.univ fun c : Fin 2 => bigSep Finset.univ fun s : Fin 16 => aLoc d b ↦{shr c s} f)
  exact (BI.equiv_iff.mp ⟨h.1, h.2⟩).symm

/-- A row of the result among those subcore `s` of core `c` writes. -/
theorem mem_outSet (c : Fin 2) (s : Fin 16) {y : S256x256.Idx} :
    y ∈ outSet d (pt c s) ↔ 8 * (s.val * 2 + c.val) ≤ (y 0).val ∧ (y 0).val < 8 * (s.val * 2 + c.val) + 8 := by
  have e := off172_eq (pt c s)
  have e0 : k0_off172 (pt c s) 0 = 8 * (s.val * 2 + c.val) := congrFun e 0
  have e1 : k0_off172 (pt c s) 1 = 0 := congrFun e 1
  constructor
  · intro hy
    obtain ⟨x, -, hx⟩ := Finset.mem_map.mp hy
    have hx0 : (x 0).val < 8 := (x 0).isLt
    have hy0 : k0_off172 (pt c s) 0 + 1 * (x 0).val = (y 0).val := congrArg (fun z : S256x256.Idx => (z 0).val) hx
    omega
  · rintro ⟨h1, h2⟩
    have hz : (y 0).val - 8 * (s.val * 2 + c.val) < 8 := by omega
    have hz1 : (y 1).val < 256 := (y 1).isLt
    refine Finset.mem_map.mpr ⟨fun | 0 => ⟨(y 0).val - 8 * (s.val * 2 + c.val), hz⟩ | 1 => ⟨(y 1).val, hz1⟩, Finset.mem_univ _, funext fun a => ?_⟩
    match a with
    | 0 => exact Fin.ext (by show k0_off172 (pt c s) 0 + 1 * ((y 0).val - 8 * (s.val * 2 + c.val)) = (y 0).val; omega)
    | 1 => exact Fin.ext (by show k0_off172 (pt c s) 1 + 1 * (y 1).val = (y 1).val; omega)

def oSet (p : Fin 2 × Fin 16) : Finset (Idx (aLoc d main_v3)) := outSet d (pt p.1 p.2)

theorem out_disj : ∀ p ∈ (Finset.univ : Finset (Fin 2 × Fin 16)), ∀ p' ∈ (Finset.univ : Finset (Fin 2 × Fin 16)), p ≠ p' → Disjoint (oSet d p) (oSet d p') := by
  intro p _ p' _ h
  refine Finset.disjoint_left.mpr fun y h1 h2 => ?_
  have h1 := (mem_outSet d p.1 p.2).mp h1
  have h2 := (mem_outSet d p'.1 p'.2).mp h2
  have b1 := p.1.isLt
  have b2 := p'.1.isLt
  exact h (Prod.ext (Fin.ext (by omega)) (Fin.ext (by omega)))

theorem out_cover : (Finset.univ.biUnion fun p : Fin 2 × Fin 16 => oSet d p) = Finset.univ := by
  refine Finset.eq_univ_of_forall fun y => ?_
  have hy : ((y : S256x256.Idx) 0).val < 256 := ((y : S256x256.Idx) 0).isLt
  refine Finset.mem_biUnion.mpr ⟨(⟨((y : S256x256.Idx) 0).val / 8 % 2, by omega⟩, ⟨((y : S256x256.Idx) 0).val / 8 / 2, by omega⟩), Finset.mem_univ _, (mem_outSet d _ _).mpr ?_⟩
  dsimp only
  omega

theorem rows_split (f : Buf (Elt F) (aLoc d main_v3)) : (aLoc d main_v3 ↦{fullShare} f : sProp (MM F))
    = bigSep Finset.univ fun c : Fin 2 => bigSep Finset.univ fun s : Fin 16 => Rows d c s f := by
  rw [← bigSep_univ_prod (fun p : Fin 2 × Fin 16 => (Rows d p.1 p.2 f : sProp (MM F)))]
  have h := pointsTo_biUnion (Ix := HIx 1) (Name := ℕ) (U := UU) (Lvl := ℕ) (ℓ := aLoc d main_v3) (q := fullShare) (f := f) Finset.univ (oSet d) (out_disj d)
  rw [out_cover] at h
  exact h

theorem rows_join : (bigSep Finset.univ fun c : Fin 2 => bigSep Finset.univ fun s : Fin 16 => iprop(∃ f, ⌜Done d m c s f⌝ ∗ Rows d c s f))
    ⊢ (iprop(∃ f, ⌜∀ c s, Done d m c s f⌝ ∗ aLoc d main_v3 ↦{fullShare} f) : sProp (MM F)) := by
  rw [← bigSep_univ_prod (fun p : Fin 2 × Fin 16 => (iprop(∃ f, ⌜Done d m p.1 p.2 f⌝ ∗ Rows d p.1 p.2 f) : sProp (MM F)))]
  refine (bigSep_exists_pi Finset.univ (fun (p : Fin 2 × Fin 16) (f : Buf (Elt F) (aLoc d main_v3)) => iprop(⌜Done d m p.1 p.2 f⌝ ∗ Rows d p.1 p.2 f))).trans ?_
  iintro ⟨%fs, H⟩
  ihave H2 := (bigSep_pure_sep (Finset.univ : Finset (Fin 2 × Fin 16)) (fun p => Done d m p.1 p.2 (fs p)) (fun p => (Rows d p.1 p.2 (fs p) : sProp (MM F)))) $$ H
  icases H2 with ⟨%hD, H⟩
  ihave H := (Entails.of_eq (show (bigSep Finset.univ fun p : Fin 2 × Fin 16 => Rows d p.1 p.2 (fs p) : sProp (MM F)) = bigSep Finset.univ fun p => aLoc d main_v3 ↦[oSet d p]{fullShare} fs p from rfl)) $$ H
  ihave H3 := (pointsTo_biUnion_join (Ix := HIx 1) (Name := ℕ) (U := UU) (Lvl := ℕ) (ℓ := aLoc d main_v3) (q := fullShare) Finset.univ (oSet d) fs (fs (0, 0)) (out_disj d)) $$ H
  icases H3 with ⟨%g, %hg, Hg⟩
  rw [out_cover]
  iexists g
  isplitr
  · ipureintro
    intro c s hR x
    have h1 := hg (c, s) (Finset.mem_univ _) ((outM (pt c s)).view.emb x) (Finset.mem_map_of_mem _ (Finset.mem_univ x))
    exact h1.trans (hD (c, s) (Finset.mem_univ _) hR x)
  iexact Hg

theorem two_sep (Φ Ψ : Fin 2 → Fin 16 → sProp (MM F)) :
    (bigSep Finset.univ fun c => bigSep Finset.univ fun s => iprop(Φ c s ∗ Ψ c s))
      = iprop((bigSep Finset.univ fun c => bigSep Finset.univ fun s => Φ c s) ∗ bigSep Finset.univ fun c => bigSep Finset.univ fun s => Ψ c s) := by
  rw [bigSep_congr fun c _ => bigSep_sep' Finset.univ (Φ c) (Ψ c), bigSep_sep']

theorem read_eq : (bigSep Finset.univ fun c : Fin 2 => bigSep Finset.univ fun s : Fin 16 => Read d m c s : sProp (MM F))
    = iprop((bigSep Finset.univ fun c : Fin 2 => bigSep Finset.univ fun s : Fin 16 => aLoc d main_v0 ↦{shr c s} xV d m)
      ∗ (bigSep Finset.univ fun c : Fin 2 => bigSep Finset.univ fun s : Fin 16 => aLoc d main_arg1 ↦{shr c s} nV d m)
      ∗ (bigSep Finset.univ fun c : Fin 2 => bigSep Finset.univ fun s : Fin 16 => aLoc d main_v1 ↦{shr c s} wV d m)
      ∗ bigSep Finset.univ fun c : Fin 2 => bigSep Finset.univ fun s : Fin 16 => aLoc d main_v2 ↦{shr c s} bV d m) := by
  unfold Read
  rw [two_sep, two_sep, two_sep]

theorem st_eq : (bigSep Finset.univ fun c : Fin ((K (F := F)).nCore 0) => (P m).st 0 d c)
    = iprop((bigSep Finset.univ fun c : Fin 2 => bigSep Finset.univ fun s : Fin 16 => Read d m c s)
      ∗ bigSep Finset.univ fun c : Fin 2 => bigSep Finset.univ fun s : Fin 16 => iprop(∃ f, Rows d c s f)) :=
  two_sep (fun c s => Read d m c s) (fun c s => iprop(∃ f, Rows d c s f))
theorem dn_eq : (bigSep Finset.univ fun c : Fin ((K (F := F)).nCore 0) => (P m).dn 0 d c)
    = iprop((bigSep Finset.univ fun c : Fin 2 => bigSep Finset.univ fun s : Fin 16 => Read d m c s)
      ∗ bigSep Finset.univ fun c : Fin 2 => bigSep Finset.univ fun s : Fin 16 => iprop(∃ f, ⌜Done d m c s f⌝ ∗ Rows d c s f)) :=
  two_sep (fun c s => Read d m c s) (fun c s => iprop(∃ f, ⌜Done d m c s f⌝ ∗ Rows d c s f))

/-! ## The launch element -/

theorem emps {I : Type} (s : Finset I) : (bigSep s fun _ => iprop(emp)) = (iprop(emp) : sProp (MM F)) := bigSep_emp_const s

def u₀ : UU := (initOf (K (F := F)).hsCells (K (F := F)).hsToks, 1)

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => emps _, emps]
  iempintro

/-! ## @main on the TensorCore -/

abbrev arrs : Finset (DevRef τ sig) := {a0, a1, a2, a3, x0, x1, x2, x3}

theorem held_eq (W : Valuation τ sig (Elt F)) :
    (held (T d) arrs W : sProp (MM F)) = iprop((aLoc d main_arg0 ↦{fullShare} W a0) ∗ (aLoc d main_arg1 ↦{fullShare} W a1) ∗ (aLoc d main_arg2 ↦{fullShare} W a2)
      ∗ (aLoc d main_arg3 ↦{fullShare} W a3) ∗ (aLoc d main_v0 ↦{fullShare} W x0) ∗ (aLoc d main_v1 ↦{fullShare} W x1) ∗ (aLoc d main_v2 ↦{fullShare} W x2)
      ∗ aLoc d main_v3 ↦{fullShare} W x3) := by
  unfold held arrs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_eq : (unscopedBufs d (fun b => m (aLoc d b)) : sProp (MM F)) = held (T d) arrs (V0 d m) := by
  rw [held_eq]
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem hX : (opX (F := F)).bufs ⊆ arrs := show ({a0, x0} : Finset (DevRef τ sig)) ⊆ arrs by decide
theorem hW : (opW (F := F)).bufs ⊆ arrs := show ({a2, x1} : Finset (DevRef τ sig)) ⊆ arrs by decide
theorem hB : (opB (F := F)).bufs ⊆ arrs := show ({a3, x2} : Finset (DevRef τ sig)) ⊆ arrs by decide

theorem VC_arg (b : DevRef τ sig) (h0 : b ∉ ({x0} : Finset (DevRef τ sig))) (h1 : b ∉ ({x1} : Finset (DevRef τ sig))) (h2 : b ∉ ({x2} : Finset (DevRef τ sig))) :
    VC d m b = V0 d m b :=
  ((opB (F := F)).result_of_not_mem _ h2).trans (((opW (F := F)).result_of_not_mem _ h1).trans ((opX (F := F)).result_of_not_mem _ h0))

theorem held_VC : (held (T d) arrs (VC d m) : sProp (MM F))
    = iprop((aLoc d main_arg0 ↦{fullShare} m (aLoc d main_arg0)) ∗ (aLoc d main_arg1 ↦{fullShare} nV d m) ∗ (aLoc d main_arg2 ↦{fullShare} m (aLoc d main_arg2))
      ∗ (aLoc d main_arg3 ↦{fullShare} m (aLoc d main_arg3)) ∗ (aLoc d main_v0 ↦{fullShare} xV d m) ∗ (aLoc d main_v1 ↦{fullShare} wV d m) ∗ (aLoc d main_v2 ↦{fullShare} bV d m)
      ∗ aLoc d main_v3 ↦{fullShare} m (aLoc d main_v3)) := by
  rw [held_eq, VC_arg d m a0 (by decide) (by decide) (by decide), VC_arg d m a1 (by decide) (by decide) (by decide), VC_arg d m a2 (by decide) (by decide) (by decide),
    VC_arg d m a3 (by decide) (by decide) (by decide), VC_arg d m x3 (by decide) (by decide) (by decide)]
  rfl

/-- What @main leaves: the arguments, and the rows of the result. -/
def FIN : sProp (MM F) :=
  iprop((aLoc d main_arg0 ↦{fullShare} m (aLoc d main_arg0)) ∗ (aLoc d main_arg1 ↦{fullShare} m (aLoc d main_arg1)) ∗ (aLoc d main_arg2 ↦{fullShare} m (aLoc d main_arg2))
    ∗ (aLoc d main_arg3 ↦{fullShare} m (aLoc d main_arg3)) ∗ ∃ f, ⌜∀ c s, Done d m c s f⌝ ∗ aLoc d main_v3 ↦{fullShare} f)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN d m ∗ (K (F := F)).tcEnd d) := by
  unfold SparseCore.Cfg.tcRes SparseCore.Cfg.tcEnd
  rw [show (unscopedBufs d (fun b => m ((SparseCore.T d).loc b)) : sProp (MM F)) = held (T d) arrs (V0 d m) from unscoped_eq d m]
  simp only [main, wp_bind, wp_pure]
  iintro ⟨#Hctx, Hst, ⟨Hb, Hheld, Hts, -⟩, -⟩
  iapply (wp_hlo_within 𝒱 (SparseCore.T d) none Set.univ (op := opX) (S := arrs) hX (V := V0 d m)) $$ [Hb Hheld]
  · isplitl [Hb]; · iexact Hb
    iexact Hheld
  iintro ⟨Hb, Hheld⟩
  rw [wp_ret]; imodintro
  iapply (wp_hlo_within 𝒱 (SparseCore.T d) none Set.univ (op := opW) (S := arrs) hW (V := (opX (F := F)).result (V0 d m))) $$ [Hb Hheld]
  · isplitl [Hb]; · iexact Hb
    iexact Hheld
  iintro ⟨Hb, Hheld⟩
  rw [wp_ret]; imodintro
  iapply (wp_hlo_within 𝒱 (SparseCore.T d) none Set.univ (op := opB) (S := arrs) hB (V := (opW (F := F)).result ((opX (F := F)).result (V0 d m)))) $$ [Hb Hheld]
  · isplitl [Hb]; · iexact Hb
    iexact Hheld
  iintro ⟨Hb, Hheld⟩
  rw [wp_ret]; imodintro
  ihave Hheld := (Entails.of_eq (show (held (T d) arrs ((opB (F := F)).result ((opW (F := F)).result ((opX (F := F)).result (V0 d m)))) : sProp (MM F)) = held (T d) arrs (VC d m) from rfl)) $$ Hheld
  ihave Hh := (Entails.of_eq (held_VC (F := F) d m)) $$ Hheld
  icases Hh with ⟨H0, H1, H2, H3, Hx, Hw, Hv, Ho⟩
  ihave Hx' := (Entails.of_eq (deal (F := F) d main_v0 (xV d m))) $$ Hx
  ihave H1' := (Entails.of_eq (deal (F := F) d main_arg1 (nV d m))) $$ H1
  ihave Hw' := (Entails.of_eq (deal (F := F) d main_v1 (wV d m))) $$ Hw
  ihave Hv' := (Entails.of_eq (deal (F := F) d main_v2 (bV d m))) $$ Hv
  icases Hx' with ⟨Kx, Hx⟩
  icases H1' with ⟨K1, H1⟩
  icases Hw' with ⟨Kw, Hw⟩
  icases Hv' with ⟨Kv, Hv⟩
  iapply ((K (F := F)).wp_run (D (F := F)) 𝒱 (EH := EH) (P := P m) κ d 0) $$ [Hst H0 H2 H3 Kx Hx K1 H1 Kw Hw Kv Hv Ho Hb Hts]
  isplitr; · iexact Hctx
  isplitl [Hst]; · iexact Hst
  isplitl [Hx H1 Hw Hv Ho]
  · rw [st_eq, read_eq]
    isplitl [Hx H1 Hw Hv]
    · isplitl [Hx]; · iexact Hx
      isplitl [H1]; · iexact H1
      isplitl [Hw]; · iexact Hw
      iexact Hv
    ihave Ho' := (Entails.of_eq (rows_split (F := F) d (m (aLoc d main_v3)))) $$ Ho
    have hmono : (bigSep Finset.univ fun c : Fin 2 => bigSep Finset.univ fun s : Fin 16 => Rows d c s (m (aLoc d main_v3)) : sProp (MM F))
        ⊢ bigSep Finset.univ fun c : Fin 2 => bigSep Finset.univ fun s : Fin 16 => iprop(∃ f, Rows d c s f) :=
      have h1 : ∀ (c : Fin 2) (s : Fin 16), (Rows d c s (m (aLoc d main_v3)) : sProp (MM F)) ⊢ iprop(∃ f, Rows d c s f) := fun c s => by
        iintro H
        iexists (m (aLoc d main_v3))
        iexact H
      BI.bigSep_mono fun c _ => BI.bigSep_mono fun s _ => h1 c s
    iapply hmono
    iexact Ho'
  iintro ⟨Hst, Hdn⟩
  ihave Hdn' := (Entails.of_eq ((dn_eq (F := F) d m).trans (congrArg (fun R => iprop(R ∗ _)) (read_eq d m)))) $$ Hdn
  icases Hdn' with ⟨⟨Hx, H1, Hw, Hv⟩, Ho⟩
  ihave H1' := (Entails.of_eq (deal (F := F) d main_arg1 (nV d m)).symm) $$ [K1 H1]
  · isplitl [K1]; · iexact K1
    iexact H1
  ihave Ho' := (rows_join (F := F) d m) $$ Ho
  imodintro
  isplitl [Hst]; · iexact Hst
  isplitr [Hb Hts]
  · unfold FIN
    isplitl [H0]; · iexact H0
    isplitl [H1']; · iexact H1'
    isplitl [H2]; · iexact H2
    isplitl [H3]; · iexact H3
    iexact Ho'
  isplitl [Hb] <;> iassumption

/-! ## The run -/

/-- What the memory holds at the end. -/
def fq (s' : Phys nD τ sig (Elt F)) : Prop :=
  (s'.mem.mem (aLoc d main_arg0) = m (aLoc d main_arg0) ∧ s'.mem.mem (aLoc d main_arg1) = m (aLoc d main_arg1) ∧ s'.mem.mem (aLoc d main_arg2) = m (aLoc d main_arg2)
    ∧ s'.mem.mem (aLoc d main_arg3) = m (aLoc d main_arg3)) ∧ ∀ c s, Done d m c s (s'.mem.mem (aLoc d main_v3))

theorem hfin (d : Dev nD) (s' : Phys nD τ sig (Elt F)) : iprop(FIN d m ∗ SI s') ⊢ (⌜fq d m s'⌝ : sProp (MM F)) := by
  have look : ∀ (b : Ref sig .tc) (f : Buf (Elt F) (aLoc d b)), (iprop(SI s' ∗ aLoc d b ↦{fullShare} f) : sProp (MM F)) ⊢ iprop(⌜s'.mem.mem (aLoc d b) = f⌝ ∗ SI s') := by
    intro b f
    iintro H
    ihave H2 := (persistent_entails_right (SI_pointsTo_agree (st := s') (ℓ := aLoc d b) (I := Finset.univ) (q := fullShare) (f := f))) $$ H
    icases H2 with ⟨%h, HSI, -⟩
    isplitr
    · ipureintro; exact funext fun x => h x (Finset.mem_univ x)
    iexact HSI
  unfold FIN
  iintro ⟨⟨H0, H1, H2, H3, %f, %hf, Ho⟩, HSI⟩
  ihave H := (look main_arg0 _) $$ [HSI H0]
  · isplitl [HSI] <;> iassumption
  icases H with ⟨%h0, HSI⟩
  ihave H := (look main_arg1 _) $$ [HSI H1]
  · isplitl [HSI] <;> iassumption
  icases H with ⟨%h1, HSI⟩
  ihave H := (look main_arg2 _) $$ [HSI H2]
  · isplitl [HSI] <;> iassumption
  icases H with ⟨%h2, HSI⟩
  ihave H := (look main_arg3 _) $$ [HSI H3]
  · isplitl [HSI] <;> iassumption
  icases H with ⟨%h3, HSI⟩
  ihave H := (look main_v3 f) $$ [HSI Ho]
  · isplitl [HSI] <;> iassumption
  icases H with ⟨%h4, HSI⟩
  ipureintro
  exact ⟨⟨h0, h1, h2, h3⟩, fun c s => by rw [h4]; exact hf c s⟩

/-- The arguments are unchanged, every subcore's rows of the result are as `Done` states, every semaphore is back at zero. -/
def QC : PUnit × MemSt nD τ sig (Elt F) → Prop := fun r =>
  (∀ c : Dev nD, (r.2.mem (aLoc c main_arg0) = m (aLoc c main_arg0) ∧ r.2.mem (aLoc c main_arg1) = m (aLoc c main_arg1) ∧ r.2.mem (aLoc c main_arg2) = m (aLoc c main_arg2)
    ∧ r.2.mem (aLoc c main_arg3) = m (aLoc c main_arg3)) ∧ ∀ k s, Done c m k s (r.2.mem (aLoc c main_v3))) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (fun d => FIN d m) (u₀ (F := F)) (sep_elim_left.trans (hu₀ m)) (hmain m ρ) (fun d => fq d m) (hfin m) (QC m) (fun _ h hz => ⟨h, hz⟩)

end Cert.Proof.Tile

end
-- ==== Proof.Sums.lean ====
/-
  What a run of rows leaves in the running vectors, over the extended reals: sums of weighted rows and maxima of rows.
  The sum over lanes by four shuffles is the sum over the lanes, and the quotient of exponentials is the hyperbolic
  tangent where its argument is a real number.
-/
module

public import proofs.«01_k».proof.Proof.Spec
public import Idealize.ShloMosaic.PureOps.Ideal.Laws
public import Idealize.ShloMosaic.Lib.IdealHost

@[expose] public section

noncomputable section

namespace Cert.Proof.Tile

open Cert.KernelIdeal Cert.KernelIdeal.Gen Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sum {ι : Type} (t : Finset ι) (f : ι → EReal) (h : ∀ i ∈ t, IsReal (f i)) : IsReal (∑ i ∈ t, f i) :=
  Finset.sum_induction f IsReal (fun _ _ => IsReal.add) ⟨0, EReal.coe_zero.symm⟩ h

/-- The lane of a number. -/
abbrev lnI (k : Fin 16) : S16.Idx := fun a => ⟨k.val, by rw [Fin.eq_zero a]; exact k.isLt⟩

theorem eq_lnI (l : S16.Idx) : ∃ k : Fin 16, l = lnI k :=
  ⟨l 0, by funext a; rw [Fin.eq_zero a]⟩

/-- The lane whose number is the exclusive or. -/
abbrev lnX (k : Fin 16) (c : Nat) : Fin 16 := ⟨(k.val ^^^ c) % 16, Nat.mod_lt _ (by decide)⟩

/-- Adding up over the exclusive ors with eight, four, two and one reaches every lane once. -/
theorem sum_xor (u : Fin 16 → EReal) (k : Fin 16) :
    (let p1 : Fin 16 → EReal := fun k => u k + u (lnX k 8)
     let p2 : Fin 16 → EReal := fun k => p1 k + p1 (lnX k 4)
     let p3 : Fin 16 → EReal := fun k => p2 k + p2 (lnX k 2)
     p3 k + p3 (lnX k 1)) = ∑ k, u k := by
  simp only [Fin.sum_univ_succ, Fin.sum_univ_zero]
  fin_cases k <;> simp [lnX] <;> abel

/-- The four shuffles add up all lanes. -/
theorem lanesum_eq (v : FV Ideal) (l : S16.Idx) : lanesum v l = ∑ k : Fin 16, (v (lnI k) : EReal) := by
  obtain ⟨k, rfl⟩ := eq_lnI l
  exact sum_xor (fun k => (v (lnI k) : EReal)) k

/-- The lanes of a row's products added up: the row's dot product with the weights. -/
theorem partialDot_eq (ws x : Fin 8 → FV Ideal) (l : S16.Idx) : partialDot ws x l = ∑ j : Fin 8, (x j l * ws j l : EReal) := by
  rw [Fin.sum_univ_eight]
  rfl

/-- A number below 128 as a number of sixteens and a rest. -/
theorem sum_128 (f : Nat → EReal) : ∑ k : Fin 16, ∑ j : Fin 8, f (16 * j.val + k.val) = ∑ c : Fin 128, f c.val := by
  rw [Finset.sum_comm, ← Fintype.sum_prod_type' (f := fun (j : Fin 8) (k : Fin 16) => f (16 * j.val + k.val))]
  refine Fintype.sum_equiv (finProdFinEquiv (m := 8) (n := 16)) _ (fun c : Fin 128 => f c.val) fun p => ?_
  rw [show ((finProdFinEquiv (m := 8) (n := 16) p : Fin 128)).val = p.2.val + 16 * p.1.val from rfl, Nat.add_comm]

theorem dot_eq (g h : Nat → EReal) (n : Nat) (l : S16.Idx) :
    lanesum (F := Ideal) (partialDot (rowAt h 0) (rowAt g n)) l = ∑ c : Fin 128, g (n + c.val) * h c.val := by
  rw [lanesum_eq, ← sum_128 fun c => g (n + c) * h c]
  refine Finset.sum_congr rfl fun k _ => ?_
  rw [partialDot_eq]
  refine Finset.sum_congr rfl fun j _ => ?_
  show g (n + 16 * j.val + k.val) * h (0 + 16 * j.val + k.val) = _
  rw [Nat.zero_add, Nat.add_assoc]

/-- The weight is the hyperbolic tangent where the dot product and the bias are real numbers. -/
theorem weightOf_eq (bv s : FV Ideal) (l : S16.Idx) (h : IsReal (s l + bv l : EReal)) : weightOf bv s l = Ideal.tanh (s l + bv l) := by
  show Ideal.div (Ideal.exp ((s l + bv l : EReal) + (s l + bv l)) - Ideal.ofBits .f32 0x3F800000#32)
    (Ideal.exp ((s l + bv l : EReal) + (s l + bv l)) + Ideal.ofBits .f32 0x3F800000#32) = _
  obtain ⟨r, e⟩ := h
  rw [e, Ideal.ofBits_one_f32, ← EReal.coe_add, ← EReal.coe_one]
  show Ideal.div (((Real.exp (r + r) : ℝ) : EReal) - ((1 : ℝ) : EReal)) (((Real.exp (r + r) : ℝ) : EReal) + ((1 : ℝ) : EReal)) = ((Real.tanh r : ℝ) : EReal)
  rw [← EReal.coe_add, ← EReal.coe_sub]
  have hp : Real.exp (r + r) + 1 ≠ 0 := by positivity
  unfold Ideal.div
  rw [if_neg (by exact_mod_cast hp), ← EReal.coe_inv, ← EReal.coe_mul]
  congr 1
  rw [Real.tanh_eq_sinh_div_cosh, Real.sinh_eq, Real.cosh_eq, Real.exp_neg, Real.exp_add]
  rw [Real.exp_add] at hp
  have h0 : Real.exp r ≠ 0 := (Real.exp_pos r).ne'
  have h1 : Real.exp r + (Real.exp r)⁻¹ ≠ 0 := by positivity
  field_simp

theorem accStep_lo (wt : FV Ideal) (x : Fin 8 → FV Ideal) (a : Fin 16 → FV Ideal) (j : Fin 8) (l : S16.Idx) :
    accStep wt x a ⟨j.val, by omega⟩ l = (a ⟨j.val, by omega⟩ l + x j l * wt l : EReal) := by
  fin_cases j <;> rfl

theorem accStep_hi (wt : FV Ideal) (x : Fin 8 → FV Ideal) (a : Fin 16 → FV Ideal) (j : Fin 8) (l : S16.Idx) :
    accStep wt x a ⟨8 + j.val, by omega⟩ l = (max (a ⟨8 + j.val, by omega⟩ l) (x j l) : EReal) := by
  fin_cases j <;> rfl

/-- The sums after a run of rows. -/
theorem rowsFold_lo (ws : Fin 8 → FV Ideal) (bv : FV Ideal) (R : Nat → Fin 8 → FV Ideal) (a : Fin 16 → FV Ideal) (lo n : Nat) (j : Fin 8) (l : S16.Idx) :
    rowsFold ws bv R a lo n ⟨j.val, by omega⟩ l =
      (a ⟨j.val, by omega⟩ l + ∑ k ∈ Finset.range n, R (lo + k) j l * weightOf bv (lanesum (partialDot ws (R (lo + k)))) l : EReal) := by
  induction n with
  | zero => exact (add_zero _).symm
  | succ n ih =>
    rw [Finset.sum_range_succ, ← add_assoc, ← ih]
    exact accStep_lo _ _ _ j l

/-- The maxima after a run of rows. -/
theorem rowsFold_hi (ws : Fin 8 → FV Ideal) (bv : FV Ideal) (R : Nat → Fin 8 → FV Ideal) (a : Fin 16 → FV Ideal) (lo n : Nat) (j : Fin 8) (l : S16.Idx) :
    rowsFold ws bv R a lo n ⟨8 + j.val, by omega⟩ l =
      (Finset.range n).fold max (a ⟨8 + j.val, by omega⟩ l : EReal) fun k => (R (lo + k) j l : EReal) := by
  induction n with
  | zero => rfl
  | succ n ih =>
    rw [Finset.range_add_one, Finset.fold_insert Finset.notMem_range_self, ← ih, max_comm]
    exact accStep_hi _ _ _ j l

end Cert.Proof.Tile
-- ==== Proof.Pre.lean ====
/-
  What the precondition says: the segment numbers ascend, and the rows, the weights and the bias are real numbers.
-/
module

public import proofs.«01_k».proof.Pre_sorted_finite
public import proofs.«01_k».proof.Proof.Sums
public import Idealize.ShloMosaic.Lib.ReduceAll
public import Idealize.ShloMosaic.Lib.WordCmp
public import Idealize.ShloMosaic.Lib.ValueIdx
public import Idealize.ShloMosaic.Lib.ValueIdxRank1
public import Idealize.ShloMosaic.Lib.Pipeline.Value

@[expose] public section

noncomputable section

namespace Cert.Proof.Pre

open Cert.Pre_sorted_finite Cert.Pre_sorted_finite.Facts Idealize.ShloMosaic Idealize.ShloMosaic.ValueIdx
open Cert.Proof.Tile (IsReal)

variable [Cert.Pre_sorted_finite.Facts]

theorem bits_top : Ideal.ofBits .f32 0x7F800000#32 = ⊤ := by simp [Ideal.ofBits, Ideal.ieee]

/-- An extended real below infinity in absolute value is a real number. -/
theorem isReal_of_abs {y : EReal} (h : Ideal.cmp .olt (max y (-y)) ⊤ = 1#1) : IsReal y := by
  have h' : max y (-y) < ⊤ := by
    by_contra hn
    rw [show Ideal.cmp .olt (max y (-y)) ⊤ = BitVec.ofBool (decide (max y (-y) < ⊤)) from rfl, decide_eq_false hn] at h
    exact absurd h (by decide)
  induction y using EReal.rec with
  | bot => simp at h'
  | coe r => exact ⟨r, rfl⟩
  | top => simp at h'

/-- One comparison of the finiteness tests. -/
theorem isReal_of_test {s : Shape} (y : FVec Ideal s .f32) (hb : S_.BroadcastsInDim s (![] : Fin 0 → Fin s.rank)) (i : s.Idx)
    (h : cmpf .olt (Host.absf y) (broadcastInDim s ![] hb (constant S_ .f32 0x7F800000#32)) i = 1#1) : IsReal (y i) := by
  rw [cmpf_apply, broadcastInDim_scalar_apply, constant_apply, bits_top] at h
  exact isReal_of_abs h

theorem decode (x : FVec Ideal S320000x128 .f32) (ids : IVec S320000 32) (w : FVec Ideal S128x1 .f32) (b : FVec Ideal S1 .f32)
    (h : fn (F := Ideal) x ids w b = fun _ => 1#1) :
    (∀ p (hp : p + 1 < 320000), (ids (ix1 (⟨p, by omega⟩ : Fin 320000))).toInt ≤ (ids (ix1 (⟨p + 1, hp⟩ : Fin 320000))).toInt)
      ∧ (∀ i, IsReal (x i)) ∧ (∀ i, IsReal (w i)) ∧ ∀ i, IsReal (b i) := by
  have h' := congrFun h ix0
  dsimp only [fn, fn_part1] at h'
  obtain ⟨h1, hb⟩ := IntOp.andi_eq_one.1 h'
  obtain ⟨h2, hw⟩ := IntOp.andi_eq_one.1 h1
  obtain ⟨hs, hx⟩ := IntOp.andi_eq_one.1 h2
  haveI : Subsingleton S_.Idx := ⟨fun a b => funext fun i => i.elim0⟩
  refine ⟨fun p hp => ?_, fun i => ?_, fun i => ?_, fun i => ?_⟩
  · have e := Host.reduce_andi_all _ _ _ _ _ hs (ix1 (⟨p, by omega⟩ : Fin 319999))
    have e1 : (ids (ix1 (⟨p, by omega⟩ : Fin 320000))).sle (ids (ix1 (⟨p + 1, hp⟩ : Fin 320000))) = true := by
      have e2 : IntOp.cmpi .sle (ids (ix1 (⟨p, by omega⟩ : Fin 320000))) (ids (ix1 (⟨p + 1, hp⟩ : Fin 320000))) = 1#1 := by
        refine Eq.trans ?_ e
        refine congrArg₂ (IntOp.cmpi .sle) (congrArg ids ?_) (congrArg ids ?_)
        · funext a; fin_cases a; apply Fin.ext; exact (Nat.zero_add p).symm
        · funext a; fin_cases a; apply Fin.ext; exact Nat.add_comm p 1
      by_contra hn
      rw [show IntOp.cmpi .sle (ids (ix1 (⟨p, by omega⟩ : Fin 320000))) (ids (ix1 (⟨p + 1, hp⟩ : Fin 320000)))
        = BitVec.ofBool ((ids (ix1 (⟨p, by omega⟩ : Fin 320000))).sle (ids (ix1 (⟨p + 1, hp⟩ : Fin 320000)))) from rfl, eq_false_of_ne_true hn] at e2
      exact absurd e2 (by decide)
    rwa [BitVec.sle_eq_decide, decide_eq_true_eq] at e1
  · exact isReal_of_test x _ i (Host.reduce_andi_all _ _ _ _ _ hx i)
  · exact isReal_of_test w _ i (Host.reduce_andi_all _ _ _ _ _ hw i)
  · exact isReal_of_test b _ i (Host.reduce_andi_all _ _ _ _ _ hb i)

end Cert.Proof.Pre
-- ==== Proof.Count.lean ====
/-
  What the binary search finds: over segment numbers in ascending order, each lane ends at the number of places that hold
  less than the lane's key. So the subcore's segments begin and end where they should, in ascending order.
-/
module

public import proofs.«01_k».proof.Proof.Body
public import Idealize.ShloMosaic.Lib.WordCmp

@[expose] public section

noncomputable section

namespace Cert.Proof.Tile

open Cert.KernelIdeal Cert.KernelIdeal.Gen Idealize.ShloMosaic Idealize.SL.Sem
open Idealize.ShloMosaic.Affine (IsInt)

/-- The segment number at a place, as a whole number. -/
def idN (ids : S320000.Idx → W) (p : Nat) : Int := (atN (n := 320000) ids p).toInt

/-- The segment numbers ascend. -/
def Ascends (ids : S320000.Idx → W) : Prop := ∀ p q, p ≤ q → q < 320000 → idN ids p ≤ idN ids q

theorem select_of {α : Type} {p : Prop} [Decidable p] (x y : α) : Scalar.select (BitVec.ofBool (decide p)) x y = if p then x else y := by
  unfold Scalar.select
  by_cases h : p <;> simp [h]

theorem lt_words {x y : W} (hx : x.toNat ≤ 320000) (hy : y.toNat ≤ 320000) : x.toInt < y.toInt ↔ x.toNat < y.toNat := by
  rw [int_eq (isInt_of rfl (by omega : x.toNat < 2 ^ 31)), int_eq (isInt_of rfl (by omega : y.toNat < 2 ^ 31))]
  omega

/-- After `k` rounds the places below the lower bound hold less than the key, those from the upper bound on do not, and the
    bounds are closer than `2 ^ (19 - k)`. -/
theorem search_inv {ids : S320000.Idx → W} (hs : Ascends ids) (g : IV) (l : S16.Idx) (k : Nat) (hk : k ≤ 19) :
    ((bs ids g k).1 l).toNat ≤ ((bs ids g k).2 l).toNat ∧ ((bs ids g k).2 l).toNat - ((bs ids g k).1 l).toNat < 2 ^ (19 - k)
      ∧ (∀ p, p < ((bs ids g k).1 l).toNat → idN ids p < (g l).toInt)
      ∧ ∀ p, ((bs ids g k).2 l).toNat ≤ p → p < 320000 → (g l).toInt ≤ idN ids p := by
  induction k with
  | zero =>
    refine ⟨(by decide : (0#32 : W).toNat ≤ (320000#32 : W).toNat), (by decide : (320000#32 : W).toNat - (0#32 : W).toNat < 2 ^ 19), ?_, ?_⟩
    · intro p hp
      exact absurd (show p < 0 from hp) (Nat.not_lt_zero _)
    · intro p h1 h2
      exact absurd (show 320000 ≤ p from h1) (by omega)
  | succ k ih =>
    obtain ⟨i1, i2, i3, i4⟩ := ih (by omega)
    have hb := bs_bounds ids g k l
    have hm := midV_toNat hb.1 hb.2
    have e1 : (bs ids g (k + 1)).1 l = if ((bs ids g k).1 l).toNat < ((bs ids g k).2 l).toNat then
        (if (g l).toInt ≤ idN ids (midV (bs ids g k).1 (bs ids g k).2 l).toNat then (bs ids g k).1 l else midV (bs ids g k).1 (bs ids g k).2 l + 1#32) else (bs ids g k).1 l := by
      refine Eq.trans (b := Scalar.select (IntOp.cmpi .slt ((bs ids g k).1 l) ((bs ids g k).2 l)) (Scalar.select (IntOp.cmpi .sge (probeV ids (midV (bs ids g k).1 (bs ids g k).2) l) (g l)) ((bs ids g k).1 l) (midV (bs ids g k).1 (bs ids g k).2 l + 1#32)) ((bs ids g k).1 l)) rfl ?_
      rw [WordCmp.cmpi_slt_eq, WordCmp.cmpi_sge_eq, select_of, select_of]
      simp only [lt_words hb.1 hb.2]
      rfl
    have e2 : (bs ids g (k + 1)).2 l = if ((bs ids g k).1 l).toNat < ((bs ids g k).2 l).toNat then
        (if (g l).toInt ≤ idN ids (midV (bs ids g k).1 (bs ids g k).2 l).toNat then midV (bs ids g k).1 (bs ids g k).2 l else (bs ids g k).2 l) else (bs ids g k).2 l := by
      refine Eq.trans (b := Scalar.select (IntOp.cmpi .slt ((bs ids g k).1 l) ((bs ids g k).2 l)) (Scalar.select (IntOp.cmpi .sge (probeV ids (midV (bs ids g k).1 (bs ids g k).2) l) (g l)) (midV (bs ids g k).1 (bs ids g k).2 l) ((bs ids g k).2 l)) ((bs ids g k).2 l)) rfl ?_
      rw [WordCmp.cmpi_slt_eq, WordCmp.cmpi_sge_eq, select_of, select_of]
      simp only [lt_words hb.1 hb.2]
      rfl
    have hp : 2 ^ (19 - k) = 2 * 2 ^ (19 - (k + 1)) := by
      rw [← Nat.pow_succ']
      congr 1
      omega
    rw [e1, e2]
    generalize (bs ids g k).1 l = lo at *
    generalize (bs ids g k).2 l = hi at *
    generalize midV (bs ids g k).1 (bs ids g k).2 l = mid at *
    generalize 2 ^ (19 - k) = P at *
    generalize 2 ^ (19 - (k + 1)) = Q at *
    have hm1 : (mid + 1#32).toNat = mid.toNat + 1 := by
      rw [BitVec.toNat_add, show (1#32 : W).toNat = 1 from rfl]
      omega
    by_cases hlt : lo.toNat < hi.toNat
    · rw [if_pos hlt, if_pos hlt]
      by_cases hg : (g l).toInt ≤ idN ids mid.toNat
      · rw [if_pos hg, if_pos hg]
        exact ⟨by omega, by omega, i3, fun p h1 h2 => hg.trans (hs _ _ h1 h2)⟩
      · rw [if_neg hg, if_neg hg, hm1]
        exact ⟨by omega, by omega, fun p h1 => lt_of_le_of_lt (hs p mid.toNat (by omega) (by omega)) (not_le.mp hg), i4⟩
    · rw [if_neg hlt, if_neg hlt]
      have hQ : 0 < Q := by omega
      exact ⟨i1, by omega, i3, i4⟩

/-- The lane's key. -/
theorem keyV_toInt (i : grid0.Coords) (l : S16.Idx) : (keyV i l).toInt = 8 * ((i 1).val * 2 + (i 0).val) + (l 0).val := by
  have h0 : (i 0).val < 2 := (i 0).isLt
  have h1 : (i 1).val < 16 := (i 1).isLt
  have hl : (l 0).val < 16 := (l 0).isLt
  have hI : IsInt (iotaV l) ((l 0).val : Nat) := by
    show IsInt (BitVec.ofNat 32 (0 * 16 + (l 0).val)) _
    rw [Nat.zero_mul, Nat.zero_add]
    exact lit (l 0).val (by omega)
  refine int_eq (Affine.addi (Affine.muli (Affine.addi (Affine.muli (lit (i 1).val (by omega)) (lit 2) ⟨rfl, ?_, ?_⟩) (lit (i 0).val (by omega)) ⟨rfl, ?_, ?_⟩) (lit 8) ⟨rfl, ?_, ?_⟩) hI ⟨?_, ?_, ?_⟩) <;> omega

/-- Each lane of the search's result counts the places that hold less than the lane's key. -/
theorem search_count {ids : S320000.Idx → W} (hs : Ascends ids) (i : grid0.Coords) (k : Nat) (hk : k < 16) {p : Nat} (hp : p < 320000) :
    p < (laneW (searchV i ids) k).toNat ↔ idN ids p < 8 * ((i 1).val * 2 + (i 0).val) + k := by
  have h := search_inv hs (keyV i) (fun a => ⟨k % 16, by rw [Fin.eq_zero a]; exact Nat.mod_lt _ (by decide)⟩) 19 le_rfl
  have hkey : (keyV i (fun a => ⟨k % 16, by rw [Fin.eq_zero a]; exact Nat.mod_lt _ (by decide)⟩)).toInt = 8 * ((i 1).val * 2 + (i 0).val) + k := by
    rw [keyV_toInt]
    show _ + ((k % 16 : Nat) : Int) = _
    rw [Nat.mod_eq_of_lt hk]
  rw [hkey] at h
  obtain ⟨h1, h2, h3, h4⟩ := h
  have e : laneW (searchV i ids) k = (bs ids (keyV i) 19).2 (fun a => ⟨k % 16, by rw [Fin.eq_zero a]; exact Nat.mod_lt _ (by decide)⟩) := rfl
  rw [e]
  generalize (bs ids (keyV i) 19).2 _ = hi at *
  generalize (bs ids (keyV i) 19).1 _ = lo at *
  rw [show 2 ^ (19 - 19) = 1 from rfl] at h2
  constructor
  · exact fun h => h3 p (by omega)
  · intro h
    by_contra hn
    have := h4 p (by omega) hp
    omega

theorem search_le {ids : S320000.Idx → W} (hs : Ascends ids) (i : grid0.Coords) {k k' : Nat} (h : k ≤ k') (hk : k' < 16) :
    (laneW (searchV i ids) k).toNat ≤ (laneW (searchV i ids) k').toNat := by
  by_contra hn
  have hb : (laneW (searchV i ids) k).toNat ≤ 320000 := laneW_le (fun l => (bs_bounds ids (keyV i) 19 l).2) k
  have hp : (laneW (searchV i ids) k').toNat < 320000 := by omega
  have h1 := (search_count hs i k (by omega) hp).mp (by omega)
  have h2 := (search_count hs i k' hk hp).mpr (by omega)
  omega

theorem search_inRange {ids : S320000.Idx → W} (hs : Ascends ids) (i : grid0.Coords) : InRange (searchV i ids) :=
  fun l hl => search_le hs i hl (by decide)

/-! ## The chunks make up the segments -/

variable {F : FTy → Type} [FloatOps F]

/-- After `n` chunks a segment's vectors are those after its rows below the chunks' end. -/
theorem accTo_eq (ws : Fin 8 → FV F) (bv : FV F) (xf : S40960000.Idx → F .f32) (a : Nat) (H : IV) (A : Fin 8 → Fin 16 → FV F) (r : Fin 8)
    (ha : a ≤ (laneW H r.val).toNat) (n : Nat) :
    accTo ws bv xf a H A n r = rowsFold ws bv (xRows xf) (A r) (laneW H r.val).toNat (min (laneW H (r.val + 1)).toNat (a + 128 * n) - (laneW H r.val).toNat) := by
  induction n with
  | zero =>
    rw [show min (laneW H (r.val + 1)).toNat (a + 128 * 0) - (laneW H r.val).toNat = 0 by omega]
    rfl
  | succ n ih =>
    unfold accTo chunkTo
    rw [if_pos r.isLt, ih]
    unfold cntOf
    generalize (laneW H r.val).toNat = s at *
    generalize (laneW H (r.val + 1)).toNat = e at *
    by_cases hc : min e (a + 128 * n + 128) ≤ max s (a + 128 * n)
    · rw [show min e (a + 128 * n + 128) - max s (a + 128 * n) = 0 by omega, show min e (a + 128 * (n + 1)) - s = min e (a + 128 * n) - s by omega]
      rfl
    · rw [show max s (a + 128 * n) = s + (min e (a + 128 * n) - s) by omega, rowsFold_add]
      refine congrArg (rowsFold ws bv (xRows xf) (A r) s) ?_
      omega

/-- A segment's vectors at the end: its rows, one after another. -/
theorem blockV_eq {ids : S320000.Idx → W} (hs : Ascends ids) (i : grid0.Coords) (xf : S40960000.Idx → F .f32) (wf : S128.Idx → F .f32) (bf : FV F) (r : Fin 8) :
    blockV i xf ids wf bf r = rowsFold (wsV wf) bf (xRows xf) initV (laneW (searchV i ids) r.val).toNat
      ((laneW (searchV i ids) (r.val + 1)).toNat - (laneW (searchV i ids) r.val).toNat) := by
  have h0 := search_le hs i (k := 0) (k' := r.val) (by omega) (by omega)
  have h8 := search_le hs i (k := r.val + 1) (k' := 8) (by omega) (by omega)
  unfold blockV
  rw [accTo_eq _ _ _ _ _ _ r h0]
  refine congrArg (rowsFold (wsV wf) bf (xRows xf) initV (laneW (searchV i ids) r.val).toNat) ?_
  unfold nchN
  omega

end Cert.Proof.Tile
-- ==== Proof.Args.lean ====
/-
  The arrays the kernel reads, as @main's arguments: the rows laid end to end, the weights, and the bias in every lane.
-/
module

public import proofs.«01_k».proof.Proof.Run
public import proofs.«01_k».proof.Proof.Count
public import Idealize.ShloMosaic.Lib.ValueIdx
public import Idealize.ShloMosaic.Lib.ValueIdxRank1
public import Idealize.ShloMosaic.Lib.ValueLayout

@[expose] public section

noncomputable section

namespace Cert.Proof.Tile

open Cert.KernelIdeal Cert.KernelIdeal.Gen Idealize.ShloMosaic Idealize.SL.Sem Idealize.ShloMosaic.ValueIdx

variable {F : FTy → Type} [FloatOps F] (d : Dev nD) (m : (ℓ : Loc nD τ sig) → Buf (Elt F) ℓ)

/-- @main's arguments by their shapes. -/
def argX : S320000x128.Idx → F .f32 := m (aLoc d main_arg0)
def argW : S128x1.Idx → F .f32 := m (aLoc d main_arg2)
def argB : S1.Idx → F .f32 := m (aLoc d main_arg3)

theorem xV_eq : xV d m = shapeCast S40960000 (argX d m) shapeCasts_S320000x128_S40960000 := by
  have h : VC d m x0 = (opX (F := F)).result (V0 d m) x0 :=
    ((opB (F := F)).result_of_not_mem _ (show x0 ∉ ({x2} : Finset (DevRef τ sig)) by decide)).trans ((opW (F := F)).result_of_not_mem _ (show x0 ∉ ({x1} : Finset (DevRef τ sig)) by decide))
  exact h.trans (StableHlo.reshape_result main_arg0 main_v0 _ _ _ _ (V0 d m))

theorem wV_eq : wV d m = shapeCast S128 (argW d m) shapeCasts_S128x1_S128 := by
  have h : VC d m x1 = (opW (F := F)).result ((opX (F := F)).result (V0 d m)) x1 :=
    (opB (F := F)).result_of_not_mem _ (show x1 ∉ ({x2} : Finset (DevRef τ sig)) by decide)
  have h2 : (opX (F := F)).result (V0 d m) a2 = V0 d m a2 := (opX (F := F)).result_of_not_mem _ (show a2 ∉ ({x0} : Finset (DevRef τ sig)) by decide)
  refine h.trans ((StableHlo.reshape_result main_arg2 main_v1 _ _ _ _ _).trans ?_)
  funext i
  exact congrArg (fun v : S128x1.Idx → F .f32 => shapeCast S128 v shapeCasts_S128x1_S128 i) h2

theorem bV_eq : bV d m = broadcastInDim S16 ![0] bcast_S1_S16_0 (argB d m) := by
  have h2 : (opW (F := F)).result ((opX (F := F)).result (V0 d m)) a3 = V0 d m a3 :=
    ((opW (F := F)).result_of_not_mem _ (show a3 ∉ ({x1} : Finset (DevRef τ sig)) by decide)).trans ((opX (F := F)).result_of_not_mem _ (show a3 ∉ ({x0} : Finset (DevRef τ sig)) by decide))
  have h : bV d m = (opB (F := F)).result ((opW (F := F)).result ((opX (F := F)).result (V0 d m))) x2 := rfl
  refine h.trans ((StableHlo.unary_result main_arg3 main_v2 _ _ _ _).trans ?_)
  exact congrArg (fun v : S1.Idx → F .f32 => broadcastInDim S16 ![0] bcast_S1_S16_0 v) h2

theorem atN_lt {α : Type} {n : Nat} [NeZero n] (f : (⟨1, ![n]⟩ : Shape).Idx → α) (p : Fin n) : atN f p.val = f (ix1 p) := by
  unfold atN
  refine congrArg f ?_
  funext a
  fin_cases a
  apply Fin.ext
  exact Nat.mod_eq_of_lt p.isLt

theorem xV_at (e : Fin 320000) (c : Fin 128) : atN (n := 40960000) (xV d m) (e.val * 128 + c.val) = argX d m (ix2 e c) := by
  have he := e.isLt
  have hc := c.isLt
  rw [show e.val * 128 + c.val = (⟨e.val * 128 + c.val, by omega⟩ : Fin 40960000).val from rfl, atN_lt, xV_eq]
  refine shapeCast_apply _ _ _ _ ?_
  rw [Shape.rowMajor_val_two, Shape.rowMajor_val_one]
  rfl

theorem wV_at (c : Fin 128) : atN (n := 128) (wV d m) c.val = argW d m (ix2 c (0 : Fin 1)) := by
  rw [atN_lt, wV_eq]
  refine shapeCast_apply _ _ _ _ ?_
  rw [Shape.rowMajor_val_two, Shape.rowMajor_val_one]
  show c.val * 1 + 0 = c.val
  omega

theorem bV_at (l : S16.Idx) : bV d m l = argB d m (ix1 (0 : Fin 1)) := by
  rw [bV_eq]
  refine broadcastInDim_apply _ _ _ _ (ix1 (0 : Fin 1)) fun a => ?_
  fin_cases a; rfl

theorem nV_at (e : Fin 320000) : idN (nV d m) e.val = (nV d m (ix1 e)).toInt := by
  unfold idN
  rw [atN_lt]

end Cert.Proof.Tile
-- ==== Proof.Refer.lean ====
/-
  What the reference computes, read at an element, over the extended reals: the sum of the weighted rows whose segment
  number is the row asked for, and the maximum over all rows of the entry or minus infinity.
-/
module

public import proofs.«01_k».proof.Proof.Gen.ReferenceIdeal
public import Idealize.ShloMosaic.PureOps.Ideal.Laws
public import Idealize.ShloMosaic.PureOps.Reduce
public import Idealize.ShloMosaic.Lib.IdealHost
public import Idealize.ShloMosaic.Lib.ValueIdx
public import Idealize.ShloMosaic.Lib.Pipeline.Value

@[expose] public section

noncomputable section

namespace Cert.Proof.Refer

open Cert.ReferenceIdeal Cert.ReferenceIdeal.Gen Idealize.ShloMosaic Idealize.ShloMosaic.ValueIdx

variable (x : FVec Ideal S320000x128 .f32) (ids : IVec S320000 32) (w : FVec Ideal S128x1 .f32) (b : FVec Ideal S1 .f32)

/-- A row's dot product with the weights, the bias added. -/
def logit (e : Fin 320000) : EReal := (∑ k : Fin 128, x (ix2 e k) * w (ix2 k (0 : Fin 1)) : EReal) + b (ix1 (0 : Fin 1))

/-- The sum of a segment's weighted rows in one column. -/
def segSum (g : Nat) (c : Fin 128) : EReal :=
  ∑ e ∈ Finset.univ.filter (fun e : Fin 320000 => (ids (ix1 e)).toInt = (g : Int)), x (ix2 e c) * Ideal.tanh (logit x w b e)

/-- The maximum of a segment's rows in one column. -/
def segMax (g : Nat) (c : Fin 128) : EReal :=
  (Finset.univ : Finset (Fin 320000)).fold max ⊥ fun e => if (ids (ix1 e)).toInt = (g : Int) then x (ix2 e c) else ⊥

abbrev dotD := dot_S320000x128_S128x1_S320000x1_1_0_0_1_n_n
abbrev scatD := scatter_S256x128_S320000x1_S320000x128_1_0_0_1

theorem dot_apply (e : Fin 320000) (z : Fin 1) :
    Host.dotGeneral dotD none x w (ix2 e z) = (∑ k : Fin 128, x (ix2 e k) * w (ix2 k (0 : Fin 1)) : EReal) := by
  show FloatOps.dotGeneral _ _ _ x w (ix2 e z) = _
  rw [Ideal.dotGeneral_apply, ← Equiv.sum_comp (contrEquiv1 dotD 128 rfl rfl).symm]
  refine Finset.sum_congr rfl fun k _ => ?_
  have hk := contrEquiv1_symm_val dotD 128 rfl rfl k
  have el : dotD.lhsIdx (ix2 e z) ((contrEquiv1 dotD 128 rfl rfl).symm k) = ix2 e k := by
    funext a; apply Fin.ext
    match a with
    | ⟨0, _⟩ => rfl
    | ⟨1, _⟩ => exact hk
  have er : dotD.rhsIdx (ix2 e z) ((contrEquiv1 dotD 128 rfl rfl).symm k) = ix2 k (0 : Fin 1) := by
    funext a; apply Fin.ext
    match a with
    | ⟨0, _⟩ => exact hk
    | ⟨1, _⟩ => exact Nat.lt_one_iff.mp (Fin.isLt _)
  rw [el, er]

/-- The rows times their weights. -/
def prods : FVec Ideal S320000x128 .f32 :=
  mulf x (broadcastInDim S320000x128 ![0, 1] bcast_S320000x1_S320000x128_0_1 (Host.tanh (addf (Host.dotGeneral dotD none x w)
    (broadcastInDim S320000x1 ![0, 1] bcast_S1x1_S320000x1_0_1 (broadcastInDim S1x1 ![1] bcast_S1_S1x1_1 b)))))

theorem prods_apply (e : Fin 320000) (c : Fin 128) : prods x w b (ix2 e c) = (x (ix2 e c) * Ideal.tanh (logit x w b e) : EReal) := by
  have h : broadcastInDim S320000x128 ![0, 1] bcast_S320000x1_S320000x128_0_1 (Host.tanh (addf (Host.dotGeneral dotD none x w)
    (broadcastInDim S320000x1 ![0, 1] bcast_S1x1_S320000x1_0_1 (broadcastInDim S1x1 ![1] bcast_S1_S1x1_1 b)))) (ix2 e c)
      = Ideal.tanh ((Host.dotGeneral dotD none x w (ix2 e (0 : Fin 1)) : EReal) + b (ix1 (0 : Fin 1))) := by
    refine (broadcastInDim_apply _ _ _ _ (ix2 e (0 : Fin 1)) fun a => ?_).trans ?_
    · fin_cases a <;> rfl
    · refine congrArg Ideal.tanh (congrArg (_ + ·) ?_)
      refine (broadcastInDim_apply _ _ _ _ (ix2 (0 : Fin 1) (0 : Fin 1)) fun a => ?_).trans ?_
      · fin_cases a <;> rfl
      · refine broadcastInDim_apply _ _ _ _ (ix1 (0 : Fin 1)) fun a => ?_
        fin_cases a; rfl
  rw [dot_apply] at h
  exact congrArg (fun t : EReal => (x (ix2 e c) : EReal) * t) h

/-- The segment numbers as the scatter's one-column indices. -/
def sidx : IVec S320000x1 32 := broadcastInDim S320000x1 ![0] bcast_S320000_S320000x1_0 ids

theorem sidx_apply (e : Fin 320000) (z : Fin 1) : sidx ids (ix2 e z) = ids (ix1 e) := by
  refine broadcastInDim_apply _ _ _ _ (ix1 e) fun a => ?_
  fin_cases a; rfl

theorem lands (e : Fin 320000) (c : Fin 128) (y : S256x128.Idx) :
    scatD.resultIdx? (ix2 e c) (sidx ids) = some y ↔ (ids (ix1 e)).toInt = ((y 0).val : Int) ∧ c.val = (y 1).val := by
  have s0 : scatD.start (ix2 e c) (sidx ids) 0 = (ids (ix1 e)).toInt := by
    rw [← sidx_apply ids e 0]
    unfold ScatterDims.start
    rw [dif_pos (show (0 : Fin S256x128.rank) ∈ scatD.scatterDimsToOperandDims from List.mem_singleton.mpr rfl)]
    refine congrArg (fun i => (sidx ids i).toInt) ?_
    funext a; apply Fin.ext
    fin_cases a <;> rfl
  have s1 : scatD.start (ix2 e c) (sidx ids) 1 = 0 := rfl
  have w0 : scatD.window (ix2 e c) 0 = 0 := rfl
  have w1 : scatD.window (ix2 e c) 1 = c.val := rfl
  have y0 : (y 0).val < 256 := (y 0).isLt
  have hc := c.isLt
  unfold ScatterDims.resultIdx?
  constructor
  · intro h
    split at h
    · rename_i hh
      have e' := Option.some.inj h
      have a0 := congrArg (fun i : S256x128.Idx => (i 0).val) e'
      have a1 := congrArg (fun i : S256x128.Idx => (i 1).val) e'
      have h0 := hh 0
      simp only [s0, s1, w0, w1] at a0 a1 h0
      omega
    · cases h
  · rintro ⟨h0, h1⟩
    rw [dif_pos]
    · congr 1
      funext a; apply Fin.ext
      fin_cases a
      · show (scatD.start (ix2 e c) (sidx ids) 0 + scatD.window (ix2 e c) 0).toNat = (y 0).val
        rw [s0, w0]; omega
      · show (scatD.start (ix2 e c) (sidx ids) 1 + scatD.window (ix2 e c) 1).toNat = (y 1).val
        rw [s1, w1]; omega
    · intro a
      fin_cases a
      · show 0 ≤ scatD.start (ix2 e c) (sidx ids) 0 + scatD.window (ix2 e c) 0 ∧ scatD.start (ix2 e c) (sidx ids) 0 + scatD.window (ix2 e c) 0 < ((256 : Nat) : Int)
        rw [s0, w0]; omega
      · show 0 ≤ scatD.start (ix2 e c) (sidx ids) 1 + scatD.window (ix2 e c) 1 ∧ scatD.start (ix2 e c) (sidx ids) 1 + scatD.window (ix2 e c) 1 < ((128 : Nat) : Int)
        rw [s1, w1]; omega

/-- The scatter at a row and a column is the sum of the segment's weighted rows. -/
theorem scatter_apply (g : Fin 256) (c : Fin 128) :
    Host.scatterAdd scatD (broadcastInDim S256x128 ![] bcast_S_S256x128 (constant S_ .f32 0x00000000#32)) (sidx ids) (prods x w b) (ix2 g c) = segSum x ids w b g.val c := by
  show (broadcastInDim S256x128 ![] bcast_S_S256x128 (constant (F := Ideal) S_ .f32 0x00000000#32) (ix2 g c) : EReal)
    + ∑ j ∈ Finset.univ.filter (fun j => scatD.resultIdx? j (sidx ids) = some (ix2 g c)), (prods x w b j : EReal) = _
  rw [broadcastInDim_scalar_apply, constant_apply, Ideal.ofBits_zero_f32, zero_add]
  have he : Finset.univ.filter (fun j => scatD.resultIdx? j (sidx ids) = some (ix2 g c))
      = (Finset.univ.filter (fun e : Fin 320000 => (ids (ix1 e)).toInt = (g.val : Int))).image (fun e => (ix2 e c : S320000x128.Idx)) := by
    ext j
    obtain ⟨e, c', rfl⟩ : ∃ (e : Fin 320000) (c' : Fin 128), j = ix2 e c' := ⟨j 0, j 1, eq_ix2 j⟩
    rw [Finset.mem_filter, Finset.mem_image, lands]
    constructor
    · rintro ⟨-, h0, h1⟩
      obtain rfl : c' = c := Fin.ext h1
      exact ⟨e, Finset.mem_filter.mpr ⟨Finset.mem_univ _, h0⟩, rfl⟩
    · rintro ⟨e', h0, h1⟩
      obtain rfl : e' = e := congrFun h1 0
      obtain rfl : c = c' := congrFun h1 1
      exact ⟨Finset.mem_univ _, (Finset.mem_filter.mp h0).2, rfl⟩
  rw [he, Finset.sum_image]
  · exact Finset.sum_congr rfl fun e _ => prods_apply x w b e c
  · intro e _ e' _ h
    exact congrFun h 0

/-- The entries of the rows of a segment, minus infinity elsewhere, one copy of the rows for every segment. -/
def masked : FVec Ideal S256x320000x128 .f32 :=
  select (broadcastInDim S256x320000x128 ![0, 1, 2] bcast_S256x320000x1_S256x320000x128_0_1_2
    (broadcastInDim S256x320000x1 ![0, 1] bcast_S256x320000_S256x320000x1_0_1
      (cmpi .eq (broadcastInDim S256x320000 ![0, 1] bcast_S1x320000_S256x320000_0_1 (broadcastInDim S1x320000 ![1] bcast_S320000_S1x320000_1 ids))
        (broadcastInDim S256x320000 ![0, 1] bcast_S256x1_S256x320000_0_1 (broadcastInDim S256x1 ![0] bcast_S256_S256x1_0 (iotaInDim S256 32 0))))))
    (broadcastInDim S256x320000x128 ![0, 1, 2] bcast_S1x320000x128_S256x320000x128_0_1_2 (broadcastInDim S1x320000x128 ![1, 2] bcast_S320000x128_S1x320000x128_1_2 x))
    (broadcastInDim S256x320000x128 ![] bcast_S_S256x320000x128 (id (constant S_ .f32 0xFF800000#32)))

theorem bits_bot : Ideal.ofBits .f32 0xFF800000#32 = ⊥ := by simp [Ideal.ofBits, Ideal.ieee]

theorem word_eq (v : BitVec 32) (g : Fin 256) : v = BitVec.ofNat 32 g.val ↔ v.toInt = (g.val : Int) := by
  have hg := g.isLt
  have ht : (BitVec.ofNat 32 g.val).toInt = (g.val : Int) := by
    rw [BitVec.toInt_eq_toNat_cond, BitVec.toNat_ofNat, Nat.mod_eq_of_lt (by omega), if_pos (by omega)]
  constructor
  · rintro rfl
    exact ht
  · exact fun h => BitVec.eq_of_toInt_eq (h.trans ht.symm)

theorem masked_apply (g : Fin 256) (e : Fin 320000) (c : Fin 128) :
    masked x ids (ix3 g e c) = (if (ids (ix1 e)).toInt = (g.val : Int) then x (ix2 e c) else ⊥ : EReal) := by
  unfold masked
  rw [select_apply, broadcastInDim_scalar_apply]
  rw [broadcastInDim_apply _ _ _ _ (ix3 g e (0 : Fin 1)) (fun a => by fin_cases a <;> rfl)]
  rw [broadcastInDim_apply _ _ _ _ (ix2 g e) (fun a => by fin_cases a <;> rfl)]
  rw [broadcastInDim_apply _ _ _ (ix3 g e c) (ix3 (0 : Fin 1) e c) (fun a => by fin_cases a <;> rfl)]
  rw [broadcastInDim_apply _ _ _ _ (ix2 e c) (fun a => by fin_cases a <;> rfl)]
  show Scalar.select (IntOp.cmpi .eq _ _) _ _ = _
  rw [broadcastInDim_apply _ _ _ (ix2 g e) (ix2 (0 : Fin 1) e) (fun a => by fin_cases a <;> rfl)]
  rw [broadcastInDim_apply _ _ _ _ (ix1 e) (fun a => by fin_cases a <;> rfl)]
  rw [broadcastInDim_apply _ _ _ (ix2 g e) (ix2 g (0 : Fin 1)) (fun a => by fin_cases a <;> rfl)]
  rw [broadcastInDim_apply _ _ _ _ (ix1 g) (fun a => by fin_cases a <;> rfl)]
  rw [iotaInDim_apply]
  show Scalar.select (BitVec.ofBool (decide (ids (ix1 e) = BitVec.ofNat 32 g.val))) (x (ix2 e c)) (Ideal.ofBits .f32 0xFF800000#32) = _
  rw [bits_bot]
  by_cases h : (ids (ix1 e)).toInt = (g.val : Int)
  · rw [if_pos h, decide_eq_true ((word_eq _ g).mpr h)]; rfl
  · rw [if_neg h, decide_eq_false fun h' => h ((word_eq _ g).mp h')]; rfl

/-- The maximum at a row and a column. -/
theorem max_apply (g : Fin 256) (c : Fin 128) :
    Host.reduce FloatOps.maximumf (masked x ids) (constant S_ .f32 0xFF800000#32) reducesTo_S256x320000x128_S256x128_d1 h_S_ (ix2 g c) = segMax x ids g.val c := by
  rw [Host.reduce_eq_fold, constant_apply, bits_bot]
  have he : Finset.univ.filter (fun i => (reducesTo_S256x320000x128_S256x128_d1).drop i = (ix2 g c : S256x128.Idx))
      = (Finset.univ : Finset (Fin 320000)).image (fun e => (ix3 g e c : S256x320000x128.Idx)) := by
    ext j
    obtain ⟨g', e, c', rfl⟩ : ∃ (g' : Fin 256) (e : Fin 320000) (c' : Fin 128), j = ix3 g' e c' := ⟨j 0, j 1, j 2, eq_ix3 j⟩
    rw [Finset.mem_filter, Finset.mem_image]
    constructor
    · rintro ⟨-, h⟩
      obtain rfl : g' = g := congrFun h 0
      obtain rfl : c' = c := congrFun h 1
      exact ⟨e, Finset.mem_univ _, rfl⟩
    · rintro ⟨e', -, h⟩
      obtain rfl : g = g' := congrFun h 0
      obtain rfl : c = c' := congrFun h 2
      refine ⟨Finset.mem_univ _, ?_⟩
      funext a
      fin_cases a <;> rfl
  rw [he, Finset.fold_image fun e _ e' _ h => congrFun h 1]
  exact Finset.fold_congr fun e _ => masked_apply x ids g e c

/-- The reference's result at a row and a column: the sums on the left, the maxima on the right. -/
def refVal (g : Nat) (c : Nat) : EReal :=
  if h : c < 128 then segSum x ids w b g ⟨c, h⟩ else segMax x ids g ⟨(c - 128) % 128, Nat.mod_lt _ (by decide)⟩

theorem ref_apply (y : S256x256.Idx) :
    concatenate S256x256 1 [⟨S256x128, Host.scatterAdd scatD (broadcastInDim S256x128 ![] bcast_S_S256x128 (constant S_ .f32 0x00000000#32)) (sidx ids) (prods x w b)⟩,
      ⟨S256x128, Host.reduce FloatOps.maximumf (masked x ids) (constant S_ .f32 0xFF800000#32) reducesTo_S256x320000x128_S256x128_d1 h_S_⟩]
      concatenates_S256x128_S256x128_S256x256_d1 y = refVal x ids w b (y 0).val (y 1).val := by
  obtain ⟨g, c, rfl⟩ : ∃ (g : Fin 256) (c : Fin 256), y = ix2 g c := ⟨y 0, y 1, eq_ix2 y⟩
  unfold refVal
  have hc := c.isLt
  by_cases h : c.val < 128
  · rw [dif_pos (show ((ix2 g c : S256x256.Idx) 1).val < 128 from h)]
    refine (concatenate_pair_apply_left (t := S256x256) (s₁ := S256x128) (s₂ := S256x128) 1 _ _ _ (ix2 g c) rfl (ix2 g (⟨c.val, h⟩ : Fin 128)) fun a => ?_).trans ?_
    · fin_cases a <;> rfl
    · exact scatter_apply x ids w b g ⟨c.val, h⟩
  · rw [dif_neg (show ¬ ((ix2 g c : S256x256.Idx) 1).val < 128 from h)]
    refine (concatenate_pair_apply_right (t := S256x256) (s₁ := S256x128) (s₂ := S256x128) 1 _ _ _ (ix2 g c) rfl rfl (ix2 g (⟨(c.val - 128) % 128, Nat.mod_lt _ (by decide)⟩ : Fin 128)) (fun a ha => ?_) ?_).trans ?_
    · fin_cases a
      · rfl
      · exact absurd rfl ha
    · show (c.val - 128) % 128 + 128 = c.val
      omega
    · exact max_apply x ids g _

end Cert.Proof.Refer
-- ==== Proof.Value.lean ====
/-
  The kernel's vectors of a segment are the reference's sums and maxima over it.
-/
module

public import proofs.«01_k».proof.Proof.Count
public import proofs.«01_k».proof.Proof.Sums
public import proofs.«01_k».proof.Proof.Refer

@[expose] public section

noncomputable section

namespace Cert.Proof.Tile

open Cert.KernelIdeal Cert.KernelIdeal.Gen Idealize.ShloMosaic Idealize.ShloMosaic.ValueIdx
open Cert.Proof.Refer (logit segSum segMax)

/-- A maximum over the members with a property is the maximum over all with minus infinity at the others. -/
theorem fold_max_filter {ι : Type} [DecidableEq ι] (p : ι → Prop) [DecidablePred p] (f : ι → EReal) (s : Finset ι) :
    s.fold max ⊥ (fun e => if p e then f e else ⊥) = (s.filter p).fold max ⊥ f := by
  induction s using Finset.induction with
  | empty => rfl
  | insert a s ha ih =>
    rw [Finset.fold_insert ha, ih, Finset.filter_insert]
    by_cases h : p a
    · rw [if_pos h, if_pos h, Finset.fold_insert fun h' => ha (Finset.mem_filter.mp h').1]
    · rw [if_neg h, if_neg h, max_eq_right bot_le]

theorem initV_lo (j : Fin 8) (l : S16.Idx) : initV (F := Ideal) ⟨j.val, by omega⟩ l = (0 : EReal) := by
  unfold initV
  rw [if_pos j.isLt]
  exact Ideal.ofBits_zero_f32

theorem initV_hi (j : Fin 8) (l : S16.Idx) : initV (F := Ideal) ⟨8 + j.val, by omega⟩ l = (⊥ : EReal) := by
  unfold initV
  rw [if_neg (show ¬ 8 + j.val < 8 by omega)]
  exact Refer.bits_bot

section
variable {x : FVec Ideal S320000x128 .f32} {ids : IVec S320000 32} {w : FVec Ideal S128x1 .f32} {b : FVec Ideal S1 .f32}
variable {xf : S40960000.Idx → Ideal .f32} {wf : S128.Idx → Ideal .f32} {bf : FV Ideal}

/-- The rows whose number is a segment's are the rows from its start to the next segment's. -/
theorem rows_eq (hs : Ascends ids) (hn : ∀ e : Fin 320000, idN ids e.val = (ids (ix1 e)).toInt) (i : grid0.Coords) (r : Fin 8) :
    (Finset.univ.filter (fun e : Fin 320000 => (ids (ix1 e)).toInt = ((8 * ((i 1).val * 2 + (i 0).val) + r.val : Nat) : Int))).map Fin.valEmbedding
      = (Finset.range ((laneW (searchV i ids) (r.val + 1)).toNat - (laneW (searchV i ids) r.val).toNat)).map
          (addLeftEmbedding (laneW (searchV i ids) r.val).toNat) := by
  have hle := search_le hs i (k := r.val) (k' := r.val + 1) (by omega) (by omega)
  have hb : (laneW (searchV i ids) (r.val + 1)).toNat ≤ 320000 := laneW_le (fun l => (bs_bounds ids (keyV i) 19 l).2) _
  ext p
  simp only [Finset.mem_map, Finset.mem_filter, Finset.mem_univ, true_and, Finset.mem_range, Fin.valEmbedding_apply, addLeftEmbedding_apply]
  constructor
  · rintro ⟨e, he, rfl⟩
    have h1 := search_count hs i r.val (by omega) e.isLt
    have h2 := search_count hs i (r.val + 1) (by omega) e.isLt
    rw [hn, he] at h1 h2
    exact ⟨e.val - (laneW (searchV i ids) r.val).toNat, by push_cast at h1 h2; omega, by push_cast at h1 h2; omega⟩
  · rintro ⟨k, hk, rfl⟩
    have hp : (laneW (searchV i ids) r.val).toNat + k < 320000 := by omega
    have h1 := search_count hs i r.val (by omega) hp
    have h2 := search_count hs i (r.val + 1) (by omega) hp
    refine ⟨⟨_, hp⟩, ?_, rfl⟩
    have h3 := hn ⟨_, hp⟩
    rw [← h3]
    push_cast at h1 h2 ⊢
    omega

theorem weight_at (hx : ∀ (e : Fin 320000) (c : Fin 128), atN (n := 40960000) xf (e.val * 128 + c.val) = x (ix2 e c))
    (hw : ∀ c : Fin 128, atN (n := 128) wf c.val = w (ix2 c (0 : Fin 1))) (hb : ∀ l, bf l = b (ix1 (0 : Fin 1)))
    (rx : ∀ i, IsReal (x i)) (rw' : ∀ i, IsReal (w i)) (rb : ∀ i, IsReal (b i)) (e : Fin 320000) (l : S16.Idx) :
    weightOf bf (lanesum (partialDot (wsV wf) (xRows xf e.val))) l = Ideal.tanh (logit x w b e) := by
  have h : (lanesum (partialDot (wsV wf) (xRows xf e.val)) l : EReal) + bf l = logit x w b e := by
    unfold logit wsV xRows
    rw [dot_eq, hb]
    refine congrArg (· + (b (ix1 (0 : Fin 1)) : EReal)) (Finset.sum_congr rfl fun c _ => ?_)
    rw [hx, hw]
  rw [weightOf_eq, h]
  rw [h]
  exact (IsReal.sum _ _ fun c _ => (rx _).mul (rw' _)).add (rb _)

/-- The sums of a segment. -/
theorem block_lo (hs : Ascends ids) (hn : ∀ e : Fin 320000, idN ids e.val = (ids (ix1 e)).toInt)
    (hx : ∀ (e : Fin 320000) (c : Fin 128), atN (n := 40960000) xf (e.val * 128 + c.val) = x (ix2 e c))
    (hw : ∀ c : Fin 128, atN (n := 128) wf c.val = w (ix2 c (0 : Fin 1))) (hb : ∀ l, bf l = b (ix1 (0 : Fin 1)))
    (rx : ∀ i, IsReal (x i)) (rw' : ∀ i, IsReal (w i)) (rb : ∀ i, IsReal (b i)) (i : grid0.Coords) (r j : Fin 8) (l : S16.Idx)
    (c : Fin 128) (hc : c.val = 16 * j.val + (l 0).val) :
    blockV i xf ids wf bf r ⟨j.val, by omega⟩ l = segSum x ids w b (8 * ((i 1).val * 2 + (i 0).val) + r.val) c := by
  rw [blockV_eq hs, rowsFold_lo, initV_lo, zero_add]
  unfold segSum
  let f : Nat → EReal := fun n => xRows xf n j l * weightOf bf (lanesum (partialDot (wsV wf) (xRows xf n))) l
  have e1 : ∀ e : Fin 320000, (x (ix2 e c) * Ideal.tanh (logit x w b e) : EReal) = f (Fin.valEmbedding e) := fun e => by
    show _ = (xRows xf e.val j l : EReal) * weightOf bf (lanesum (partialDot (wsV wf) (xRows xf e.val))) l
    rw [weight_at hx hw hb rx rw' rb, ← hx]
    refine congrArg (· * Ideal.tanh (logit x w b e)) ?_
    show _ = atN (n := 40960000) xf (e.val * 128 + 16 * j.val + (l 0).val)
    rw [Nat.add_assoc, ← hc]
  rw [Finset.sum_congr rfl fun e _ => e1 e, ← Finset.sum_map _ Fin.valEmbedding f, rows_eq hs hn, Finset.sum_map]
  rfl

/-- The maxima of a segment. -/
theorem block_hi (hs : Ascends ids) (hn : ∀ e : Fin 320000, idN ids e.val = (ids (ix1 e)).toInt)
    (hx : ∀ (e : Fin 320000) (c : Fin 128), atN (n := 40960000) xf (e.val * 128 + c.val) = x (ix2 e c))
    (i : grid0.Coords) (r j : Fin 8) (l : S16.Idx)
    (c : Fin 128) (hc : c.val = 16 * j.val + (l 0).val) :
    blockV i xf ids wf bf r ⟨8 + j.val, by omega⟩ l = segMax x ids (8 * ((i 1).val * 2 + (i 0).val) + r.val) c := by
  rw [blockV_eq hs, rowsFold_hi, initV_hi]
  unfold segMax
  rw [fold_max_filter]
  let f : Nat → EReal := fun n => xRows xf n j l
  have e1 : ∀ e : Fin 320000, (x (ix2 e c) : EReal) = f (Fin.valEmbedding e) := fun e => by
    rw [← hx]
    show _ = atN (n := 40960000) xf (e.val * 128 + 16 * j.val + (l 0).val)
    rw [Nat.add_assoc, ← hc]
  rw [Finset.fold_congr fun e _ => e1 e]
  have h := congrArg (fun s : Finset Nat => s.fold max (⊥ : EReal) f) (rows_eq hs hn i r)
  rw [Finset.fold_map, Finset.fold_map] at h
  exact h.symm

end

end Cert.Proof.Tile
-- ==== Proof.Join.lean ====
/-
  The kernel's result is the reference's, element by element, where the segment numbers ascend and the rows, the weights
  and the bias are real numbers.
-/
module

public import proofs.«01_k».proof.Proof.Args
public import proofs.«01_k».proof.Proof.Value

@[expose] public section

noncomputable section

namespace Cert.Proof.Tile

open Cert.KernelIdeal Cert.KernelIdeal.Gen Idealize.ShloMosaic Idealize.SL.Sem Idealize.ShloMosaic.ValueIdx
open Cert.Proof.Refer (refVal)

variable (d : Dev nD) (m : (ℓ : Loc nD τ sig) → Buf (Elt Ideal) ℓ)

/-- Adjacent segment numbers in order make all of them ascend. -/
theorem ascends_of (ids : S320000.Idx → W)
    (h : ∀ p (hp : p + 1 < 320000), (ids (ix1 (⟨p, by omega⟩ : Fin 320000))).toInt ≤ (ids (ix1 (⟨p + 1, hp⟩ : Fin 320000))).toInt) : Ascends ids := by
  have h' : ∀ p, p + 1 < 320000 → idN ids p ≤ idN ids (p + 1) := fun p hp => by
    have e := h p hp
    rw [← atN_lt ids, ← atN_lt ids] at e
    exact e
  intro p q hpq
  induction q, hpq using Nat.le_induction with
  | base => exact fun _ => le_rfl
  | succ n _ ih => exact fun hq => (ih (by omega)).trans (h' n hq)

/-- What every subcore leaves, all together, is the reference's result. -/
theorem done_eq (hs : Ascends (nV d m)) (rx : ∀ i, IsReal (argX d m i)) (rw' : ∀ i, IsReal (argW d m i)) (rb : ∀ i, IsReal (argB d m i))
    (f : S256x256.Idx → Ideal .f32) (hf : ∀ c s, Done d m c s f) (y : S256x256.Idx) :
    f y = refVal (argX d m) (nV d m) (argW d m) (argB d m) (y 0).val (y 1).val := by
  have hy0 : (y 0).val < 256 := (y 0).isLt
  have hy1 : (y 1).val < 256 := (y 1).isLt
  let s : Fin 16 := ⟨(y 0).val / 16, by omega⟩
  let c : Fin 2 := ⟨(y 0).val / 8 % 2, by omega⟩
  let r : Fin 8 := ⟨(y 0).val % 8, by omega⟩
  have hg : 8 * (s.val * 2 + c.val) + r.val = (y 0).val := by
    show 8 * ((y 0).val / 16 * 2 + (y 0).val / 8 % 2) + (y 0).val % 8 = (y 0).val
    omega
  have hD := hf c s (search_inRange hs (pt c s)) (ix2 r (⟨(y 1).val, hy1⟩ : Fin 256))
  have e := off172_eq (pt c s)
  have e0 : k0_off172 (pt c s) 0 = 8 * (s.val * 2 + c.val) := congrFun e 0
  have e1 : k0_off172 (pt c s) 1 = 0 := congrFun e 1
  have hemb : (outM (pt c s)).view.emb (ix2 r (⟨(y 1).val, hy1⟩ : Fin 256)) = y := by
    funext a
    apply Fin.ext
    match a with
    | 0 =>
      show k0_off172 (pt c s) 0 + 1 * r.val = (y 0).val
      omega
    | 1 =>
      show k0_off172 (pt c s) 1 + 1 * (y 1).val = (y 1).val
      omega
  rw [hemb] at hD
  rw [hD]
  unfold refVal
  rw [← hg]
  by_cases h : (y 1).val < 128
  · rw [dif_pos h]
    exact block_lo hs (nV_at d m) (xV_at d m) (wV_at d m) (bV_at d m) rx rw' rb (pt c s) r ⟨(y 1).val / 16, by omega⟩
      (fun a => ⟨(y 1).val % 16, by rw [Fin.eq_zero a]; exact Nat.mod_lt _ (by decide)⟩) ⟨(y 1).val, h⟩
      (by show (y 1).val = 16 * ((y 1).val / 16) + (y 1).val % 16; omega)
  · rw [dif_neg h]
    have ej : (⟨(y 1).val / 16, by omega⟩ : Fin 16) = ⟨8 + ((y 1).val - 128) / 16, by omega⟩ := Fin.ext (by show (y 1).val / 16 = 8 + ((y 1).val - 128) / 16; omega)
    show blockV (pt c s) (xV d m) (nV d m) (wV d m) (bV d m) r ⟨(y 1).val / 16, by omega⟩ _ = _
    rw [ej]
    exact block_hi hs (nV_at d m) (xV_at d m) (pt c s) r ⟨((y 1).val - 128) / 16, by omega⟩
      (fun a => ⟨(y 1).val % 16, by rw [Fin.eq_zero a]; exact Nat.mod_lt _ (by decide)⟩) ⟨((y 1).val - 128) % 128, Nat.mod_lt _ (by decide)⟩
      (by show ((y 1).val - 128) % 128 = 16 * (((y 1).val - 128) / 16) + (y 1).val % 16; omega)

end Cert.Proof.Tile
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sorted_finite
public import proofs.«01_k».proof.Proof.Run
public import proofs.«01_k».proof.Proof.Pre
public import proofs.«01_k».proof.Proof.Join

@[expose] public section

noncomputable section

namespace Cert.Proof

open Idealize.ShloMosaic Idealize.SL.Sem

/-- The idealised kernel over exact reals is defined, changes no argument and leaves every semaphore at zero. -/
theorem frame_kernelIdeal : Cert.quiescent_KernelIdeal := fun m ρ _ =>
  (θ_run Cert.KernelIdeal.defs _ _).mono (fun _ h => ⟨fun c => (h.1 c).1, h.2⟩) (Tile.run_main (F := Ideal) m ρ)

/-- The printed kernel over machine floats is defined, changes no argument and leaves every semaphore at zero. -/
theorem frame_kernel : Cert.quiescent_Kernel := fun m ρ _ =>
  (θ_run Cert.KernelIdeal.defs _ _).mono (fun _ h => ⟨fun c => (h.1 c).1, h.2⟩) (Tile.run_main (F := Bits) m ρ)

/-- The reference over exact reals is defined and changes no argument; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On sorted segment numbers and finite floats the kernel and the reference end with the same result over exact reals, and
    neither changes an argument. -/
theorem values : Cert.algebraic_KernelIdeal_ReferenceIdeal_pre_sorted_finite := by
  intro m ρ m' ρ' hpre hargs
  refine ⟨fun c y => Refer.refVal (Tile.argX c m) (Tile.nV c m) (Tile.argW c m) (Tile.argB c m) (y 0).val (y 1).val, ?_, ?_⟩
  · refine (θ_run Cert.KernelIdeal.defs _ _).mono (fun r h c => ⟨?_, (h.1 c).1⟩) (Tile.run_main (F := Ideal) m ρ)
    obtain ⟨hs, rx, rw', rb⟩ := Pre.decode _ _ _ _ (hpre c)
    funext y
    exact Tile.done_eq c m (Tile.ascends_of _ hs) rx rw' rb _ (h.1 c).2 y
  · refine (θ_run Cert.ReferenceIdeal.defs _ _).mono (fun r h c => ⟨(h c).1.trans ?_, (h c).2⟩) (Cert.ReferenceIdeal.Value.run (F := Ideal) m' ρ')
    obtain ⟨h0, h1, h2, h3⟩ := hargs c
    rw [h0, h1, h2, h3]
    funext y
    exact Refer.ref_apply (Tile.argX c m) (Tile.nV c m) (Tile.argW c m) (Tile.argB c m) y

theorem claim : Cert.Claim := ⟨Cert.Kernel.Gen.facts, Cert.KernelIdeal.Gen.facts, Cert.ReferenceIdeal.Gen.facts, Cert.Pre_sorted_finite.Gen.facts,
  frame_kernel, frame_kernelIdeal, fun m ρ _ => frame_kernelIdeal m ρ trivial, frame_reference, fun m ρ _ => frame_reference m ρ trivial, trivial, values⟩

end Cert.Proof

end
